-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1000000 : Shape := ⟨2, ![1, 1000000]⟩
abbrev S1000000 : Shape := ⟨1, ![1000000]⟩
abbrev S_ : Shape := ⟨0, ![]⟩
abbrev S1 : Shape := ⟨1, ![1]⟩
abbrev S2 : Shape := ⟨1, ![2]⟩
abbrev S1x1 : Shape := ⟨2, ![1, 1]⟩
abbrev S32x64 : Shape := ⟨2, ![32, 64]⟩
abbrev S31312 : Shape := ⟨1, ![31312]⟩
abbrev S64 : Shape := ⟨1, ![64]⟩
abbrev S16 : Shape := ⟨1, ![16]⟩
abbrev S1x64 : Shape := ⟨2, ![1, 64]⟩
abbrev S64x15625 : Shape := ⟨2, ![64, 15625]⟩
abbrev S32x16 : Shape := ⟨2, ![32, 16]⟩
abbrev S1x32x16 : Shape := ⟨3, ![1, 32, 16]⟩
abbrev S1x1x1 : Shape := ⟨3, ![1, 1, 1]⟩

abbrev nBuf : Table → Nat
  | .hbm => 284
  | .local .tc .vmem => 3
  | .local .scVector .vmem => 3
  | _ => 0

abbrev hbmTy0_0 (i : Nat) : BufTy := match i % 128 with
  | 0 => ⟨S1x1000000, .f32⟩
  | 1 => ⟨S1000000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S1x1000000, .i64⟩
  | 22 => ⟨S1x1000000, .i64⟩
  | 23 => ⟨S_, .i64⟩
  | 24 => ⟨S1x1000000, .i64⟩
  | 25 => ⟨S1x1000000, .i64⟩
  | 26 => ⟨S_, .i64⟩
  | 27 => ⟨S1x1000000, .i64⟩
  | 28 => ⟨S1x1000000, .i64⟩
  | 29 => ⟨S1x1000000, .i64⟩
  | 30 => ⟨S_, .i64⟩
  | 31 => ⟨S1x1000000, .i64⟩
  | 32 => ⟨S1x1000000, .i64⟩
  | 33 => ⟨S1x1000000, .i32⟩
  | 34 => ⟨S1x1000000, .i32⟩
  | 35 => ⟨S_, .i32⟩
  | 36 => ⟨S_, .i32⟩
  | 37 => ⟨S_, .i32⟩
  | 38 => ⟨S1x1000000, .i32⟩
  | 39 => ⟨S1x1000000, .i32⟩
  | 40 => ⟨S1x1000000, .i32⟩
  | 41 => ⟨S1x1000000, .i32⟩
  | 42 => ⟨S1x1000000, .i32⟩
  | 43 => ⟨S_, .i32⟩
  | 44 => ⟨S1x1000000, .i32⟩
  | 45 => ⟨S1x1000000, .i32⟩
  | 46 => ⟨S_, .i32⟩
  | 47 => ⟨S1x1000000, .i32⟩
  | 48 => ⟨S1x1000000, .i32⟩
  | 49 => ⟨S1x1000000, .i32⟩
  | 50 => ⟨S1x1000000, .i32⟩
  | 51 => ⟨S1x1000000, .i32⟩
  | 52 => ⟨S_, .i32⟩
  | 53 => ⟨S1x1000000, .i32⟩
  | 54 => ⟨S1x1000000, .i32⟩
  | 55 => ⟨S_, .i32⟩
  | 56 => ⟨S1x1000000, .i32⟩
  | 57 => ⟨S1x1000000, .i32⟩
  | 58 => ⟨S1x1000000, .i32⟩
  | 59 => ⟨S1x1000000, .i32⟩
  | 60 => ⟨S1x1000000, .i32⟩
  | 61 => ⟨S_, .i32⟩
  | 62 => ⟨S1x1000000, .i32⟩
  | 63 => ⟨S1x1000000, .i32⟩
  | 64 => ⟨S_, .i32⟩
  | 65 => ⟨S1x1000000, .i32⟩
  | 66 => ⟨S1x1000000, .i32⟩
  | 67 => ⟨S1x1000000, .i32⟩
  | 68 => ⟨S1x1000000, .i32⟩
  | 69 => ⟨S1x1000000, .i32⟩
  | 70 => ⟨S_, .i32⟩
  | 71 => ⟨S1x1000000, .i32⟩
  | 72 => ⟨S1x1000000, .i32⟩
  | 73 => ⟨S_, .i32⟩
  | 74 => ⟨S1x1000000, .i32⟩
  | 75 => ⟨S1x1000000, .i32⟩
  | 76 => ⟨S1x1000000, .i32⟩
  | 77 => ⟨S1x1000000, .i32⟩
  | 78 => ⟨S1x1000000, .i32⟩
  | 79 => ⟨S1x1000000, .i32⟩
  | 80 => ⟨S1x1000000, .i32⟩
  | 81 => ⟨S1x1000000, .i32⟩
  | 82 => ⟨S_, .i32⟩
  | 83 => ⟨S1x1000000, .i32⟩
  | 84 => ⟨S1x1000000, .i32⟩
  | 85 => ⟨S1x1000000, .i32⟩
  | 86 => ⟨S_, .i32⟩
  | 87 => ⟨S1x1000000, .i32⟩
  | 88 => ⟨S1x1000000, .i32⟩
  | 89 => ⟨S_, .i32⟩
  | 90 => ⟨S1x1000000, .i32⟩
  | 91 => ⟨S1x1000000, .i32⟩
  | 92 => ⟨S1x1000000, .i32⟩
  | 93 => ⟨S1x1000000, .i32⟩
  | 94 => ⟨S1x1000000, .i32⟩
  | 95 => ⟨S_, .i32⟩
  | 96 => ⟨S1x1000000, .i32⟩
  | 97 => ⟨S1x1000000, .i32⟩
  | 98 => ⟨S_, .i32⟩
  | 99 => ⟨S1x1000000, .i32⟩
  | 100 => ⟨S1x1000000, .i32⟩
  | 101 => ⟨S1x1000000, .i32⟩
  | 102 => ⟨S1x1000000, .i32⟩
  | 103 => ⟨S1x1000000, .i32⟩
  | 104 => ⟨S_, .i32⟩
  | 105 => ⟨S1x1000000, .i32⟩
  | 106 => ⟨S1x1000000, .i32⟩
  | 107 => ⟨S_, .i32⟩
  | 108 => ⟨S1x1000000, .i32⟩
  | 109 => ⟨S1x1000000, .i32⟩
  | 110 => ⟨S1x1000000, .i32⟩
  | 111 => ⟨S1x1000000, .i32⟩
  | 112 => ⟨S1x1000000, .i32⟩
  | 113 => ⟨S_, .i32⟩
  | 114 => ⟨S1x1000000, .i32⟩
  | 115 => ⟨S1x1000000, .i32⟩
  | 116 => ⟨S_, .i32⟩
  | 117 => ⟨S1x1000000, .i32⟩
  | 118 => ⟨S1x1000000, .i32⟩
  | 119 => ⟨S1x1000000, .i32⟩
  | 120 => ⟨S1x1000000, .i32⟩
  | 121 => ⟨S1x1000000, .i32⟩
  | 122 => ⟨S1x1000000, .i32⟩
  | 123 => ⟨S1x1000000, .i32⟩
  | 124 => ⟨S1x1000000, .i32⟩
  | 125 => ⟨S_, .i32⟩
  | 126 => ⟨S1x1000000, .i32⟩
  | 127 => ⟨S1x1000000, .i32⟩
  | _ => ⟨S1x1000000, .f32⟩

abbrev hbmTy0_1 (i : Nat) : BufTy := match i % 128 with
  | 0 => ⟨S1x1000000, .i32⟩
  | 1 => ⟨S_, .i32⟩
  | 2 => ⟨S1x1000000, .i32⟩
  | 3 => ⟨S1x1000000, .i32⟩
  | 4 => ⟨S_, .i32⟩
  | 5 => ⟨S1x1000000, .i32⟩
  | 6 => ⟨S1x1000000, .i32⟩
  | 7 => ⟨S1x1000000, .i32⟩
  | 8 => ⟨S1x1000000, .i32⟩
  | 9 => ⟨S1x1000000, .i32⟩
  | 10 => ⟨S_, .i32⟩
  | 11 => ⟨S1x1000000, .i32⟩
  | 12 => ⟨S1x1000000, .i32⟩
  | 13 => ⟨S_, .i32⟩
  | 14 => ⟨S1x1000000, .i32⟩
  | 15 => ⟨S1x1000000, .i32⟩
  | 16 => ⟨S1x1000000, .i32⟩
  | 17 => ⟨S1x1000000, .i32⟩
  | 18 => ⟨S1x1000000, .i32⟩
  | 19 => ⟨S_, .i32⟩
  | 20 => ⟨S1x1000000, .i32⟩
  | 21 => ⟨S1x1000000, .i32⟩
  | 22 => ⟨S_, .i32⟩
  | 23 => ⟨S1x1000000, .i32⟩
  | 24 => ⟨S1x1000000, .i32⟩
  | 25 => ⟨S1x1000000, .i32⟩
  | 26 => ⟨S1x1000000, .i32⟩
  | 27 => ⟨S1x1000000, .i32⟩
  | 28 => ⟨S_, .i32⟩
  | 29 => ⟨S1x1000000, .i32⟩
  | 30 => ⟨S1x1000000, .i32⟩
  | 31 => ⟨S_, .i32⟩
  | 32 => ⟨S1x1000000, .i32⟩
  | 33 => ⟨S1x1000000, .i32⟩
  | 34 => ⟨S1x1000000, .i32⟩
  | 35 => ⟨S1x1000000, .i32⟩
  | 36 => ⟨S1x1000000, .i32⟩
  | 37 => ⟨S1x1000000, .i32⟩
  | 38 => ⟨S1x1000000, .i32⟩
  | 39 => ⟨S1x1000000, .i32⟩
  | 40 => ⟨S_, .i32⟩
  | 41 => ⟨S1x1000000, .i32⟩
  | 42 => ⟨S1x1000000, .i32⟩
  | 43 => ⟨S1x1000000, .i32⟩
  | 44 => ⟨S_, .i32⟩
  | 45 => ⟨S1x1000000, .i32⟩
  | 46 => ⟨S1x1000000, .i32⟩
  | 47 => ⟨S_, .i32⟩
  | 48 => ⟨S1x1000000, .i32⟩
  | 49 => ⟨S1x1000000, .i32⟩
  | 50 => ⟨S1x1000000, .i32⟩
  | 51 => ⟨S1x1000000, .i32⟩
  | 52 => ⟨S1x1000000, .i32⟩
  | 53 => ⟨S_, .i32⟩
  | 54 => ⟨S1x1000000, .i32⟩
  | 55 => ⟨S1x1000000, .i32⟩
  | 56 => ⟨S_, .i32⟩
  | 57 => ⟨S1x1000000, .i32⟩
  | 58 => ⟨S1x1000000, .i32⟩
  | 59 => ⟨S1x1000000, .i32⟩
  | 60 => ⟨S1x1000000, .i32⟩
  | 61 => ⟨S1x1000000, .i32⟩
  | 62 => ⟨S_, .i32⟩
  | 63 => ⟨S1x1000000, .i32⟩
  | 64 => ⟨S1x1000000, .i32⟩
  | 65 => ⟨S_, .i32⟩
  | 66 => ⟨S1x1000000, .i32⟩
  | 67 => ⟨S1x1000000, .i32⟩
  | 68 => ⟨S1x1000000, .i32⟩
  | 69 => ⟨S1x1000000, .i32⟩
  | 70 => ⟨S1x1000000, .i32⟩
  | 71 => ⟨S_, .i32⟩
  | 72 => ⟨S1x1000000, .i32⟩
  | 73 => ⟨S1x1000000, .i32⟩
  | 74 => ⟨S_, .i32⟩
  | 75 => ⟨S1x1000000, .i32⟩
  | 76 => ⟨S1x1000000, .i32⟩
  | 77 => ⟨S1x1000000, .i32⟩
  | 78 => ⟨S1x1000000, .i32⟩
  | 79 => ⟨S1x1000000, .i32⟩
  | 80 => ⟨S1x1000000, .i32⟩
  | 81 => ⟨S1x1000000, .i32⟩
  | 82 => ⟨S1x1000000, .i32⟩
  | 83 => ⟨S_, .i32⟩
  | 84 => ⟨S1x1000000, .i32⟩
  | 85 => ⟨S1x1000000, .i32⟩
  | 86 => ⟨S1x1000000, .i32⟩
  | 87 => ⟨S_, .i32⟩
  | 88 => ⟨S1x1000000, .i32⟩
  | 89 => ⟨S1x1000000, .i32⟩
  | 90 => ⟨S_, .i32⟩
  | 91 => ⟨S1x1000000, .i32⟩
  | 92 => ⟨S1x1000000, .i32⟩
  | 93 => ⟨S1x1000000, .i32⟩
  | 94 => ⟨S1x1000000, .i32⟩
  | 95 => ⟨S1x1000000, .i32⟩
  | 96 => ⟨S_, .i32⟩
  | 97 => ⟨S1x1000000, .i32⟩
  | 98 => ⟨S1x1000000, .i32⟩
  | 99 => ⟨S_, .i32⟩
  | 100 => ⟨S1x1000000, .i32⟩
  | 101 => ⟨S1x1000000, .i32⟩
  | 102 => ⟨S1x1000000, .i32⟩
  | 103 => ⟨S1x1000000, .i32⟩
  | 104 => ⟨S1x1000000, .i32⟩
  | 105 => ⟨S_, .i32⟩
  | 106 => ⟨S1x1000000, .i32⟩
  | 107 => ⟨S1x1000000, .i32⟩
  | 108 => ⟨S_, .i32⟩
  | 109 => ⟨S1x1000000, .i32⟩
  | 110 => ⟨S1x1000000, .i32⟩
  | 111 => ⟨S1x1000000, .i32⟩
  | 112 => ⟨S1x1000000, .i32⟩
  | 113 => ⟨S1x1000000, .i32⟩
  | 114 => ⟨S_, .i32⟩
  | 115 => ⟨S1x1000000, .i32⟩
  | 116 => ⟨S1x1000000, .i32⟩
  | 117 => ⟨S_, .i32⟩
  | 118 => ⟨S1x1000000, .i32⟩
  | 119 => ⟨S1x1000000, .i32⟩
  | 120 => ⟨S1x1000000, .i32⟩
  | 121 => ⟨S1x1000000, .i32⟩
  | 122 => ⟨S1x1000000, .i32⟩
  | 123 => ⟨S1x1000000, .i32⟩
  | 124 => ⟨S1x1000000, .i32⟩
  | 125 => ⟨S1x1000000, .i32⟩
  | 126 => ⟨S_, .i32⟩
  | 127 => ⟨S1x1000000, .i32⟩
  | _ => ⟨S1x1000000, .f32⟩

abbrev hbmTy0_2 (i : Nat) : BufTy := match i % 128 with
  | 0 => ⟨S1x1000000, .i32⟩
  | 1 => ⟨S1x1000000, .i32⟩
  | 2 => ⟨S_, .i32⟩
  | 3 => ⟨S1x1000000, .i32⟩
  | 4 => ⟨S1x1000000, .i32⟩
  | 5 => ⟨S_, .i32⟩
  | 6 => ⟨S1x1000000, .i32⟩
  | 7 => ⟨S1x1000000, .i32⟩
  | 8 => ⟨S1x1000000, .f32⟩
  | 9 => ⟨S_, .f32⟩
  | 10 => ⟨S1x1000000, .f32⟩
  | 11 => ⟨S1x1000000, .f32⟩
  | 12 => ⟨S1x1, .f32⟩
  | 13 => ⟨S1x1000000, .f32⟩
  | 14 => ⟨S1x1000000, .f32⟩
  | 15 => ⟨S1x1000000, .f32⟩
  | 16 => ⟨S1x1000000, .f32⟩
  | 17 => ⟨S1x1000000, .f32⟩
  | 18 => ⟨S1x1000000, .f32⟩
  | 19 => ⟨S1x1000000, .f32⟩
  | 20 => ⟨S1x1000000, .f32⟩
  | 21 => ⟨S1x1000000, .f32⟩
  | 22 => ⟨S1x1000000, .f32⟩
  | 23 => ⟨S1000000, .f32⟩
  | 24 => ⟨S32x64, .f32⟩
  | 25 => ⟨S64x15625, .f32⟩
  | 26 => ⟨S64x15625, .f32⟩
  | 27 => ⟨S1x1000000, .f32⟩
  | _ => ⟨S1x1000000, .f32⟩

abbrev hbmTy (i : Nat) : BufTy := match i / 128 with
  | 0 => hbmTy0_0 i
  | 1 => hbmTy0_1 i
  | 2 => hbmTy0_2 i
  | _ => ⟨S1x1000000, .f32⟩

abbrev bufTy : (tb : Table) → Fin (nBuf tb) → BufTy
  | .hbm, ⟨i, _⟩ => hbmTy i
  | .local .tc .vmem, ⟨0, _⟩ => ⟨S32x64, .f32⟩
  | .local .tc .vmem, ⟨1, _⟩ => ⟨S64x15625, .f32⟩
  | .local .tc .vmem, ⟨2, _⟩ => ⟨S64x15625, .f32⟩
  | .local .scVector .vmem, ⟨0, _⟩ => ⟨S31312, .f32⟩
  | .local .scVector .vmem, ⟨1, _⟩ => ⟨S31312, .f32⟩
  | .local .scVector .vmem, ⟨2, _⟩ => ⟨S64, .f32⟩
  | _, _ => ⟨S1x1000000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_c_1 : Ref sig .tc := ⟨.hbm, 30, rfl⟩
abbrev main_call0_call0_v14 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v18_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v18_1 : Ref sig .tc := ⟨.hbm, 256, rfl⟩
abbrev main_call0_call0_v19 : Ref sig .tc := ⟨.hbm, 257, rfl⟩
abbrev main_call0_call0_c_2 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_c_3 : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_cst : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_call0_v3 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_v12 : Ref sig .tc := ⟨.hbm, 282, rfl⟩
abbrev main_v13 : Ref sig .tc := ⟨.hbm, 283, rfl⟩
abbrev main_v0_scv : Ref sig .scVector := ⟨.hbm, 1, rfl⟩
abbrev main_v9_scv : Ref sig .scVector := ⟨.hbm, 279, rfl⟩
abbrev main_v10_scv : Ref sig .scVector := ⟨.hbm, 280, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v2 : BitVec 32 := Scalar.muli v1 c31248_i32
  ![v2.toNat]
@[reducible] def k0_t1_loop : Scf.Loop 32 :=
  let c0_i32 : BitVec 32 := 0#32
  let c651_i32 : BitVec 32 := 651#32
  let v7 : BitVec 32 := Scalar.addi c0_i32 c651_i32
  let c1_i32 : BitVec 32 := 1#32
  ⟨c0_i32, v7, c1_i32⟩
def k0_off2 (k0_t1 : Fin k0_t1_loop.trips) (c0_i32_6 : BitVec 32) : Fin 1 → Nat :=
  let c0_i32_5 : BitVec 32 := 0#32
  let c0_i32 : BitVec 32 := 0#32
  let c1_i32 : BitVec 32 := 1#32
  let arg8 : BitVec 32 := Scf.iv c0_i32 c1_i32 k0_t1
  let c3_i32 : BitVec 32 := 3#32
  let v33 : BitVec 32 := Scalar.muli arg8 c3_i32
  let v34 : BitVec 32 := Scalar.addi c0_i32_5 v33
  let v35 : BitVec 32 := Scalar.addi v34 c0_i32_6
  let c16_i32 : BitVec 32 := 16#32
  let v36 : BitVec 32 := Scalar.muli v35 c16_i32
  let v37 : Index := Scalar.indexCast v36
  ![v37.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r2 : BitVec 32 := 0#32
  ![v1.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S32x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x15625 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S64x15625 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x1000000 : Shape := ⟨2, ![1, 1000000]⟩
abbrev S_ : Shape := ⟨0, ![]⟩
abbrev S1 : Shape := ⟨1, ![1]⟩
abbrev S1x1 : Shape := ⟨2, ![1, 1]⟩
abbrev S2 : Shape := ⟨1, ![2]⟩

abbrev nBuf : Space → Nat
  | .hbm => 333
  | .vmem => 0
  | .smem => 0
  | _ => 0

abbrev hbmTy0_0 (i : Nat) : BufTy := match i % 128 with
  | 0 => ⟨S1x1000000, .f32⟩
  | 1 => ⟨S_, .f32⟩
  | 2 => ⟨S1, .f32⟩
  | 3 => ⟨S1x1, .f32⟩
  | 4 => ⟨S1x1, .f32⟩
  | 5 => ⟨S_, .f32⟩
  | 6 => ⟨S1x1, .f32⟩
  | 7 => ⟨S1x1, .i1⟩
  | 8 => ⟨S_, .f32⟩
  | 9 => ⟨S_, .f32⟩
  | 10 => ⟨S1x1, .f32⟩
  | 11 => ⟨S1x1, .f32⟩
  | 12 => ⟨S1x1000000, .f32⟩
  | 13 => ⟨S1x1000000, .f32⟩
  | 14 => ⟨S1x1000000, .f32⟩
  | 15 => ⟨S_, .f32⟩
  | 16 => ⟨S1, .f32⟩
  | 17 => ⟨S1x1, .f32⟩
  | 18 => ⟨S1x1, .f32⟩
  | 19 => ⟨S1x1, .f32⟩
  | 20 => ⟨S1x1000000, .f32⟩
  | 21 => ⟨S1x1000000, .f32⟩
  | 22 => ⟨S1x1000000, .f32⟩
  | 23 => ⟨S_, .i32⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S1, .i32⟩
  | 32 => ⟨S2, .i32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S1x1000000, .i64⟩
  | 43 => ⟨S1x1000000, .i64⟩
  | 44 => ⟨S_, .i64⟩
  | 45 => ⟨S1x1000000, .i64⟩
  | 46 => ⟨S1x1000000, .i64⟩
  | 47 => ⟨S_, .i64⟩
  | 48 => ⟨S1x1000000, .i64⟩
  | 49 => ⟨S1x1000000, .i64⟩
  | 50 => ⟨S1x1000000, .i64⟩
  | 51 => ⟨S_, .i64⟩
  | 52 => ⟨S1x1000000, .i64⟩
  | 53 => ⟨S1x1000000, .i64⟩
  | 54 => ⟨S1x1000000, .i32⟩
  | 55 => ⟨S1x1000000, .i32⟩
  | 56 => ⟨S_, .i32⟩
  | 57 => ⟨S_, .i32⟩
  | 58 => ⟨S_, .i32⟩
  | 59 => ⟨S1x1000000, .i32⟩
  | 60 => ⟨S1x1000000, .i32⟩
  | 61 => ⟨S1x1000000, .i32⟩
  | 62 => ⟨S1x1000000, .i32⟩
  | 63 => ⟨S1x1000000, .i32⟩
  | 64 => ⟨S_, .i32⟩
  | 65 => ⟨S1x1000000, .i32⟩
  | 66 => ⟨S1x1000000, .i32⟩
  | 67 => ⟨S_, .i32⟩
  | 68 => ⟨S1x1000000, .i32⟩
  | 69 => ⟨S1x1000000, .i32⟩
  | 70 => ⟨S1x1000000, .i32⟩
  | 71 => ⟨S1x1000000, .i32⟩
  | 72 => ⟨S1x1000000, .i32⟩
  | 73 => ⟨S_, .i32⟩
  | 74 => ⟨S1x1000000, .i32⟩
  | 75 => ⟨S1x1000000, .i32⟩
  | 76 => ⟨S_, .i32⟩
  | 77 => ⟨S1x1000000, .i32⟩
  | 78 => ⟨S1x1000000, .i32⟩
  | 79 => ⟨S1x1000000, .i32⟩
  | 80 => ⟨S1x1000000, .i32⟩
  | 81 => ⟨S1x1000000, .i32⟩
  | 82 => ⟨S_, .i32⟩
  | 83 => ⟨S1x1000000, .i32⟩
  | 84 => ⟨S1x1000000, .i32⟩
  | 85 => ⟨S_, .i32⟩
  | 86 => ⟨S1x1000000, .i32⟩
  | 87 => ⟨S1x1000000, .i32⟩
  | 88 => ⟨S1x1000000, .i32⟩
  | 89 => ⟨S1x1000000, .i32⟩
  | 90 => ⟨S1x1000000, .i32⟩
  | 91 => ⟨S_, .i32⟩
  | 92 => ⟨S1x1000000, .i32⟩
  | 93 => ⟨S1x1000000, .i32⟩
  | 94 => ⟨S_, .i32⟩
  | 95 => ⟨S1x1000000, .i32⟩
  | 96 => ⟨S1x1000000, .i32⟩
  | 97 => ⟨S1x1000000, .i32⟩
  | 98 => ⟨S1x1000000, .i32⟩
  | 99 => ⟨S1x1000000, .i32⟩
  | 100 => ⟨S1x1000000, .i32⟩
  | 101 => ⟨S1x1000000, .i32⟩
  | 102 => ⟨S1x1000000, .i32⟩
  | 103 => ⟨S_, .i32⟩
  | 104 => ⟨S1x1000000, .i32⟩
  | 105 => ⟨S1x1000000, .i32⟩
  | 106 => ⟨S1x1000000, .i32⟩
  | 107 => ⟨S_, .i32⟩
  | 108 => ⟨S1x1000000, .i32⟩
  | 109 => ⟨S1x1000000, .i32⟩
  | 110 => ⟨S_, .i32⟩
  | 111 => ⟨S1x1000000, .i32⟩
  | 112 => ⟨S1x1000000, .i32⟩
  | 113 => ⟨S1x1000000, .i32⟩
  | 114 => ⟨S1x1000000, .i32⟩
  | 115 => ⟨S1x1000000, .i32⟩
  | 116 => ⟨S_, .i32⟩
  | 117 => ⟨S1x1000000, .i32⟩
  | 118 => ⟨S1x1000000, .i32⟩
  | 119 => ⟨S_, .i32⟩
  | 120 => ⟨S1x1000000, .i32⟩
  | 121 => ⟨S1x1000000, .i32⟩
  | 122 => ⟨S1x1000000, .i32⟩
  | 123 => ⟨S1x1000000, .i32⟩
  | 124 => ⟨S1x1000000, .i32⟩
  | 125 => ⟨S_, .i32⟩
  | 126 => ⟨S1x1000000, .i32⟩
  | 127 => ⟨S1x1000000, .i32⟩
  | _ => ⟨S1x1000000, .f32⟩

abbrev hbmTy0_1 (i : Nat) : BufTy := match i % 128 with
  | 0 => ⟨S_, .i32⟩
  | 1 => ⟨S1x1000000, .i32⟩
  | 2 => ⟨S1x1000000, .i32⟩
  | 3 => ⟨S1x1000000, .i32⟩
  | 4 => ⟨S1x1000000, .i32⟩
  | 5 => ⟨S1x1000000, .i32⟩
  | 6 => ⟨S_, .i32⟩
  | 7 => ⟨S1x1000000, .i32⟩
  | 8 => ⟨S1x1000000, .i32⟩
  | 9 => ⟨S_, .i32⟩
  | 10 => ⟨S1x1000000, .i32⟩
  | 11 => ⟨S1x1000000, .i32⟩
  | 12 => ⟨S1x1000000, .i32⟩
  | 13 => ⟨S1x1000000, .i32⟩
  | 14 => ⟨S1x1000000, .i32⟩
  | 15 => ⟨S1x1000000, .i32⟩
  | 16 => ⟨S1x1000000, .i32⟩
  | 17 => ⟨S1x1000000, .i32⟩
  | 18 => ⟨S_, .i32⟩
  | 19 => ⟨S1x1000000, .i32⟩
  | 20 => ⟨S1x1000000, .i32⟩
  | 21 => ⟨S1x1000000, .i32⟩
  | 22 => ⟨S_, .i32⟩
  | 23 => ⟨S1x1000000, .i32⟩
  | 24 => ⟨S1x1000000, .i32⟩
  | 25 => ⟨S_, .i32⟩
  | 26 => ⟨S1x1000000, .i32⟩
  | 27 => ⟨S1x1000000, .i32⟩
  | 28 => ⟨S1x1000000, .i32⟩
  | 29 => ⟨S1x1000000, .i32⟩
  | 30 => ⟨S1x1000000, .i32⟩
  | 31 => ⟨S_, .i32⟩
  | 32 => ⟨S1x1000000, .i32⟩
  | 33 => ⟨S1x1000000, .i32⟩
  | 34 => ⟨S_, .i32⟩
  | 35 => ⟨S1x1000000, .i32⟩
  | 36 => ⟨S1x1000000, .i32⟩
  | 37 => ⟨S1x1000000, .i32⟩
  | 38 => ⟨S1x1000000, .i32⟩
  | 39 => ⟨S1x1000000, .i32⟩
  | 40 => ⟨S_, .i32⟩
  | 41 => ⟨S1x1000000, .i32⟩
  | 42 => ⟨S1x1000000, .i32⟩
  | 43 => ⟨S_, .i32⟩
  | 44 => ⟨S1x1000000, .i32⟩
  | 45 => ⟨S1x1000000, .i32⟩
  | 46 => ⟨S1x1000000, .i32⟩
  | 47 => ⟨S1x1000000, .i32⟩
  | 48 => ⟨S1x1000000, .i32⟩
  | 49 => ⟨S_, .i32⟩
  | 50 => ⟨S1x1000000, .i32⟩
  | 51 => ⟨S1x1000000, .i32⟩
  | 52 => ⟨S_, .i32⟩
  | 53 => ⟨S1x1000000, .i32⟩
  | 54 => ⟨S1x1000000, .i32⟩
  | 55 => ⟨S1x1000000, .i32⟩
  | 56 => ⟨S1x1000000, .i32⟩
  | 57 => ⟨S1x1000000, .i32⟩
  | 58 => ⟨S1x1000000, .i32⟩
  | 59 => ⟨S1x1000000, .i32⟩
  | 60 => ⟨S1x1000000, .i32⟩
  | 61 => ⟨S_, .i32⟩
  | 62 => ⟨S1x1000000, .i32⟩
  | 63 => ⟨S1x1000000, .i32⟩
  | 64 => ⟨S1x1000000, .i32⟩
  | 65 => ⟨S_, .i32⟩
  | 66 => ⟨S1x1000000, .i32⟩
  | 67 => ⟨S1x1000000, .i32⟩
  | 68 => ⟨S_, .i32⟩
  | 69 => ⟨S1x1000000, .i32⟩
  | 70 => ⟨S1x1000000, .i32⟩
  | 71 => ⟨S1x1000000, .i32⟩
  | 72 => ⟨S1x1000000, .i32⟩
  | 73 => ⟨S1x1000000, .i32⟩
  | 74 => ⟨S_, .i32⟩
  | 75 => ⟨S1x1000000, .i32⟩
  | 76 => ⟨S1x1000000, .i32⟩
  | 77 => ⟨S_, .i32⟩
  | 78 => ⟨S1x1000000, .i32⟩
  | 79 => ⟨S1x1000000, .i32⟩
  | 80 => ⟨S1x1000000, .i32⟩
  | 81 => ⟨S1x1000000, .i32⟩
  | 82 => ⟨S1x1000000, .i32⟩
  | 83 => ⟨S_, .i32⟩
  | 84 => ⟨S1x1000000, .i32⟩
  | 85 => ⟨S1x1000000, .i32⟩
  | 86 => ⟨S_, .i32⟩
  | 87 => ⟨S1x1000000, .i32⟩
  | 88 => ⟨S1x1000000, .i32⟩
  | 89 => ⟨S1x1000000, .i32⟩
  | 90 => ⟨S1x1000000, .i32⟩
  | 91 => ⟨S1x1000000, .i32⟩
  | 92 => ⟨S_, .i32⟩
  | 93 => ⟨S1x1000000, .i32⟩
  | 94 => ⟨S1x1000000, .i32⟩
  | 95 => ⟨S_, .i32⟩
  | 96 => ⟨S1x1000000, .i32⟩
  | 97 => ⟨S1x1000000, .i32⟩
  | 98 => ⟨S1x1000000, .i32⟩
  | 99 => ⟨S1x1000000, .i32⟩
  | 100 => ⟨S1x1000000, .i32⟩
  | 101 => ⟨S1x1000000, .i32⟩
  | 102 => ⟨S1x1000000, .i32⟩
  | 103 => ⟨S1x1000000, .i32⟩
  | 104 => ⟨S_, .i32⟩
  | 105 => ⟨S1x1000000, .i32⟩
  | 106 => ⟨S1x1000000, .i32⟩
  | 107 => ⟨S1x1000000, .i32⟩
  | 108 => ⟨S_, .i32⟩
  | 109 => ⟨S1x1000000, .i32⟩
  | 110 => ⟨S1x1000000, .i32⟩
  | 111 => ⟨S_, .i32⟩
  | 112 => ⟨S1x1000000, .i32⟩
  | 113 => ⟨S1x1000000, .i32⟩
  | 114 => ⟨S1x1000000, .i32⟩
  | 115 => ⟨S1x1000000, .i32⟩
  | 116 => ⟨S1x1000000, .i32⟩
  | 117 => ⟨S_, .i32⟩
  | 118 => ⟨S1x1000000, .i32⟩
  | 119 => ⟨S1x1000000, .i32⟩
  | 120 => ⟨S_, .i32⟩
  | 121 => ⟨S1x1000000, .i32⟩
  | 122 => ⟨S1x1000000, .i32⟩
  | 123 => ⟨S1x1000000, .i32⟩
  | 124 => ⟨S1x1000000, .i32⟩
  | 125 => ⟨S1x1000000, .i32⟩
  | 126 => ⟨S_, .i32⟩
  | 127 => ⟨S1x1000000, .i32⟩
  | _ => ⟨S1x1000000, .f32⟩

abbrev hbmTy0_2 (i : Nat) : BufTy := match i % 128 with
  | 0 => ⟨S1x1000000, .i32⟩
  | 1 => ⟨S_, .i32⟩
  | 2 => ⟨S1x1000000, .i32⟩
  | 3 => ⟨S1x1000000, .i32⟩
  | 4 => ⟨S1x1000000, .i32⟩
  | 5 => ⟨S1x1000000, .i32⟩
  | 6 => ⟨S1x1000000, .i32⟩
  | 7 => ⟨S_, .i32⟩
  | 8 => ⟨S1x1000000, .i32⟩
  | 9 => ⟨S1x1000000, .i32⟩
  | 10 => ⟨S_, .i32⟩
  | 11 => ⟨S1x1000000, .i32⟩
  | 12 => ⟨S1x1000000, .i32⟩
  | 13 => ⟨S1x1000000, .i32⟩
  | 14 => ⟨S1x1000000, .i32⟩
  | 15 => ⟨S1x1000000, .i32⟩
  | 16 => ⟨S1x1000000, .i32⟩
  | 17 => ⟨S1x1000000, .i32⟩
  | 18 => ⟨S1x1000000, .i32⟩
  | 19 => ⟨S_, .i32⟩
  | 20 => ⟨S1x1000000, .i32⟩
  | 21 => ⟨S1x1000000, .i32⟩
  | 22 => ⟨S1x1000000, .i32⟩
  | 23 => ⟨S_, .i32⟩
  | 24 => ⟨S1x1000000, .i32⟩
  | 25 => ⟨S1x1000000, .i32⟩
  | 26 => ⟨S_, .i32⟩
  | 27 => ⟨S1x1000000, .i32⟩
  | 28 => ⟨S1x1000000, .i32⟩
  | 29 => ⟨S1x1000000, .f32⟩
  | 30 => ⟨S_, .f32⟩
  | 31 => ⟨S1x1000000, .f32⟩
  | 32 => ⟨S1x1000000, .f32⟩
  | 33 => ⟨S1x1, .f32⟩
  | 34 => ⟨S1x1000000, .f32⟩
  | 35 => ⟨S1x1000000, .f32⟩
  | 36 => ⟨S1x1000000, .f32⟩
  | 37 => ⟨S1x1000000, .f32⟩
  | 38 => ⟨S1x1000000, .f32⟩
  | 39 => ⟨S1x1000000, .f32⟩
  | 40 => ⟨S1x1000000, .f32⟩
  | 41 => ⟨S1x1000000, .f32⟩
  | 42 => ⟨S1x1000000, .f32⟩
  | 43 => ⟨S1x1000000, .f32⟩
  | 44 => ⟨S1x1000000, .f32⟩
  | 45 => ⟨S1x1000000, .i32⟩
  | 46 => ⟨S_, .f32⟩
  | 47 => ⟨S_, .i32⟩
  | 48 => ⟨S1, .f32⟩
  | 49 => ⟨S1, .i32⟩
  | 50 => ⟨S1x1, .i32⟩
  | 51 => ⟨S_, .i32⟩
  | 52 => ⟨S1x1, .i32⟩
  | 53 => ⟨S1x1, .i1⟩
  | 54 => ⟨S_, .i32⟩
  | 55 => ⟨S1x1, .i32⟩
  | 56 => ⟨S1x1, .i32⟩
  | 57 => ⟨S1x1, .i32⟩
  | 58 => ⟨S1, .i32⟩
  | 59 => ⟨S_, .i32⟩
  | 60 => ⟨S1x1, .i32⟩
  | 61 => ⟨S1x1, .i1⟩
  | 62 => ⟨S1x1, .i32⟩
  | 63 => ⟨S1x1, .i1⟩
  | 64 => ⟨S1x1, .i1⟩
  | 65 => ⟨S_, .i1⟩
  | 66 => ⟨S1, .i1⟩
  | 67 => ⟨S1x1, .f32⟩
  | 68 => ⟨S1x1, .i1⟩
  | 69 => ⟨S_, .f32⟩
  | 70 => ⟨S1x1, .f32⟩
  | 71 => ⟨S1x1, .f32⟩
  | 72 => ⟨S1, .f32⟩
  | 73 => ⟨S1x1, .f32⟩
  | 74 => ⟨S1x1000000, .f32⟩
  | 75 => ⟨S1x1000000, .f32⟩
  | 76 => ⟨S1x1000000, .f32⟩
  | _ => ⟨S1x1000000, .f32⟩

abbrev hbmTy (i : Nat) : BufTy := match i / 128 with
  | 0 => hbmTy0_0 i
  | 1 => hbmTy0_1 i
  | 2 => hbmTy0_2 i
  | _ => ⟨S1x1000000, .f32⟩

abbrev bufTy : (tb : Table) → Fin (tcTables nBuf tb) → BufTy
  | .hbm, ⟨i, _⟩ => hbmTy i
  | _, _ => ⟨S1x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_cst : Ref sig .tc := ⟨.hbm, 33, rfl⟩
abbrev main_call1_cst_0 : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_c : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_c_0 : Ref sig .tc := ⟨.hbm, 47, rfl⟩
abbrev main_call1_call0_v11 : Ref sig .tc := ⟨.hbm, 48, rfl⟩
abbrev main_call1_call0_v12 : Ref sig .tc := ⟨.hbm, 49, rfl⟩
abbrev main_call1_call0_v13 : Ref sig .tc := ⟨.hbm, 50, rfl⟩
abbrev main_call1_call0_c_1 : Ref sig .tc := ⟨.hbm, 51, rfl⟩
abbrev main_call1_call0_v14 : Ref sig .tc := ⟨.hbm, 52, rfl⟩
abbrev main_call1_call0_v15 : Ref sig .tc := ⟨.hbm, 53, rfl⟩
abbrev main_call1_call0_v16 : Ref sig .tc := ⟨.hbm, 54, rfl⟩
abbrev main_call1_call0_v17 : Ref sig .tc := ⟨.hbm, 55, rfl⟩
abbrev main_call1_call0_call0_v0 : Ref sig .tc := ⟨.hbm, 56, rfl⟩
abbrev main_call1_call0_call0_c : Ref sig .tc := ⟨.hbm, 57, rfl⟩
abbrev main_call1_call0_call0_v1 : Ref sig .tc := ⟨.hbm, 58, rfl⟩
abbrev main_call1_call0_call0_v2 : Ref sig .tc := ⟨.hbm, 59, rfl⟩
abbrev main_call1_call0_call0_v3 : Ref sig .tc := ⟨.hbm, 60, rfl⟩
abbrev main_call1_call0_call0_v4 : Ref sig .tc := ⟨.hbm, 61, rfl⟩
abbrev main_call1_call0_call0_v5 : Ref sig .tc := ⟨.hbm, 62, rfl⟩
abbrev main_call1_call0_call0_v6 : Ref sig .tc := ⟨.hbm, 63, rfl⟩
abbrev main_call1_call0_call0_c_0 : Ref sig .tc := ⟨.hbm, 64, rfl⟩
abbrev main_call1_call0_call0_v7 : Ref sig .tc := ⟨.hbm, 65, rfl⟩
abbrev main_call1_call0_call0_v8 : Ref sig .tc := ⟨.hbm, 66, rfl⟩
abbrev main_call1_call0_call0_c_1 : Ref sig .tc := ⟨.hbm, 67, rfl⟩
abbrev main_call1_call0_call0_v9 : Ref sig .tc := ⟨.hbm, 68, rfl⟩
abbrev main_call1_call0_call0_v10 : Ref sig .tc := ⟨.hbm, 69, rfl⟩
abbrev main_call1_call0_call0_v11 : Ref sig .tc := ⟨.hbm, 70, rfl⟩
abbrev main_call1_call0_call0_v12 : Ref sig .tc := ⟨.hbm, 71, rfl⟩
abbrev main_call1_call0_call0_v13 : Ref sig .tc := ⟨.hbm, 72, rfl⟩
abbrev main_call1_call0_call0_c_2 : Ref sig .tc := ⟨.hbm, 73, rfl⟩
abbrev main_call1_call0_call0_v14 : Ref sig .tc := ⟨.hbm, 74, rfl⟩
abbrev main_call1_call0_call0_v15 : Ref sig .tc := ⟨.hbm, 75, rfl⟩
abbrev main_call1_call0_call0_c_3 : Ref sig .tc := ⟨.hbm, 76, rfl⟩
abbrev main_call1_call0_call0_v16 : Ref sig .tc := ⟨.hbm, 77, rfl⟩
abbrev main_call1_call0_call0_v17 : Ref sig .tc := ⟨.hbm, 78, rfl⟩
abbrev main_call1_call0_call0_v18 : Ref sig .tc := ⟨.hbm, 79, rfl⟩
abbrev main_call1_call0_call0_v19 : Ref sig .tc := ⟨.hbm, 80, rfl⟩
abbrev main_call1_call0_call0_v20 : Ref sig .tc := ⟨.hbm, 81, rfl⟩
abbrev main_call1_call0_call0_c_4 : Ref sig .tc := ⟨.hbm, 82, rfl⟩
abbrev main_call1_call0_call0_v21 : Ref sig .tc := ⟨.hbm, 83, rfl⟩
abbrev main_call1_call0_call0_v22 : Ref sig .tc := ⟨.hbm, 84, rfl⟩
abbrev main_call1_call0_call0_c_5 : Ref sig .tc := ⟨.hbm, 85, rfl⟩
abbrev main_call1_call0_call0_v23 : Ref sig .tc := ⟨.hbm, 86, rfl⟩
abbrev main_call1_call0_call0_v24 : Ref sig .tc := ⟨.hbm, 87, rfl⟩
abbrev main_call1_call0_call0_v25 : Ref sig .tc := ⟨.hbm, 88, rfl⟩
abbrev main_call1_call0_call0_v26 : Ref sig .tc := ⟨.hbm, 89, rfl⟩
abbrev main_call1_call0_call0_v27 : Ref sig .tc := ⟨.hbm, 90, rfl⟩
abbrev main_call1_call0_call0_c_6 : Ref sig .tc := ⟨.hbm, 91, rfl⟩
abbrev main_call1_call0_call0_v28 : Ref sig .tc := ⟨.hbm, 92, rfl⟩
abbrev main_call1_call0_call0_v29 : Ref sig .tc := ⟨.hbm, 93, rfl⟩
abbrev main_call1_call0_call0_c_7 : Ref sig .tc := ⟨.hbm, 94, rfl⟩
abbrev main_call1_call0_call0_v30 : Ref sig .tc := ⟨.hbm, 95, rfl⟩
abbrev main_call1_call0_call0_v31 : Ref sig .tc := ⟨.hbm, 96, rfl⟩
abbrev main_call1_call0_call0_v32 : Ref sig .tc := ⟨.hbm, 97, rfl⟩
abbrev main_call1_call0_call0_v33 : Ref sig .tc := ⟨.hbm, 98, rfl⟩
abbrev main_call1_call0_call0_v34 : Ref sig .tc := ⟨.hbm, 99, rfl⟩
abbrev main_call1_call0_call0_v35 : Ref sig .tc := ⟨.hbm, 100, rfl⟩
abbrev main_call1_call0_call0_v36 : Ref sig .tc := ⟨.hbm, 101, rfl⟩
abbrev main_call1_call0_call0_v37 : Ref sig .tc := ⟨.hbm, 102, rfl⟩
abbrev main_call1_call0_call0_c_8 : Ref sig .tc := ⟨.hbm, 103, rfl⟩
abbrev main_call1_call0_call0_v38 : Ref sig .tc := ⟨.hbm, 104, rfl⟩
abbrev main_call1_call0_call0_v39 : Ref sig .tc := ⟨.hbm, 105, rfl⟩
abbrev main_call1_call0_call0_v40 : Ref sig .tc := ⟨.hbm, 106, rfl⟩
abbrev main_call1_call0_call0_c_9 : Ref sig .tc := ⟨.hbm, 107, rfl⟩
abbrev main_call1_call0_call0_v41 : Ref sig .tc := ⟨.hbm, 108, rfl⟩
abbrev main_call1_call0_call0_v42 : Ref sig .tc := ⟨.hbm, 109, rfl⟩
abbrev main_call1_call0_call0_c_10 : Ref sig .tc := ⟨.hbm, 110, rfl⟩
abbrev main_call1_call0_call0_v43 : Ref sig .tc := ⟨.hbm, 111, rfl⟩
abbrev main_call1_call0_call0_v44 : Ref sig .tc := ⟨.hbm, 112, rfl⟩
abbrev main_call1_call0_call0_v45 : Ref sig .tc := ⟨.hbm, 113, rfl⟩
abbrev main_call1_call0_call0_v46 : Ref sig .tc := ⟨.hbm, 114, rfl⟩
abbrev main_call1_call0_call0_v47 : Ref sig .tc := ⟨.hbm, 115, rfl⟩
abbrev main_call1_call0_call0_c_11 : Ref sig .tc := ⟨.hbm, 116, rfl⟩
abbrev main_call1_call0_call0_v48 : Ref sig .tc := ⟨.hbm, 117, rfl⟩
abbrev main_call1_call0_call0_v49 : Ref sig .tc := ⟨.hbm, 118, rfl⟩
abbrev main_call1_call0_call0_c_12 : Ref sig .tc := ⟨.hbm, 119, rfl⟩
abbrev main_call1_call0_call0_v50 : Ref sig .tc := ⟨.hbm, 120, rfl⟩
abbrev main_call1_call0_call0_v51 : Ref sig .tc := ⟨.hbm, 121, rfl⟩
abbrev main_call1_call0_call0_v52 : Ref sig .tc := ⟨.hbm, 122, rfl⟩
abbrev main_call1_call0_call0_v53 : Ref sig .tc := ⟨.hbm, 123, rfl⟩
abbrev main_call1_call0_call0_v54 : Ref sig .tc := ⟨.hbm, 124, rfl⟩
abbrev main_call1_call0_call0_c_13 : Ref sig .tc := ⟨.hbm, 125, rfl⟩
abbrev main_call1_call0_call0_v55 : Ref sig .tc := ⟨.hbm, 126, rfl⟩
abbrev main_call1_call0_call0_v56 : Ref sig .tc := ⟨.hbm, 127, rfl⟩
abbrev main_call1_call0_call0_c_14 : Ref sig .tc := ⟨.hbm, 128, rfl⟩
abbrev main_call1_call0_call0_v57 : Ref sig .tc := ⟨.hbm, 129, rfl⟩
abbrev main_call1_call0_call0_v58 : Ref sig .tc := ⟨.hbm, 130, rfl⟩
abbrev main_call1_call0_call0_v59 : Ref sig .tc := ⟨.hbm, 131, rfl⟩
abbrev main_call1_call0_call0_v60 : Ref sig .tc := ⟨.hbm, 132, rfl⟩
abbrev main_call1_call0_call0_v61 : Ref sig .tc := ⟨.hbm, 133, rfl⟩
abbrev main_call1_call0_call0_c_15 : Ref sig .tc := ⟨.hbm, 134, rfl⟩
abbrev main_call1_call0_call0_v62 : Ref sig .tc := ⟨.hbm, 135, rfl⟩
abbrev main_call1_call0_call0_v63 : Ref sig .tc := ⟨.hbm, 136, rfl⟩
abbrev main_call1_call0_call0_c_16 : Ref sig .tc := ⟨.hbm, 137, rfl⟩
abbrev main_call1_call0_call0_v64 : Ref sig .tc := ⟨.hbm, 138, rfl⟩
abbrev main_call1_call0_call0_v65 : Ref sig .tc := ⟨.hbm, 139, rfl⟩
abbrev main_call1_call0_call0_v66 : Ref sig .tc := ⟨.hbm, 140, rfl⟩
abbrev main_call1_call0_call0_v67 : Ref sig .tc := ⟨.hbm, 141, rfl⟩
abbrev main_call1_call0_call0_v68 : Ref sig .tc := ⟨.hbm, 142, rfl⟩
abbrev main_call1_call0_call0_v69 : Ref sig .tc := ⟨.hbm, 143, rfl⟩
abbrev main_call1_call0_call0_v70 : Ref sig .tc := ⟨.hbm, 144, rfl⟩
abbrev main_call1_call0_call0_v71 : Ref sig .tc := ⟨.hbm, 145, rfl⟩
abbrev main_call1_call0_call0_c_17 : Ref sig .tc := ⟨.hbm, 146, rfl⟩
abbrev main_call1_call0_call0_v72 : Ref sig .tc := ⟨.hbm, 147, rfl⟩
abbrev main_call1_call0_call0_v73 : Ref sig .tc := ⟨.hbm, 148, rfl⟩
abbrev main_call1_call0_call0_v74 : Ref sig .tc := ⟨.hbm, 149, rfl⟩
abbrev main_call1_call0_call0_c_18 : Ref sig .tc := ⟨.hbm, 150, rfl⟩
abbrev main_call1_call0_call0_v75 : Ref sig .tc := ⟨.hbm, 151, rfl⟩
abbrev main_call1_call0_call0_v76 : Ref sig .tc := ⟨.hbm, 152, rfl⟩
abbrev main_call1_call0_call0_c_19 : Ref sig .tc := ⟨.hbm, 153, rfl⟩
abbrev main_call1_call0_call0_v77 : Ref sig .tc := ⟨.hbm, 154, rfl⟩
abbrev main_call1_call0_call0_v78 : Ref sig .tc := ⟨.hbm, 155, rfl⟩
abbrev main_call1_call0_call0_v79 : Ref sig .tc := ⟨.hbm, 156, rfl⟩
abbrev main_call1_call0_call0_v80 : Ref sig .tc := ⟨.hbm, 157, rfl⟩
abbrev main_call1_call0_call0_v81 : Ref sig .tc := ⟨.hbm, 158, rfl⟩
abbrev main_call1_call0_call0_c_20 : Ref sig .tc := ⟨.hbm, 159, rfl⟩
abbrev main_call1_call0_call0_v82 : Ref sig .tc := ⟨.hbm, 160, rfl⟩
abbrev main_call1_call0_call0_v83 : Ref sig .tc := ⟨.hbm, 161, rfl⟩
abbrev main_call1_call0_call0_c_21 : Ref sig .tc := ⟨.hbm, 162, rfl⟩
abbrev main_call1_call0_call0_v84 : Ref sig .tc := ⟨.hbm, 163, rfl⟩
abbrev main_call1_call0_call0_v85 : Ref sig .tc := ⟨.hbm, 164, rfl⟩
abbrev main_call1_call0_call0_v86 : Ref sig .tc := ⟨.hbm, 165, rfl⟩
abbrev main_call1_call0_call0_v87 : Ref sig .tc := ⟨.hbm, 166, rfl⟩
abbrev main_call1_call0_call0_v88 : Ref sig .tc := ⟨.hbm, 167, rfl⟩
abbrev main_call1_call0_call0_c_22 : Ref sig .tc := ⟨.hbm, 168, rfl⟩
abbrev main_call1_call0_call0_v89 : Ref sig .tc := ⟨.hbm, 169, rfl⟩
abbrev main_call1_call0_call0_v90 : Ref sig .tc := ⟨.hbm, 170, rfl⟩
abbrev main_call1_call0_call0_c_23 : Ref sig .tc := ⟨.hbm, 171, rfl⟩
abbrev main_call1_call0_call0_v91 : Ref sig .tc := ⟨.hbm, 172, rfl⟩
abbrev main_call1_call0_call0_v92 : Ref sig .tc := ⟨.hbm, 173, rfl⟩
abbrev main_call1_call0_call0_v93 : Ref sig .tc := ⟨.hbm, 174, rfl⟩
abbrev main_call1_call0_call0_v94 : Ref sig .tc := ⟨.hbm, 175, rfl⟩
abbrev main_call1_call0_call0_v95 : Ref sig .tc := ⟨.hbm, 176, rfl⟩
abbrev main_call1_call0_call0_c_24 : Ref sig .tc := ⟨.hbm, 177, rfl⟩
abbrev main_call1_call0_call0_v96 : Ref sig .tc := ⟨.hbm, 178, rfl⟩
abbrev main_call1_call0_call0_v97 : Ref sig .tc := ⟨.hbm, 179, rfl⟩
abbrev main_call1_call0_call0_c_25 : Ref sig .tc := ⟨.hbm, 180, rfl⟩
abbrev main_call1_call0_call0_v98 : Ref sig .tc := ⟨.hbm, 181, rfl⟩
abbrev main_call1_call0_call0_v99 : Ref sig .tc := ⟨.hbm, 182, rfl⟩
abbrev main_call1_call0_call0_v100 : Ref sig .tc := ⟨.hbm, 183, rfl⟩
abbrev main_call1_call0_call0_v101 : Ref sig .tc := ⟨.hbm, 184, rfl⟩
abbrev main_call1_call0_call0_v102 : Ref sig .tc := ⟨.hbm, 185, rfl⟩
abbrev main_call1_call0_call0_v103 : Ref sig .tc := ⟨.hbm, 186, rfl⟩
abbrev main_call1_call0_call0_v104 : Ref sig .tc := ⟨.hbm, 187, rfl⟩
abbrev main_call1_call0_call0_v105 : Ref sig .tc := ⟨.hbm, 188, rfl⟩
abbrev main_call1_call0_call0_c_26 : Ref sig .tc := ⟨.hbm, 189, rfl⟩
abbrev main_call1_call0_call0_v106 : Ref sig .tc := ⟨.hbm, 190, rfl⟩
abbrev main_call1_call0_call0_v107 : Ref sig .tc := ⟨.hbm, 191, rfl⟩
abbrev main_call1_call0_call0_v108 : Ref sig .tc := ⟨.hbm, 192, rfl⟩
abbrev main_call1_call0_call0_c_27 : Ref sig .tc := ⟨.hbm, 193, rfl⟩
abbrev main_call1_call0_call0_v109 : Ref sig .tc := ⟨.hbm, 194, rfl⟩
abbrev main_call1_call0_call0_v110 : Ref sig .tc := ⟨.hbm, 195, rfl⟩
abbrev main_call1_call0_call0_c_28 : Ref sig .tc := ⟨.hbm, 196, rfl⟩
abbrev main_call1_call0_call0_v111 : Ref sig .tc := ⟨.hbm, 197, rfl⟩
abbrev main_call1_call0_call0_v112 : Ref sig .tc := ⟨.hbm, 198, rfl⟩
abbrev main_call1_call0_call0_v113 : Ref sig .tc := ⟨.hbm, 199, rfl⟩
abbrev main_call1_call0_call0_v114 : Ref sig .tc := ⟨.hbm, 200, rfl⟩
abbrev main_call1_call0_call0_v115 : Ref sig .tc := ⟨.hbm, 201, rfl⟩
abbrev main_call1_call0_call0_c_29 : Ref sig .tc := ⟨.hbm, 202, rfl⟩
abbrev main_call1_call0_call0_v116 : Ref sig .tc := ⟨.hbm, 203, rfl⟩
abbrev main_call1_call0_call0_v117 : Ref sig .tc := ⟨.hbm, 204, rfl⟩
abbrev main_call1_call0_call0_c_30 : Ref sig .tc := ⟨.hbm, 205, rfl⟩
abbrev main_call1_call0_call0_v118 : Ref sig .tc := ⟨.hbm, 206, rfl⟩
abbrev main_call1_call0_call0_v119 : Ref sig .tc := ⟨.hbm, 207, rfl⟩
abbrev main_call1_call0_call0_v120 : Ref sig .tc := ⟨.hbm, 208, rfl⟩
abbrev main_call1_call0_call0_v121 : Ref sig .tc := ⟨.hbm, 209, rfl⟩
abbrev main_call1_call0_call0_v122 : Ref sig .tc := ⟨.hbm, 210, rfl⟩
abbrev main_call1_call0_call0_c_31 : Ref sig .tc := ⟨.hbm, 211, rfl⟩
abbrev main_call1_call0_call0_v123 : Ref sig .tc := ⟨.hbm, 212, rfl⟩
abbrev main_call1_call0_call0_v124 : Ref sig .tc := ⟨.hbm, 213, rfl⟩
abbrev main_call1_call0_call0_c_32 : Ref sig .tc := ⟨.hbm, 214, rfl⟩
abbrev main_call1_call0_call0_v125 : Ref sig .tc := ⟨.hbm, 215, rfl⟩
abbrev main_call1_call0_call0_v126 : Ref sig .tc := ⟨.hbm, 216, rfl⟩
abbrev main_call1_call0_call0_v127 : Ref sig .tc := ⟨.hbm, 217, rfl⟩
abbrev main_call1_call0_call0_v128 : Ref sig .tc := ⟨.hbm, 218, rfl⟩
abbrev main_call1_call0_call0_v129 : Ref sig .tc := ⟨.hbm, 219, rfl⟩
abbrev main_call1_call0_call0_c_33 : Ref sig .tc := ⟨.hbm, 220, rfl⟩
abbrev main_call1_call0_call0_v130 : Ref sig .tc := ⟨.hbm, 221, rfl⟩
abbrev main_call1_call0_call0_v131 : Ref sig .tc := ⟨.hbm, 222, rfl⟩
abbrev main_call1_call0_call0_c_34 : Ref sig .tc := ⟨.hbm, 223, rfl⟩
abbrev main_call1_call0_call0_v132 : Ref sig .tc := ⟨.hbm, 224, rfl⟩
abbrev main_call1_call0_call0_v133 : Ref sig .tc := ⟨.hbm, 225, rfl⟩
abbrev main_call1_call0_call0_v134 : Ref sig .tc := ⟨.hbm, 226, rfl⟩
abbrev main_call1_call0_call0_v135 : Ref sig .tc := ⟨.hbm, 227, rfl⟩
abbrev main_call1_call0_call0_v136 : Ref sig .tc := ⟨.hbm, 228, rfl⟩
abbrev main_call1_call0_call0_v137 : Ref sig .tc := ⟨.hbm, 229, rfl⟩
abbrev main_call1_call0_call0_v138 : Ref sig .tc := ⟨.hbm, 230, rfl⟩
abbrev main_call1_call0_call0_v139 : Ref sig .tc := ⟨.hbm, 231, rfl⟩
abbrev main_call1_call0_call0_c_35 : Ref sig .tc := ⟨.hbm, 232, rfl⟩
abbrev main_call1_call0_call0_v140 : Ref sig .tc := ⟨.hbm, 233, rfl⟩
abbrev main_call1_call0_call0_v141 : Ref sig .tc := ⟨.hbm, 234, rfl⟩
abbrev main_call1_call0_call0_v142 : Ref sig .tc := ⟨.hbm, 235, rfl⟩
abbrev main_call1_call0_call0_c_36 : Ref sig .tc := ⟨.hbm, 236, rfl⟩
abbrev main_call1_call0_call0_v143 : Ref sig .tc := ⟨.hbm, 237, rfl⟩
abbrev main_call1_call0_call0_v144 : Ref sig .tc := ⟨.hbm, 238, rfl⟩
abbrev main_call1_call0_call0_c_37 : Ref sig .tc := ⟨.hbm, 239, rfl⟩
abbrev main_call1_call0_call0_v145 : Ref sig .tc := ⟨.hbm, 240, rfl⟩
abbrev main_call1_call0_call0_v146 : Ref sig .tc := ⟨.hbm, 241, rfl⟩
abbrev main_call1_call0_call0_v147 : Ref sig .tc := ⟨.hbm, 242, rfl⟩
abbrev main_call1_call0_call0_v148 : Ref sig .tc := ⟨.hbm, 243, rfl⟩
abbrev main_call1_call0_call0_v149 : Ref sig .tc := ⟨.hbm, 244, rfl⟩
abbrev main_call1_call0_call0_c_38 : Ref sig .tc := ⟨.hbm, 245, rfl⟩
abbrev main_call1_call0_call0_v150 : Ref sig .tc := ⟨.hbm, 246, rfl⟩
abbrev main_call1_call0_call0_v151 : Ref sig .tc := ⟨.hbm, 247, rfl⟩
abbrev main_call1_call0_call0_c_39 : Ref sig .tc := ⟨.hbm, 248, rfl⟩
abbrev main_call1_call0_call0_v152 : Ref sig .tc := ⟨.hbm, 249, rfl⟩
abbrev main_call1_call0_call0_v153 : Ref sig .tc := ⟨.hbm, 250, rfl⟩
abbrev main_call1_call0_call0_v154 : Ref sig .tc := ⟨.hbm, 251, rfl⟩
abbrev main_call1_call0_call0_v155 : Ref sig .tc := ⟨.hbm, 252, rfl⟩
abbrev main_call1_call0_call0_v156 : Ref sig .tc := ⟨.hbm, 253, rfl⟩
abbrev main_call1_call0_call0_c_40 : Ref sig .tc := ⟨.hbm, 254, rfl⟩
abbrev main_call1_call0_call0_v157 : Ref sig .tc := ⟨.hbm, 255, rfl⟩
abbrev main_call1_call0_call0_v158 : Ref sig .tc := ⟨.hbm, 256, rfl⟩
abbrev main_call1_call0_call0_c_41 : Ref sig .tc := ⟨.hbm, 257, rfl⟩
abbrev main_call1_call0_call0_v159 : Ref sig .tc := ⟨.hbm, 258, rfl⟩
abbrev main_call1_call0_call0_v160 : Ref sig .tc := ⟨.hbm, 259, rfl⟩
abbrev main_call1_call0_call0_v161 : Ref sig .tc := ⟨.hbm, 260, rfl⟩
abbrev main_call1_call0_call0_v162 : Ref sig .tc := ⟨.hbm, 261, rfl⟩
abbrev main_call1_call0_call0_v163 : Ref sig .tc := ⟨.hbm, 262, rfl⟩
abbrev main_call1_call0_call0_c_42 : Ref sig .tc := ⟨.hbm, 263, rfl⟩
abbrev main_call1_call0_call0_v164 : Ref sig .tc := ⟨.hbm, 264, rfl⟩
abbrev main_call1_call0_call0_v165 : Ref sig .tc := ⟨.hbm, 265, rfl⟩
abbrev main_call1_call0_call0_c_43 : Ref sig .tc := ⟨.hbm, 266, rfl⟩
abbrev main_call1_call0_call0_v166 : Ref sig .tc := ⟨.hbm, 267, rfl⟩
abbrev main_call1_call0_call0_v167 : Ref sig .tc := ⟨.hbm, 268, rfl⟩
abbrev main_call1_call0_call0_v168 : Ref sig .tc := ⟨.hbm, 269, rfl⟩
abbrev main_call1_call0_call0_v169 : Ref sig .tc := ⟨.hbm, 270, rfl⟩
abbrev main_call1_call0_call0_v170 : Ref sig .tc := ⟨.hbm, 271, rfl⟩
abbrev main_call1_call0_v18_0 : Ref sig .tc := ⟨.hbm, 272, rfl⟩
abbrev main_call1_call0_call0_v172 : Ref sig .tc := ⟨.hbm, 273, rfl⟩
abbrev main_call1_call0_call0_v173 : Ref sig .tc := ⟨.hbm, 274, rfl⟩
abbrev main_call1_call0_call0_c_44 : Ref sig .tc := ⟨.hbm, 275, rfl⟩
abbrev main_call1_call0_call0_v174 : Ref sig .tc := ⟨.hbm, 276, rfl⟩
abbrev main_call1_call0_v18_1 : Ref sig .tc := ⟨.hbm, 277, rfl⟩
abbrev main_call1_call0_v19 : Ref sig .tc := ⟨.hbm, 278, rfl⟩
abbrev main_call1_call0_c_2 : Ref sig .tc := ⟨.hbm, 279, rfl⟩
abbrev main_call1_call0_v20 : Ref sig .tc := ⟨.hbm, 280, rfl⟩
abbrev main_call1_call0_v21 : Ref sig .tc := ⟨.hbm, 281, rfl⟩
abbrev main_call1_call0_c_3 : Ref sig .tc := ⟨.hbm, 282, rfl⟩
abbrev main_call1_call0_v22 : Ref sig .tc := ⟨.hbm, 283, rfl⟩
abbrev main_call1_call0_v23 : Ref sig .tc := ⟨.hbm, 284, rfl⟩
abbrev main_call1_call0_v24 : Ref sig .tc := ⟨.hbm, 285, rfl⟩
abbrev main_call1_call0_cst : Ref sig .tc := ⟨.hbm, 286, rfl⟩
abbrev main_call1_call0_v25 : Ref sig .tc := ⟨.hbm, 287, rfl⟩
abbrev main_call1_call0_v26 : Ref sig .tc := ⟨.hbm, 288, rfl⟩
abbrev main_call1_call0_v27 : Ref sig .tc := ⟨.hbm, 289, rfl⟩
abbrev main_call1_call0_v28 : Ref sig .tc := ⟨.hbm, 290, rfl⟩
abbrev main_call1_call0_v29 : Ref sig .tc := ⟨.hbm, 291, rfl⟩
abbrev main_call1_call0_v30 : Ref sig .tc := ⟨.hbm, 292, rfl⟩
abbrev main_call1_call0_v31 : Ref sig .tc := ⟨.hbm, 293, rfl⟩
abbrev main_call1_call0_v32 : Ref sig .tc := ⟨.hbm, 294, rfl⟩
abbrev main_call1_v0 : Ref sig .tc := ⟨.hbm, 295, rfl⟩
abbrev main_call1_v1 : Ref sig .tc := ⟨.hbm, 296, rfl⟩
abbrev main_call1_v2 : Ref sig .tc := ⟨.hbm, 297, rfl⟩
abbrev main_call1_v3 : Ref sig .tc := ⟨.hbm, 298, rfl⟩
abbrev main_v23 : Ref sig .tc := ⟨.hbm, 299, rfl⟩
abbrev main_v24 : Ref sig .tc := ⟨.hbm, 300, rfl⟩
abbrev main_call2_v0 : Ref sig .tc := ⟨.hbm, 301, rfl⟩
abbrev main_call2_cst : Ref sig .tc := ⟨.hbm, 302, rfl⟩
abbrev main_call2_c : Ref sig .tc := ⟨.hbm, 303, rfl⟩
abbrev main_call2_v1_0 : Ref sig .tc := ⟨.hbm, 304, rfl⟩
abbrev main_v25 : Ref sig .tc := ⟨.hbm, 305, rfl⟩
abbrev main_v26 : Ref sig .tc := ⟨.hbm, 306, rfl⟩
abbrev main_call3_c : Ref sig .tc := ⟨.hbm, 307, rfl⟩
abbrev main_call3_v0 : Ref sig .tc := ⟨.hbm, 308, rfl⟩
abbrev main_call3_v1 : Ref sig .tc := ⟨.hbm, 309, rfl⟩
abbrev main_call3_c_0 : Ref sig .tc := ⟨.hbm, 310, rfl⟩
abbrev main_call3_v2 : Ref sig .tc := ⟨.hbm, 311, rfl⟩
abbrev main_call3_v3 : Ref sig .tc := ⟨.hbm, 312, rfl⟩
abbrev main_call3_v4 : Ref sig .tc := ⟨.hbm, 313, rfl⟩
abbrev main_call3_c_1 : Ref sig .tc := ⟨.hbm, 314, rfl⟩
abbrev main_call3_c_2 : Ref sig .tc := ⟨.hbm, 315, rfl⟩
abbrev main_call3_v5 : Ref sig .tc := ⟨.hbm, 316, rfl⟩
abbrev main_call3_v6 : Ref sig .tc := ⟨.hbm, 317, rfl⟩
abbrev main_call3_v7 : Ref sig .tc := ⟨.hbm, 318, rfl⟩
abbrev main_call3_v8 : Ref sig .tc := ⟨.hbm, 319, rfl⟩
abbrev main_call3_v9 : Ref sig .tc := ⟨.hbm, 320, rfl⟩
abbrev main_call3_c_3 : Ref sig .tc := ⟨.hbm, 321, rfl⟩
abbrev main_call3_v10 : Ref sig .tc := ⟨.hbm, 322, rfl⟩
abbrev main_call3_v11 : Ref sig .tc := ⟨.hbm, 323, rfl⟩
abbrev main_call3_v12 : Ref sig .tc := ⟨.hbm, 324, rfl⟩
abbrev main_call3_cst : Ref sig .tc := ⟨.hbm, 325, rfl⟩
abbrev main_call3_v13 : Ref sig .tc := ⟨.hbm, 326, rfl⟩
abbrev main_v27 : Ref sig .tc := ⟨.hbm, 327, rfl⟩
abbrev main_v28 : Ref sig .tc := ⟨.hbm, 328, rfl⟩
abbrev main_v29 : Ref sig .tc := ⟨.hbm, 329, rfl⟩
abbrev main_v30 : Ref sig .tc := ⟨.hbm, 330, rfl⟩
abbrev main_v31 : Ref sig .tc := ⟨.hbm, 331, rfl⟩
abbrev main_v32 : Ref sig .tc := ⟨.hbm, 332, rfl⟩

abbrev nD : Nat := 1
abbrev τ : Topo := Topo.v7x

variable {F : FTy → Type} [FloatOps F]
-- ==== Proof.RefHost.lean ====
/-
  The reference's operations, cut at the rounds of the noise's generator, and its program as those operations.
-/
module

public import proofs.«01_k».proof.Proof.Gen.ReferenceIdeal
public import Idealize.ShloMosaic.Lib.StableHlo.RunHlo

@[expose] public section

noncomputable section

namespace Cert.Proof.RefHost

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-! Contents of the arrays, by shape and element. -/
abbrev I₀ (F : FTy → Type) : Type := (⟨S_, .i32⟩ : BufTy).Contents (Elt F)
abbrev Iₙ (F : FTy → Type) : Type := (⟨S1x1000000, .i32⟩ : BufTy).Contents (Elt F)
abbrev Lₙ (F : FTy → Type) : Type := (⟨S1x1000000, .i64⟩ : BufTy).Contents (Elt F)
abbrev L₀ (F : FTy → Type) : Type := (⟨S_, .i64⟩ : BufTy).Contents (Elt F)
abbrev Rₙ (F : FTy → Type) : Type := (⟨S1x1000000, .f32⟩ : BufTy).Contents (Elt F)
abbrev R₀ (F : FTy → Type) : Type := (⟨S_, .f32⟩ : BufTy).Contents (Elt F)
abbrev I₁ (F : FTy → Type) : Type := (⟨S1, .i32⟩ : BufTy).Contents (Elt F)
abbrev I₂ (F : FTy → Type) : Type := (⟨S2, .i32⟩ : BufTy).Contents (Elt F)
abbrev R₁₁ (F : FTy → Type) : Type := (⟨S1x1, .f32⟩ : BufTy).Contents (Elt F)
abbrev B₁₁ (F : FTy → Type) : Type := (⟨S1x1, .i1⟩ : BufTy).Contents (Elt F)
abbrev R₁ (F : FTy → Type) : Type := (⟨S1, .f32⟩ : BufTy).Contents (Elt F)
abbrev B₀ (F : FTy → Type) : Type := (⟨S_, .i1⟩ : BufTy).Contents (Elt F)
abbrev B₁ (F : FTy → Type) : Type := (⟨S1, .i1⟩ : BufTy).Contents (Elt F)
abbrev I₁₁ (F : FTy → Type) : Type := (⟨S1x1, .i32⟩ : BufTy).Contents (Elt F)

/-- The logarithm of the sum of exponentials, the normalized logits, the probabilities. -/
def w0 : List (HloOp τ sig (Elt F)) :=
  [nullary main_cst (constant S_ .f32 0xFF800000#32),
   binary main_arg0 main_cst main_v0 ((fun x v => Host.reduce FloatOps.maximumf x v reducesTo_S1x1000000_S1_d1 h_S_) : Rₙ F → R₀ F → R₁ F),
   unary main_v0 main_v1 (broadcastInDim S1x1 ![0] bcast_S1_S1x1_0 : R₁ F → R₁₁ F),
   unary main_v1 main_v2 (Host.absf : R₁₁ F → R₁₁ F),
   nullary main_cst_0 (constant S_ .f32 0x7F800000#32),
   unary main_cst_0 main_v3 (broadcastInDim S1x1 ![] bcast_S_S1x1 : R₀ F → R₁₁ F),
   binary main_v2 main_v3 main_v4 (cmpf .olt : R₁₁ F → R₁₁ F → B₁₁ F),
   nullary main_cst_1 (constant S_ .f32 0x00000000#32),
   unary main_cst_1 main_call0_v0 (id : R₀ F → R₀ F),
   unary main_call0_v0 main_call0_v1 ((broadcastInDim S1x1 ![] bcast_S_S1x1) : R₀ F → R₁₁ F),
   ternary main_v4 main_v1 main_call0_v1 main_v5 (select : B₁₁ F → R₁₁ F → R₁₁ F → R₁₁ F),
   unary main_v5 main_v6 (broadcastInDim S1x1000000 ![0, 1] bcast_S1x1_S1x1000000_0_1 : R₁₁ F → Rₙ F),
   binary main_arg0 main_v6 main_v7 (subf : Rₙ F → Rₙ F → Rₙ F),
   unary main_v7 main_v8 (Host.exp : Rₙ F → Rₙ F),
   nullary main_cst_2 (constant S_ .f32 0x00000000#32),
   binary main_v8 main_cst_2 main_v9 ((fun x v => Host.reduceAdd x v reducesTo_S1x1000000_S1_d1 h_S_) : Rₙ F → R₀ F → R₁ F),
   unary main_v9 main_v10 (broadcastInDim S1x1 ![0] bcast_S1_S1x1_0 : R₁ F → R₁₁ F),
   unary main_v10 main_v11 (Host.log : R₁₁ F → R₁₁ F),
   binary main_v11 main_v5 main_v12 (addf : R₁₁ F → R₁₁ F → R₁₁ F),
   unary main_v12 main_v13 (broadcastInDim S1x1000000 ![0, 1] bcast_S1x1_S1x1000000_0_1 : R₁₁ F → Rₙ F),
   binary main_arg0 main_v13 main_v14 (subf : Rₙ F → Rₙ F → Rₙ F),
   unary main_v14 main_v15 (Host.exp : Rₙ F → Rₙ F)]

/-- The key, the counters and the constants, before the rounds. -/
def w1 : List (HloOp τ sig (Elt F)) :=
  [nullary main_c (constantI S_ 32 42#32),
   nullary main_c_3 (constantI S_ 32 32#32),
   binary main_c main_c_3 main_v16 (Host.shrui : I₀ F → I₀ F → I₀ F),
   unary main_v16 main_v17 (id : I₀ F → I₀ F),
   unary main_v17 main_v18 (broadcastInDim S1 ![] bcast_S_S1 : I₀ F → I₁ F),
   nullary main_c_4 (constantI S_ 32 4294967295#32),
   binary main_c main_c_4 main_v19 (andi : I₀ F → I₀ F → I₀ F),
   unary main_v19 main_v20 (id : I₀ F → I₀ F),
   unary main_v20 main_v21 (broadcastInDim S1 ![] bcast_S_S1 : I₀ F → I₁ F),
   binary main_v18 main_v21 main_v22 ((fun a b => concatenate S2 0 [⟨S1, a⟩, ⟨S1, b⟩] concatenates_S1_S1_S2_d0) : I₁ F → I₁ F → I₂ F),
   nullary main_call1_cst (constant S_ .f32 0x3F800000#32),
   nullary main_call1_cst_0 (constant S_ .f32 0x00800000#32),
   unary main_call1_cst main_call1_call0_v0 (id : R₀ F → R₀ F),
   unary main_call1_cst_0 main_call1_call0_v1 ((broadcastInDim S1x1 ![] bcast_S_S1x1) : R₀ F → R₁₁ F),
   unary main_call1_call0_v0 main_call1_call0_v2 ((broadcastInDim S1x1 ![] bcast_S_S1x1) : R₀ F → R₁₁ F),
   unary main_v22 main_call1_call0_v3 ((extractStridedSlice S1 ![0] · slices_S2_S1_0) : I₂ F → I₁ F),
   reshape main_call1_call0_v3 main_call1_call0_v4 (rfl : (.i32 : EltTy) = .i32) shapeCasts_S1_S_,
   unary main_v22 main_call1_call0_v5 ((extractStridedSlice S1 ![1] · slices_S2_S1_1) : I₂ F → I₁ F),
   reshape main_call1_call0_v5 main_call1_call0_v6 (rfl : (.i32 : EltTy) = .i32) shapeCasts_S1_S_,
   nullary main_call1_call0_v7 (iotaInDim S1x1000000 64 0),
   nullary main_call1_call0_v8 (iotaInDim S1x1000000 64 1),
   nullary main_call1_call0_c (constantI S_ 64 1000000#64),
   unary main_call1_call0_c main_call1_call0_v9 ((broadcastInDim S1x1000000 ![] bcast_S_S1x1000000) : L₀ F → Lₙ F),
   binary main_call1_call0_v9 main_call1_call0_v7 main_call1_call0_v10 (muli : Lₙ F → Lₙ F → Lₙ F),
   nullary main_call1_call0_c_0 (constantI S_ 64 1#64),
   unary main_call1_call0_c_0 main_call1_call0_v11 ((broadcastInDim S1x1000000 ![] bcast_S_S1x1000000) : L₀ F → Lₙ F),
   binary main_call1_call0_v11 main_call1_call0_v8 main_call1_call0_v12 (muli : Lₙ F → Lₙ F → Lₙ F),
   binary main_call1_call0_v10 main_call1_call0_v12 main_call1_call0_v13 (addi : Lₙ F → Lₙ F → Lₙ F),
   nullary main_call1_call0_c_1 (constantI S_ 64 32#64),
   unary main_call1_call0_c_1 main_call1_call0_v14 ((broadcastInDim S1x1000000 ![] bcast_S_S1x1000000) : L₀ F → Lₙ F),
   binary main_call1_call0_v13 main_call1_call0_v14 main_call1_call0_v15 (Host.shrui : Lₙ F → Lₙ F → Lₙ F),
   unary main_call1_call0_v13 main_call1_call0_v16 ((trunci 32 · natLt_32_64) : Lₙ F → Iₙ F),
   unary main_call1_call0_v15 main_call1_call0_v17 ((trunci 32 · natLt_32_64) : Lₙ F → Iₙ F)]

/-- Keys mixed in. -/
def w2 : List (HloOp τ sig (Elt F)) :=
  [binary main_call1_call0_v4 main_call1_call0_v6 main_call1_call0_call0_v0 (xori : I₀ F → I₀ F → I₀ F),
   nullary main_call1_call0_call0_c (constantI S_ 32 466688986#32),
   binary main_call1_call0_call0_v0 main_call1_call0_call0_c main_call1_call0_call0_v1 (xori : I₀ F → I₀ F → I₀ F),
   unary main_call1_call0_v4 main_call1_call0_call0_v2 ((broadcastInDim S1x1000000 ![] bcast_S_S1x1000000) : I₀ F → Iₙ F),
   binary main_call1_call0_v17 main_call1_call0_call0_v2 main_call1_call0_call0_v3 (addi : Iₙ F → Iₙ F → Iₙ F),
   unary main_call1_call0_v6 main_call1_call0_call0_v4 ((broadcastInDim S1x1000000 ![] bcast_S_S1x1000000) : I₀ F → Iₙ F),
   binary main_call1_call0_v16 main_call1_call0_call0_v4 main_call1_call0_call0_v5 (addi : Iₙ F → Iₙ F → Iₙ F)]

/-- One round. -/
def w3 : List (HloOp τ sig (Elt F)) :=
  [binary main_call1_call0_call0_v3 main_call1_call0_call0_v5 main_call1_call0_call0_v6 (addi : Iₙ F → Iₙ F → Iₙ F),
   nullary main_call1_call0_call0_c_0 (constantI S_ 32 13#32),
   unary main_call1_call0_call0_c_0 main_call1_call0_call0_v7 ((broadcastInDim S1x1000000 ![] bcast_S_S1x1000000) : I₀ F → Iₙ F),
   binary main_call1_call0_call0_v5 main_call1_call0_call0_v7 main_call1_call0_call0_v8 (Host.shli : Iₙ F → Iₙ F → Iₙ F),
   nullary main_call1_call0_call0_c_1 (constantI S_ 32 19#32),
   unary main_call1_call0_call0_c_1 main_call1_call0_call0_v9 ((broadcastInDim S1x1000000 ![] bcast_S_S1x1000000) : I₀ F → Iₙ F),
   binary main_call1_call0_call0_v5 main_call1_call0_call0_v9 main_call1_call0_call0_v10 (Host.shrui : Iₙ F → Iₙ F → Iₙ F),
   binary main_call1_call0_call0_v8 main_call1_call0_call0_v10 main_call1_call0_call0_v11 (ori : Iₙ F → Iₙ F → Iₙ F),
   binary main_call1_call0_call0_v6 main_call1_call0_call0_v11 main_call1_call0_call0_v12 (xori : Iₙ F → Iₙ F → Iₙ F)]

/-- One round. -/
def w4 : List (HloOp τ sig (Elt F)) :=
  [binary main_call1_call0_call0_v6 main_call1_call0_call0_v12 main_call1_call0_call0_v13 (addi : Iₙ F → Iₙ F → Iₙ F),
   nullary main_call1_call0_call0_c_2 (constantI S_ 32 15#32),
   unary main_call1_call0_call0_c_2 main_call1_call0_call0_v14 ((broadcastInDim S1x1000000 ![] bcast_S_S1x1000000) : I₀ F → Iₙ F),
   binary main_call1_call0_call0_v12 main_call1_call0_call0_v14 main_call1_call0_call0_v15 (Host.shli : Iₙ F → Iₙ F → Iₙ F),
   nullary main_call1_call0_call0_c_3 (constantI S_ 32 17#32),
   unary main_call1_call0_call0_c_3 main_call1_call0_call0_v16 ((broadcastInDim S1x1000000 ![] bcast_S_S1x1000000) : I₀ F → Iₙ F),
   binary main_call1_call0_call0_v12 main_call1_call0_call0_v16 main_call1_call0_call0_v17 (Host.shrui : Iₙ F → Iₙ F → Iₙ F),
   binary main_call1_call0_call0_v15 main_call1_call0_call0_v17 main_call1_call0_call0_v18 (ori : Iₙ F → Iₙ F → Iₙ F),
   binary main_call1_call0_call0_v13 main_call1_call0_call0_v18 main_call1_call0_call0_v19 (xori : Iₙ F → Iₙ F → Iₙ F)]

/-- One round. -/
def w5 : List (HloOp τ sig (Elt F)) :=
  [binary main_call1_call0_call0_v13 main_call1_call0_call0_v19 main_call1_call0_call0_v20 (addi : Iₙ F → Iₙ F → Iₙ F),
   nullary main_call1_call0_call0_c_4 (constantI S_ 32 26#32),
   unary main_call1_call0_call0_c_4 main_call1_call0_call0_v21 ((broadcastInDim S1x1000000 ![] bcast_S_S1x1000000) : I₀ F → Iₙ F),
   binary main_call1_call0_call0_v19 main_call1_call0_call0_v21 main_call1_call0_call0_v22 (Host.shli : Iₙ F → Iₙ F → Iₙ F),
   nullary main_call1_call0_call0_c_5 (constantI S_ 32 6#32),
   unary main_call1_call0_call0_c_5 main_call1_call0_call0_v23 ((broadcastInDim S1x1000000 ![] bcast_S_S1x1000000) : I₀ F → Iₙ F),
   binary main_call1_call0_call0_v19 main_call1_call0_call0_v23 main_call1_call0_call0_v24 (Host.shrui : Iₙ F → Iₙ F → Iₙ F),
   binary main_call1_call0_call0_v22 main_call1_call0_call0_v24 main_call1_call0_call0_v25 (ori : Iₙ F → Iₙ F → Iₙ F),
   binary main_call1_call0_call0_v20 main_call1_call0_call0_v25 main_call1_call0_call0_v26 (xori : Iₙ F → Iₙ F → Iₙ F)]

/-- One round. -/
def w6 : List (HloOp τ sig (Elt F)) :=
  [binary main_call1_call0_call0_v20 main_call1_call0_call0_v26 main_call1_call0_call0_v27 (addi : Iₙ F → Iₙ F → Iₙ F),
   nullary main_call1_call0_call0_c_6 (constantI S_ 32 6#32),
   unary main_call1_call0_call0_c_6 main_call1_call0_call0_v28 ((broadcastInDim S1x1000000 ![] bcast_S_S1x1000000) : I₀ F → Iₙ F),
   binary main_call1_call0_call0_v26 main_call1_call0_call0_v28 main_call1_call0_call0_v29 (Host.shli : Iₙ F → Iₙ F → Iₙ F),
   nullary main_call1_call0_call0_c_7 (constantI S_ 32 26#32),
   unary main_call1_call0_call0_c_7 main_call1_call0_call0_v30 ((broadcastInDim S1x1000000 ![] bcast_S_S1x1000000) : I₀ F → Iₙ F),
   binary main_call1_call0_call0_v26 main_call1_call0_call0_v30 main_call1_call0_call0_v31 (Host.shrui : Iₙ F → Iₙ F → Iₙ F),
   binary main_call1_call0_call0_v29 main_call1_call0_call0_v31 main_call1_call0_call0_v32 (ori : Iₙ F → Iₙ F → Iₙ F),
   binary main_call1_call0_call0_v27 main_call1_call0_call0_v32 main_call1_call0_call0_v33 (xori : Iₙ F → Iₙ F → Iₙ F)]

/-- Keys mixed in. -/
def w7 : List (HloOp τ sig (Elt F)) :=
  [unary main_call1_call0_v6 main_call1_call0_call0_v34 ((broadcastInDim S1x1000000 ![] bcast_S_S1x1000000) : I₀ F → Iₙ F),
   binary main_call1_call0_call0_v27 main_call1_call0_call0_v34 main_call1_call0_call0_v35 (addi : Iₙ F → Iₙ F → Iₙ F),
   unary main_call1_call0_call0_v1 main_call1_call0_call0_v36 ((broadcastInDim S1x1000000 ![] bcast_S_S1x1000000) : I₀ F → Iₙ F),
   binary main_call1_call0_call0_v33 main_call1_call0_call0_v36 main_call1_call0_call0_v37 (addi : Iₙ F → Iₙ F → Iₙ F),
   nullary main_call1_call0_call0_c_8 (constantI S_ 32 1#32),
   unary main_call1_call0_call0_c_8 main_call1_call0_call0_v38 ((broadcastInDim S1x1000000 ![] bcast_S_S1x1000000) : I₀ F → Iₙ F),
   binary main_call1_call0_call0_v37 main_call1_call0_call0_v38 main_call1_call0_call0_v39 (addi : Iₙ F → Iₙ F → Iₙ F)]

/-- One round. -/
def w8 : List (HloOp τ sig (Elt F)) :=
  [binary main_call1_call0_call0_v35 main_call1_call0_call0_v39 main_call1_call0_call0_v40 (addi : Iₙ F → Iₙ F → Iₙ F),
   nullary main_call1_call0_call0_c_9 (constantI S_ 32 17#32),
   unary main_call1_call0_call0_c_9 main_call1_call0_call0_v41 ((broadcastInDim S1x1000000 ![] bcast_S_S1x1000000) : I₀ F → Iₙ F),
   binary main_call1_call0_call0_v39 main_call1_call0_call0_v41 main_call1_call0_call0_v42 (Host.shli : Iₙ F → Iₙ F → Iₙ F),
   nullary main_call1_call0_call0_c_10 (constantI S_ 32 15#32),
   unary main_call1_call0_call0_c_10 main_call1_call0_call0_v43 ((broadcastInDim S1x1000000 ![] bcast_S_S1x1000000) : I₀ F → Iₙ F),
   binary main_call1_call0_call0_v39 main_call1_call0_call0_v43 main_call1_call0_call0_v44 (Host.shrui : Iₙ F → Iₙ F → Iₙ F),
   binary main_call1_call0_call0_v42 main_call1_call0_call0_v44 main_call1_call0_call0_v45 (ori : Iₙ F → Iₙ F → Iₙ F),
   binary main_call1_call0_call0_v40 main_call1_call0_call0_v45 main_call1_call0_call0_v46 (xori : Iₙ F → Iₙ F → Iₙ F)]

/-- One round. -/
def w9 : List (HloOp τ sig (Elt F)) :=
  [binary main_call1_call0_call0_v40 main_call1_call0_call0_v46 main_call1_call0_call0_v47 (addi : Iₙ F → Iₙ F → Iₙ F),
   nullary main_call1_call0_call0_c_11 (constantI S_ 32 29#32),
   unary main_call1_call0_call0_c_11 main_call1_call0_call0_v48 ((broadcastInDim S1x1000000 ![] bcast_S_S1x1000000) : I₀ F → Iₙ F),
   binary main_call1_call0_call0_v46 main_call1_call0_call0_v48 main_call1_call0_call0_v49 (Host.shli : Iₙ F → Iₙ F → Iₙ F),
   nullary main_call1_call0_call0_c_12 (constantI S_ 32 3#32),
   unary main_call1_call0_call0_c_12 main_call1_call0_call0_v50 ((broadcastInDim S1x1000000 ![] bcast_S_S1x1000000) : I₀ F → Iₙ F),
   binary main_call1_call0_call0_v46 main_call1_call0_call0_v50 main_call1_call0_call0_v51 (Host.shrui : Iₙ F → Iₙ F → Iₙ F),
   binary main_call1_call0_call0_v49 main_call1_call0_call0_v51 main_call1_call0_call0_v52 (ori : Iₙ F → Iₙ F → Iₙ F),
   binary main_call1_call0_call0_v47 main_call1_call0_call0_v52 main_call1_call0_call0_v53 (xori : Iₙ F → Iₙ F → Iₙ F)]

/-- One round. -/
def w10 : List (HloOp τ sig (Elt F)) :=
  [binary main_call1_call0_call0_v47 main_call1_call0_call0_v53 main_call1_call0_call0_v54 (addi : Iₙ F → Iₙ F → Iₙ F),
   nullary main_call1_call0_call0_c_13 (constantI S_ 32 16#32),
   unary main_call1_call0_call0_c_13 main_call1_call0_call0_v55 ((broadcastInDim S1x1000000 ![] bcast_S_S1x1000000) : I₀ F → Iₙ F),
   binary main_call1_call0_call0_v53 main_call1_call0_call0_v55 main_call1_call0_call0_v56 (Host.shli : Iₙ F → Iₙ F → Iₙ F),
   nullary main_call1_call0_call0_c_14 (constantI S_ 32 16#32),
   unary main_call1_call0_call0_c_14 main_call1_call0_call0_v57 ((broadcastInDim S1x1000000 ![] bcast_S_S1x1000000) : I₀ F → Iₙ F),
   binary main_call1_call0_call0_v53 main_call1_call0_call0_v57 main_call1_call0_call0_v58 (Host.shrui : Iₙ F → Iₙ F → Iₙ F),
   binary main_call1_call0_call0_v56 main_call1_call0_call0_v58 main_call1_call0_call0_v59 (ori : Iₙ F → Iₙ F → Iₙ F),
   binary main_call1_call0_call0_v54 main_call1_call0_call0_v59 main_call1_call0_call0_v60 (xori : Iₙ F → Iₙ F → Iₙ F)]

/-- One round. -/
def w11 : List (HloOp τ sig (Elt F)) :=
  [binary main_call1_call0_call0_v54 main_call1_call0_call0_v60 main_call1_call0_call0_v61 (addi : Iₙ F → Iₙ F → Iₙ F),
   nullary main_call1_call0_call0_c_15 (constantI S_ 32 24#32),
   unary main_call1_call0_call0_c_15 main_call1_call0_call0_v62 ((broadcastInDim S1x1000000 ![] bcast_S_S1x1000000) : I₀ F → Iₙ F),
   binary main_call1_call0_call0_v60 main_call1_call0_call0_v62 main_call1_call0_call0_v63 (Host.shli : Iₙ F → Iₙ F → Iₙ F),
   nullary main_call1_call0_call0_c_16 (constantI S_ 32 8#32),
   unary main_call1_call0_call0_c_16 main_call1_call0_call0_v64 ((broadcastInDim S1x1000000 ![] bcast_S_S1x1000000) : I₀ F → Iₙ F),
   binary main_call1_call0_call0_v60 main_call1_call0_call0_v64 main_call1_call0_call0_v65 (Host.shrui : Iₙ F → Iₙ F → Iₙ F),
   binary main_call1_call0_call0_v63 main_call1_call0_call0_v65 main_call1_call0_call0_v66 (ori : Iₙ F → Iₙ F → Iₙ F),
   binary main_call1_call0_call0_v61 main_call1_call0_call0_v66 main_call1_call0_call0_v67 (xori : Iₙ F → Iₙ F → Iₙ F)]

/-- Keys mixed in. -/
def w12 : List (HloOp τ sig (Elt F)) :=
  [unary main_call1_call0_call0_v1 main_call1_call0_call0_v68 ((broadcastInDim S1x1000000 ![] bcast_S_S1x1000000) : I₀ F → Iₙ F),
   binary main_call1_call0_call0_v61 main_call1_call0_call0_v68 main_call1_call0_call0_v69 (addi : Iₙ F → Iₙ F → Iₙ F),
   unary main_call1_call0_v4 main_call1_call0_call0_v70 ((broadcastInDim S1x1000000 ![] bcast_S_S1x1000000) : I₀ F → Iₙ F),
   binary main_call1_call0_call0_v67 main_call1_call0_call0_v70 main_call1_call0_call0_v71 (addi : Iₙ F → Iₙ F → Iₙ F),
   nullary main_call1_call0_call0_c_17 (constantI S_ 32 2#32),
   unary main_call1_call0_call0_c_17 main_call1_call0_call0_v72 ((broadcastInDim S1x1000000 ![] bcast_S_S1x1000000) : I₀ F → Iₙ F),
   binary main_call1_call0_call0_v71 main_call1_call0_call0_v72 main_call1_call0_call0_v73 (addi : Iₙ F → Iₙ F → Iₙ F)]

/-- One round. -/
def w13 : List (HloOp τ sig (Elt F)) :=
  [binary main_call1_call0_call0_v69 main_call1_call0_call0_v73 main_call1_call0_call0_v74 (addi : Iₙ F → Iₙ F → Iₙ F),
   nullary main_call1_call0_call0_c_18 (constantI S_ 32 13#32),
   unary main_call1_call0_call0_c_18 main_call1_call0_call0_v75 ((broadcastInDim S1x1000000 ![] bcast_S_S1x1000000) : I₀ F → Iₙ F),
   binary main_call1_call0_call0_v73 main_call1_call0_call0_v75 main_call1_call0_call0_v76 (Host.shli : Iₙ F → Iₙ F → Iₙ F),
   nullary main_call1_call0_call0_c_19 (constantI S_ 32 19#32),
   unary main_call1_call0_call0_c_19 main_call1_call0_call0_v77 ((broadcastInDim S1x1000000 ![] bcast_S_S1x1000000) : I₀ F → Iₙ F),
   binary main_call1_call0_call0_v73 main_call1_call0_call0_v77 main_call1_call0_call0_v78 (Host.shrui : Iₙ F → Iₙ F → Iₙ F),
   binary main_call1_call0_call0_v76 main_call1_call0_call0_v78 main_call1_call0_call0_v79 (ori : Iₙ F → Iₙ F → Iₙ F),
   binary main_call1_call0_call0_v74 main_call1_call0_call0_v79 main_call1_call0_call0_v80 (xori : Iₙ F → Iₙ F → Iₙ F)]

/-- One round. -/
def w14 : List (HloOp τ sig (Elt F)) :=
  [binary main_call1_call0_call0_v74 main_call1_call0_call0_v80 main_call1_call0_call0_v81 (addi : Iₙ F → Iₙ F → Iₙ F),
   nullary main_call1_call0_call0_c_20 (constantI S_ 32 15#32),
   unary main_call1_call0_call0_c_20 main_call1_call0_call0_v82 ((broadcastInDim S1x1000000 ![] bcast_S_S1x1000000) : I₀ F → Iₙ F),
   binary main_call1_call0_call0_v80 main_call1_call0_call0_v82 main_call1_call0_call0_v83 (Host.shli : Iₙ F → Iₙ F → Iₙ F),
   nullary main_call1_call0_call0_c_21 (constantI S_ 32 17#32),
   unary main_call1_call0_call0_c_21 main_call1_call0_call0_v84 ((broadcastInDim S1x1000000 ![] bcast_S_S1x1000000) : I₀ F → Iₙ F),
   binary main_call1_call0_call0_v80 main_call1_call0_call0_v84 main_call1_call0_call0_v85 (Host.shrui : Iₙ F → Iₙ F → Iₙ F),
   binary main_call1_call0_call0_v83 main_call1_call0_call0_v85 main_call1_call0_call0_v86 (ori : Iₙ F → Iₙ F → Iₙ F),
   binary main_call1_call0_call0_v81 main_call1_call0_call0_v86 main_call1_call0_call0_v87 (xori : Iₙ F → Iₙ F → Iₙ F)]

/-- One round. -/
def w15 : List (HloOp τ sig (Elt F)) :=
  [binary main_call1_call0_call0_v81 main_call1_call0_call0_v87 main_call1_call0_call0_v88 (addi : Iₙ F → Iₙ F → Iₙ F),
   nullary main_call1_call0_call0_c_22 (constantI S_ 32 26#32),
   unary main_call1_call0_call0_c_22 main_call1_call0_call0_v89 ((broadcastInDim S1x1000000 ![] bcast_S_S1x1000000) : I₀ F → Iₙ F),
   binary main_call1_call0_call0_v87 main_call1_call0_call0_v89 main_call1_call0_call0_v90 (Host.shli : Iₙ F → Iₙ F → Iₙ F),
   nullary main_call1_call0_call0_c_23 (constantI S_ 32 6#32),
   unary main_call1_call0_call0_c_23 main_call1_call0_call0_v91 ((broadcastInDim S1x1000000 ![] bcast_S_S1x1000000) : I₀ F → Iₙ F),
   binary main_call1_call0_call0_v87 main_call1_call0_call0_v91 main_call1_call0_call0_v92 (Host.shrui : Iₙ F → Iₙ F → Iₙ F),
   binary main_call1_call0_call0_v90 main_call1_call0_call0_v92 main_call1_call0_call0_v93 (ori : Iₙ F → Iₙ F → Iₙ F),
   binary main_call1_call0_call0_v88 main_call1_call0_call0_v93 main_call1_call0_call0_v94 (xori : Iₙ F → Iₙ F → Iₙ F)]

/-- One round. -/
def w16 : List (HloOp τ sig (Elt F)) :=
  [binary main_call1_call0_call0_v88 main_call1_call0_call0_v94 main_call1_call0_call0_v95 (addi : Iₙ F → Iₙ F → Iₙ F),
   nullary main_call1_call0_call0_c_24 (constantI S_ 32 6#32),
   unary main_call1_call0_call0_c_24 main_call1_call0_call0_v96 ((broadcastInDim S1x1000000 ![] bcast_S_S1x1000000) : I₀ F → Iₙ F),
   binary main_call1_call0_call0_v94 main_call1_call0_call0_v96 main_call1_call0_call0_v97 (Host.shli : Iₙ F → Iₙ F → Iₙ F),
   nullary main_call1_call0_call0_c_25 (constantI S_ 32 26#32),
   unary main_call1_call0_call0_c_25 main_call1_call0_call0_v98 ((broadcastInDim S1x1000000 ![] bcast_S_S1x1000000) : I₀ F → Iₙ F),
   binary main_call1_call0_call0_v94 main_call1_call0_call0_v98 main_call1_call0_call0_v99 (Host.shrui : Iₙ F → Iₙ F → Iₙ F),
   binary main_call1_call0_call0_v97 main_call1_call0_call0_v99 main_call1_call0_call0_v100 (ori : Iₙ F → Iₙ F → Iₙ F),
   binary main_call1_call0_call0_v95 main_call1_call0_call0_v100 main_call1_call0_call0_v101 (xori : Iₙ F → Iₙ F → Iₙ F)]

/-- Keys mixed in. -/
def w17 : List (HloOp τ sig (Elt F)) :=
  [unary main_call1_call0_v4 main_call1_call0_call0_v102 ((broadcastInDim S1x1000000 ![] bcast_S_S1x1000000) : I₀ F → Iₙ F),
   binary main_call1_call0_call0_v95 main_call1_call0_call0_v102 main_call1_call0_call0_v103 (addi : Iₙ F → Iₙ F → Iₙ F),
   unary main_call1_call0_v6 main_call1_call0_call0_v104 ((broadcastInDim S1x1000000 ![] bcast_S_S1x1000000) : I₀ F → Iₙ F),
   binary main_call1_call0_call0_v101 main_call1_call0_call0_v104 main_call1_call0_call0_v105 (addi : Iₙ F → Iₙ F → Iₙ F),
   nullary main_call1_call0_call0_c_26 (constantI S_ 32 3#32),
   unary main_call1_call0_call0_c_26 main_call1_call0_call0_v106 ((broadcastInDim S1x1000000 ![] bcast_S_S1x1000000) : I₀ F → Iₙ F),
   binary main_call1_call0_call0_v105 main_call1_call0_call0_v106 main_call1_call0_call0_v107 (addi : Iₙ F → Iₙ F → Iₙ F)]

/-- One round. -/
def w18 : List (HloOp τ sig (Elt F)) :=
  [binary main_call1_call0_call0_v103 main_call1_call0_call0_v107 main_call1_call0_call0_v108 (addi : Iₙ F → Iₙ F → Iₙ F),
   nullary main_call1_call0_call0_c_27 (constantI S_ 32 17#32),
   unary main_call1_call0_call0_c_27 main_call1_call0_call0_v109 ((broadcastInDim S1x1000000 ![] bcast_S_S1x1000000) : I₀ F → Iₙ F),
   binary main_call1_call0_call0_v107 main_call1_call0_call0_v109 main_call1_call0_call0_v110 (Host.shli : Iₙ F → Iₙ F → Iₙ F),
   nullary main_call1_call0_call0_c_28 (constantI S_ 32 15#32),
   unary main_call1_call0_call0_c_28 main_call1_call0_call0_v111 ((broadcastInDim S1x1000000 ![] bcast_S_S1x1000000) : I₀ F → Iₙ F),
   binary main_call1_call0_call0_v107 main_call1_call0_call0_v111 main_call1_call0_call0_v112 (Host.shrui : Iₙ F → Iₙ F → Iₙ F),
   binary main_call1_call0_call0_v110 main_call1_call0_call0_v112 main_call1_call0_call0_v113 (ori : Iₙ F → Iₙ F → Iₙ F),
   binary main_call1_call0_call0_v108 main_call1_call0_call0_v113 main_call1_call0_call0_v114 (xori : Iₙ F → Iₙ F → Iₙ F)]

/-- One round. -/
def w19 : List (HloOp τ sig (Elt F)) :=
  [binary main_call1_call0_call0_v108 main_call1_call0_call0_v114 main_call1_call0_call0_v115 (addi : Iₙ F → Iₙ F → Iₙ F),
   nullary main_call1_call0_call0_c_29 (constantI S_ 32 29#32),
   unary main_call1_call0_call0_c_29 main_call1_call0_call0_v116 ((broadcastInDim S1x1000000 ![] bcast_S_S1x1000000) : I₀ F → Iₙ F),
   binary main_call1_call0_call0_v114 main_call1_call0_call0_v116 main_call1_call0_call0_v117 (Host.shli : Iₙ F → Iₙ F → Iₙ F),
   nullary main_call1_call0_call0_c_30 (constantI S_ 32 3#32),
   unary main_call1_call0_call0_c_30 main_call1_call0_call0_v118 ((broadcastInDim S1x1000000 ![] bcast_S_S1x1000000) : I₀ F → Iₙ F),
   binary main_call1_call0_call0_v114 main_call1_call0_call0_v118 main_call1_call0_call0_v119 (Host.shrui : Iₙ F → Iₙ F → Iₙ F),
   binary main_call1_call0_call0_v117 main_call1_call0_call0_v119 main_call1_call0_call0_v120 (ori : Iₙ F → Iₙ F → Iₙ F),
   binary main_call1_call0_call0_v115 main_call1_call0_call0_v120 main_call1_call0_call0_v121 (xori : Iₙ F → Iₙ F → Iₙ F)]

/-- One round. -/
def w20 : List (HloOp τ sig (Elt F)) :=
  [binary main_call1_call0_call0_v115 main_call1_call0_call0_v121 main_call1_call0_call0_v122 (addi : Iₙ F → Iₙ F → Iₙ F),
   nullary main_call1_call0_call0_c_31 (constantI S_ 32 16#32),
   unary main_call1_call0_call0_c_31 main_call1_call0_call0_v123 ((broadcastInDim S1x1000000 ![] bcast_S_S1x1000000) : I₀ F → Iₙ F),
   binary main_call1_call0_call0_v121 main_call1_call0_call0_v123 main_call1_call0_call0_v124 (Host.shli : Iₙ F → Iₙ F → Iₙ F),
   nullary main_call1_call0_call0_c_32 (constantI S_ 32 16#32),
   unary main_call1_call0_call0_c_32 main_call1_call0_call0_v125 ((broadcastInDim S1x1000000 ![] bcast_S_S1x1000000) : I₀ F → Iₙ F),
   binary main_call1_call0_call0_v121 main_call1_call0_call0_v125 main_call1_call0_call0_v126 (Host.shrui : Iₙ F → Iₙ F → Iₙ F),
   binary main_call1_call0_call0_v124 main_call1_call0_call0_v126 main_call1_call0_call0_v127 (ori : Iₙ F → Iₙ F → Iₙ F),
   binary main_call1_call0_call0_v122 main_call1_call0_call0_v127 main_call1_call0_call0_v128 (xori : Iₙ F → Iₙ F → Iₙ F)]

/-- One round. -/
def w21 : List (HloOp τ sig (Elt F)) :=
  [binary main_call1_call0_call0_v122 main_call1_call0_call0_v128 main_call1_call0_call0_v129 (addi : Iₙ F → Iₙ F → Iₙ F),
   nullary main_call1_call0_call0_c_33 (constantI S_ 32 24#32),
   unary main_call1_call0_call0_c_33 main_call1_call0_call0_v130 ((broadcastInDim S1x1000000 ![] bcast_S_S1x1000000) : I₀ F → Iₙ F),
   binary main_call1_call0_call0_v128 main_call1_call0_call0_v130 main_call1_call0_call0_v131 (Host.shli : Iₙ F → Iₙ F → Iₙ F),
   nullary main_call1_call0_call0_c_34 (constantI S_ 32 8#32),
   unary main_call1_call0_call0_c_34 main_call1_call0_call0_v132 ((broadcastInDim S1x1000000 ![] bcast_S_S1x1000000) : I₀ F → Iₙ F),
   binary main_call1_call0_call0_v128 main_call1_call0_call0_v132 main_call1_call0_call0_v133 (Host.shrui : Iₙ F → Iₙ F → Iₙ F),
   binary main_call1_call0_call0_v131 main_call1_call0_call0_v133 main_call1_call0_call0_v134 (ori : Iₙ F → Iₙ F → Iₙ F),
   binary main_call1_call0_call0_v129 main_call1_call0_call0_v134 main_call1_call0_call0_v135 (xori : Iₙ F → Iₙ F → Iₙ F)]

/-- Keys mixed in. -/
def w22 : List (HloOp τ sig (Elt F)) :=
  [unary main_call1_call0_v6 main_call1_call0_call0_v136 ((broadcastInDim S1x1000000 ![] bcast_S_S1x1000000) : I₀ F → Iₙ F),
   binary main_call1_call0_call0_v129 main_call1_call0_call0_v136 main_call1_call0_call0_v137 (addi : Iₙ F → Iₙ F → Iₙ F),
   unary main_call1_call0_call0_v1 main_call1_call0_call0_v138 ((broadcastInDim S1x1000000 ![] bcast_S_S1x1000000) : I₀ F → Iₙ F),
   binary main_call1_call0_call0_v135 main_call1_call0_call0_v138 main_call1_call0_call0_v139 (addi : Iₙ F → Iₙ F → Iₙ F),
   nullary main_call1_call0_call0_c_35 (constantI S_ 32 4#32),
   unary main_call1_call0_call0_c_35 main_call1_call0_call0_v140 ((broadcastInDim S1x1000000 ![] bcast_S_S1x1000000) : I₀ F → Iₙ F),
   binary main_call1_call0_call0_v139 main_call1_call0_call0_v140 main_call1_call0_call0_v141 (addi : Iₙ F → Iₙ F → Iₙ F)]

/-- One round. -/
def w23 : List (HloOp τ sig (Elt F)) :=
  [binary main_call1_call0_call0_v137 main_call1_call0_call0_v141 main_call1_call0_call0_v142 (addi : Iₙ F → Iₙ F → Iₙ F),
   nullary main_call1_call0_call0_c_36 (constantI S_ 32 13#32),
   unary main_call1_call0_call0_c_36 main_call1_call0_call0_v143 ((broadcastInDim S1x1000000 ![] bcast_S_S1x1000000) : I₀ F → Iₙ F),
   binary main_call1_call0_call0_v141 main_call1_call0_call0_v143 main_call1_call0_call0_v144 (Host.shli : Iₙ F → Iₙ F → Iₙ F),
   nullary main_call1_call0_call0_c_37 (constantI S_ 32 19#32),
   unary main_call1_call0_call0_c_37 main_call1_call0_call0_v145 ((broadcastInDim S1x1000000 ![] bcast_S_S1x1000000) : I₀ F → Iₙ F),
   binary main_call1_call0_call0_v141 main_call1_call0_call0_v145 main_call1_call0_call0_v146 (Host.shrui : Iₙ F → Iₙ F → Iₙ F),
   binary main_call1_call0_call0_v144 main_call1_call0_call0_v146 main_call1_call0_call0_v147 (ori : Iₙ F → Iₙ F → Iₙ F),
   binary main_call1_call0_call0_v142 main_call1_call0_call0_v147 main_call1_call0_call0_v148 (xori : Iₙ F → Iₙ F → Iₙ F)]

/-- One round. -/
def w24 : List (HloOp τ sig (Elt F)) :=
  [binary main_call1_call0_call0_v142 main_call1_call0_call0_v148 main_call1_call0_call0_v149 (addi : Iₙ F → Iₙ F → Iₙ F),
   nullary main_call1_call0_call0_c_38 (constantI S_ 32 15#32),
   unary main_call1_call0_call0_c_38 main_call1_call0_call0_v150 ((broadcastInDim S1x1000000 ![] bcast_S_S1x1000000) : I₀ F → Iₙ F),
   binary main_call1_call0_call0_v148 main_call1_call0_call0_v150 main_call1_call0_call0_v151 (Host.shli : Iₙ F → Iₙ F → Iₙ F),
   nullary main_call1_call0_call0_c_39 (constantI S_ 32 17#32),
   unary main_call1_call0_call0_c_39 main_call1_call0_call0_v152 ((broadcastInDim S1x1000000 ![] bcast_S_S1x1000000) : I₀ F → Iₙ F),
   binary main_call1_call0_call0_v148 main_call1_call0_call0_v152 main_call1_call0_call0_v153 (Host.shrui : Iₙ F → Iₙ F → Iₙ F),
   binary main_call1_call0_call0_v151 main_call1_call0_call0_v153 main_call1_call0_call0_v154 (ori : Iₙ F → Iₙ F → Iₙ F),
   binary main_call1_call0_call0_v149 main_call1_call0_call0_v154 main_call1_call0_call0_v155 (xori : Iₙ F → Iₙ F → Iₙ F)]

/-- One round. -/
def w25 : List (HloOp τ sig (Elt F)) :=
  [binary main_call1_call0_call0_v149 main_call1_call0_call0_v155 main_call1_call0_call0_v156 (addi : Iₙ F → Iₙ F → Iₙ F),
   nullary main_call1_call0_call0_c_40 (constantI S_ 32 26#32),
   unary main_call1_call0_call0_c_40 main_call1_call0_call0_v157 ((broadcastInDim S1x1000000 ![] bcast_S_S1x1000000) : I₀ F → Iₙ F),
   binary main_call1_call0_call0_v155 main_call1_call0_call0_v157 main_call1_call0_call0_v158 (Host.shli : Iₙ F → Iₙ F → Iₙ F),
   nullary main_call1_call0_call0_c_41 (constantI S_ 32 6#32),
   unary main_call1_call0_call0_c_41 main_call1_call0_call0_v159 ((broadcastInDim S1x1000000 ![] bcast_S_S1x1000000) : I₀ F → Iₙ F),
   binary main_call1_call0_call0_v155 main_call1_call0_call0_v159 main_call1_call0_call0_v160 (Host.shrui : Iₙ F → Iₙ F → Iₙ F),
   binary main_call1_call0_call0_v158 main_call1_call0_call0_v160 main_call1_call0_call0_v161 (ori : Iₙ F → Iₙ F → Iₙ F),
   binary main_call1_call0_call0_v156 main_call1_call0_call0_v161 main_call1_call0_call0_v162 (xori : Iₙ F → Iₙ F → Iₙ F)]

/-- One round. -/
def w26 : List (HloOp τ sig (Elt F)) :=
  [binary main_call1_call0_call0_v156 main_call1_call0_call0_v162 main_call1_call0_call0_v163 (addi : Iₙ F → Iₙ F → Iₙ F),
   nullary main_call1_call0_call0_c_42 (constantI S_ 32 6#32),
   unary main_call1_call0_call0_c_42 main_call1_call0_call0_v164 ((broadcastInDim S1x1000000 ![] bcast_S_S1x1000000) : I₀ F → Iₙ F),
   binary main_call1_call0_call0_v162 main_call1_call0_call0_v164 main_call1_call0_call0_v165 (Host.shli : Iₙ F → Iₙ F → Iₙ F),
   nullary main_call1_call0_call0_c_43 (constantI S_ 32 26#32),
   unary main_call1_call0_call0_c_43 main_call1_call0_call0_v166 ((broadcastInDim S1x1000000 ![] bcast_S_S1x1000000) : I₀ F → Iₙ F),
   binary main_call1_call0_call0_v162 main_call1_call0_call0_v166 main_call1_call0_call0_v167 (Host.shrui : Iₙ F → Iₙ F → Iₙ F),
   binary main_call1_call0_call0_v165 main_call1_call0_call0_v167 main_call1_call0_call0_v168 (ori : Iₙ F → Iₙ F → Iₙ F),
   binary main_call1_call0_call0_v163 main_call1_call0_call0_v168 main_call1_call0_call0_v169 (xori : Iₙ F → Iₙ F → Iₙ F)]

/-- Keys mixed in. -/
def w27 : List (HloOp τ sig (Elt F)) :=
  [unary main_call1_call0_call0_v1 main_call1_call0_call0_v170 ((broadcastInDim S1x1000000 ![] bcast_S_S1x1000000) : I₀ F → Iₙ F),
   binary main_call1_call0_call0_v163 main_call1_call0_call0_v170 main_call1_call0_v18_0 (addi : Iₙ F → Iₙ F → Iₙ F),
   unary main_call1_call0_v4 main_call1_call0_call0_v172 ((broadcastInDim S1x1000000 ![] bcast_S_S1x1000000) : I₀ F → Iₙ F),
   binary main_call1_call0_call0_v169 main_call1_call0_call0_v172 main_call1_call0_call0_v173 (addi : Iₙ F → Iₙ F → Iₙ F),
   nullary main_call1_call0_call0_c_44 (constantI S_ 32 5#32),
   unary main_call1_call0_call0_c_44 main_call1_call0_call0_v174 ((broadcastInDim S1x1000000 ![] bcast_S_S1x1000000) : I₀ F → Iₙ F),
   binary main_call1_call0_call0_v173 main_call1_call0_call0_v174 main_call1_call0_v18_1 (addi : Iₙ F → Iₙ F → Iₙ F)]

/-- The bits to the noise. -/
def w28 : List (HloOp τ sig (Elt F)) :=
  [binary main_call1_call0_v18_0 main_call1_call0_v18_1 main_call1_call0_v19 (xori : Iₙ F → Iₙ F → Iₙ F),
   nullary main_call1_call0_c_2 (constantI S_ 32 9#32),
   unary main_call1_call0_c_2 main_call1_call0_v20 ((broadcastInDim S1x1000000 ![] bcast_S_S1x1000000) : I₀ F → Iₙ F),
   binary main_call1_call0_v19 main_call1_call0_v20 main_call1_call0_v21 (Host.shrui : Iₙ F → Iₙ F → Iₙ F),
   nullary main_call1_call0_c_3 (constantI S_ 32 1065353216#32),
   unary main_call1_call0_c_3 main_call1_call0_v22 ((broadcastInDim S1x1000000 ![] bcast_S_S1x1000000) : I₀ F → Iₙ F),
   binary main_call1_call0_v21 main_call1_call0_v22 main_call1_call0_v23 (ori : Iₙ F → Iₙ F → Iₙ F),
   unary main_call1_call0_v23 main_call1_call0_v24 ((bitcastToFloat .f32) : Iₙ F → Rₙ F),
   nullary main_call1_call0_cst (constant S_ .f32 0x3F800000#32),
   unary main_call1_call0_cst main_call1_call0_v25 ((broadcastInDim S1x1000000 ![] bcast_S_S1x1000000) : R₀ F → Rₙ F),
   binary main_call1_call0_v24 main_call1_call0_v25 main_call1_call0_v26 (subf : Rₙ F → Rₙ F → Rₙ F),
   binary main_call1_call0_v2 main_call1_call0_v1 main_call1_call0_v27 (subf : R₁₁ F → R₁₁ F → R₁₁ F),
   unary main_call1_call0_v27 main_call1_call0_v28 ((broadcastInDim S1x1000000 ![0, 1] bcast_S1x1_S1x1000000_0_1) : R₁₁ F → Rₙ F),
   binary main_call1_call0_v26 main_call1_call0_v28 main_call1_call0_v29 (mulf : Rₙ F → Rₙ F → Rₙ F),
   unary main_call1_call0_v1 main_call1_call0_v30 ((broadcastInDim S1x1000000 ![0, 1] bcast_S1x1_S1x1000000_0_1) : R₁₁ F → Rₙ F),
   binary main_call1_call0_v29 main_call1_call0_v30 main_call1_call0_v31 (addf : Rₙ F → Rₙ F → Rₙ F),
   unary main_call1_call0_v1 main_call1_call0_v32 ((broadcastInDim S1x1000000 ![0, 1] bcast_S1x1_S1x1000000_0_1) : R₁₁ F → Rₙ F),
   binary main_call1_call0_v32 main_call1_call0_v31 main_call1_v0 (maximumf : Rₙ F → Rₙ F → Rₙ F),
   unary main_call1_v0 main_call1_v1 (Host.log : Rₙ F → Rₙ F),
   unary main_call1_v1 main_call1_v2 (Host.negf : Rₙ F → Rₙ F),
   unary main_call1_v2 main_call1_v3 (Host.log : Rₙ F → Rₙ F),
   unary main_call1_v3 main_v23 (Host.negf : Rₙ F → Rₙ F)]

/-- The sample and its logarithmic probability; the result. -/
def w29 : List (HloOp τ sig (Elt F)) :=
  [binary main_v23 main_arg0 main_v24 (addf : Rₙ F → Rₙ F → Rₙ F),
   nullary main_call2_v0 (iotaInDim S1x1000000 32 1),
   nullary main_call2_cst (constant S_ .f32 0xFF800000#32),
   nullary main_call2_c (constantI S_ 32 0#32),
   quaternary main_v24 main_call2_v0 main_call2_cst main_call2_c main_call2_v1_0 ((fun x y u v j => (Host.argReduce reducer_argmax_f32_i32 x y u v reducesTo_S1x1000000_S1_d1 h_S_ j).1) : Rₙ F → Iₙ F → R₀ F → I₀ F → R₁ F),
   quaternary main_v24 main_call2_v0 main_call2_cst main_call2_c main_v25 ((fun x y u v j => (Host.argReduce reducer_argmax_f32_i32 x y u v reducesTo_S1x1000000_S1_d1 h_S_ j).2) : Rₙ F → Iₙ F → R₀ F → I₀ F → I₁ F),
   unary main_v25 main_v26 (broadcastInDim S1x1 ![0] bcast_S1_S1x1_0 : I₁ F → I₁₁ F),
   nullary main_call3_c (constantI S_ 32 0#32),
   unary main_call3_c main_call3_v0 ((broadcastInDim S1x1 ![] bcast_S_S1x1) : I₀ F → I₁₁ F),
   binary main_v26 main_call3_v0 main_call3_v1 ((cmpi .slt) : I₁₁ F → I₁₁ F → B₁₁ F),
   nullary main_call3_c_0 (constantI S_ 32 1000000#32),
   unary main_call3_c_0 main_call3_v2 ((broadcastInDim S1x1 ![] bcast_S_S1x1) : I₀ F → I₁₁ F),
   binary main_v26 main_call3_v2 main_call3_v3 (addi : I₁₁ F → I₁₁ F → I₁₁ F),
   ternary main_call3_v1 main_call3_v3 main_v26 main_call3_v4 (select : B₁₁ F → I₁₁ F → I₁₁ F → I₁₁ F),
   nullary main_call3_c_1 (constantI S1 32 999999#32),
   nullary main_call3_c_2 (constantI S_ 32 0#32),
   unary main_call3_c_2 main_call3_v5 ((broadcastInDim S1x1 ![] bcast_S_S1x1) : I₀ F → I₁₁ F),
   binary main_call3_v4 main_call3_v5 main_call3_v6 ((cmpi .sge) : I₁₁ F → I₁₁ F → B₁₁ F),
   unary main_call3_c_1 main_call3_v7 ((broadcastInDim S1x1 ![1] bcast_S1_S1x1_1) : I₁ F → I₁₁ F),
   binary main_call3_v4 main_call3_v7 main_call3_v8 ((cmpi .sle) : I₁₁ F → I₁₁ F → B₁₁ F),
   binary main_call3_v6 main_call3_v8 main_call3_v9 (andi : B₁₁ F → B₁₁ F → B₁₁ F),
   nullary main_call3_c_3 (constantI S_ 1 1#1),
   binary main_call3_v9 main_call3_c_3 main_call3_v10 ((fun x v => Host.reduce IntOp.andi x v reducesTo_S1x1_S1_d1 h_S_) : B₁₁ F → B₀ F → B₁ F),
   binary main_v14 main_call3_v4 main_call3_v11 ((fun x i => Host.gather gather_S1x1000000_S1x1_S1x1_0_1_n_n_1_1_11 x i) : Rₙ F → I₁₁ F → R₁₁ F),
   unary main_call3_v10 main_call3_v12 ((broadcastInDim S1x1 ![1] bcast_S1_S1x1_1) : B₁ F → B₁₁ F),
   nullary main_call3_cst (constant S_ .f32 0x7FC00000#32),
   unary main_call3_cst main_call3_v13 ((broadcastInDim S1x1 ![] bcast_S_S1x1) : R₀ F → R₁₁ F),
   ternary main_call3_v12 main_call3_v11 main_call3_v13 main_v27 (select : B₁₁ F → R₁₁ F → R₁₁ F → R₁₁ F),
   reshape main_v27 main_v28 (rfl : (.f32 : EltTy) = .f32) shapeCasts_S1x1_S1,
   unary main_v28 main_v29 (broadcastInDim S1x1 ![1] bcast_S1_S1x1_1 : R₁ F → R₁₁ F),
   unary main_v29 main_v30 (broadcastInDim S1x1000000 ![0, 1] bcast_S1x1_S1x1000000_0_1 : R₁₁ F → Rₙ F),
   binary main_v30 main_v15 main_v31 (addf : Rₙ F → Rₙ F → Rₙ F),
   binary main_v31 main_v14 main_v32 (addf : Rₙ F → Rₙ F → Rₙ F)]

/-- All of them, in order. -/
def ops : List (HloOp τ sig (Elt F)) := [w0, w1, w2, w3, w4, w5, w6, w7, w8, w9, w10, w11, w12, w13, w14, w15, w16, w17, w18, w19, w20, w21, w22, w23, w24, w25, w26, w27, w28, w29].flatten

/-- One operation of the line comes off both sides. -/
theorem step {Λ : Labels} {op : HloOp τ sig (Elt F)} {o : List (HloOp τ sig (Elt F))} {k : Prog (TpuEff nD τ sig (Elt F) Λ .tc) PUnit}
    (h : k = seq o) : (((hlo rfl op fun _ => .ret ⟨⟩) : Prog (TpuEff nD τ sig (Elt F) Λ .tc) PUnit) >>= fun _ => k) = seq (op :: o) := by
  subst h; rfl

set_option maxRecDepth 20000 in
set_option maxHeartbeats 2000000 in
theorem main_eq (d : Dev nD) : main (F := F) d = seq ops := by
  unfold main fn_where.body fn_gumbel.body fn_uniform.body fn_threefry2x32.body fn_threefry2x32.body_part0 fn_threefry2x32.body_part1 fn_threefry2x32.body_part2 fn_threefry2x32.body_part3 fn_argmax.body fn_take_along_axis.body
  simp only [bind_assoc, pure_bind]
  unfold ops
  iterate 332 (refine step ?_)
  rfl

theorem w0_sub : (w0 (F := F)).Forall fun op => op.bufs ⊆ tcRefs τ sig :=
  ⟨nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub ..⟩
theorem w1_sub : (w1 (F := F)).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
theorem w2_sub : (w2 (F := F)).Forall fun op => op.bufs ⊆ tcRefs τ sig :=
  ⟨binary_bufs_sub .., nullary_bufs_sub .., binary_bufs_sub .., unary_bufs_sub .., binary_bufs_sub .., unary_bufs_sub .., binary_bufs_sub ..⟩
theorem w3_sub : (w3 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w4_sub : (w4 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w5_sub : (w5 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w6_sub : (w6 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w7_sub : (w7 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w8_sub : (w8 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w9_sub : (w9 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w10_sub : (w10 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w11_sub : (w11 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w12_sub : (w12 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w13_sub : (w13 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w14_sub : (w14 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w15_sub : (w15 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w16_sub : (w16 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w17_sub : (w17 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w18_sub : (w18 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w19_sub : (w19 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w20_sub : (w20 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w21_sub : (w21 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w22_sub : (w22 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w23_sub : (w23 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w24_sub : (w24 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w25_sub : (w25 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w26_sub : (w26 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w27_sub : (w27 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w28_sub : (w28 (F := F)).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩
theorem w29_sub : (w29 (F := F)).Forall fun op => op.bufs ⊆ tcRefs τ sig :=
  ⟨binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., binary_bufs_sub ..⟩

theorem ops_sub : (ops (F := F)).Forall fun op => op.bufs ⊆ tcRefs τ sig := List.forall_iff_forall_mem.mpr fun op h => by
  obtain ⟨w, hw, ho⟩ := List.mem_flatten.mp h
  exact List.forall_iff_forall_mem.mp (List.forall_iff_forall_mem.mp
    (show List.Forall (fun w : List (HloOp τ sig (Elt F)) => w.Forall fun op => op.bufs ⊆ tcRefs τ sig) [w0, w1, w2, w3, w4, w5, w6, w7, w8, w9, w10, w11, w12, w13, w14, w15, w16, w17, w18, w19, w20, w21, w22, w23, w24, w25, w26, w27, w28, w29] from
      ⟨w0_sub, w1_sub, w2_sub, w3_sub, w4_sub, w5_sub, w6_sub, w7_sub, w8_sub, w9_sub, w10_sub, w11_sub, w12_sub, w13_sub, w14_sub, w15_sub, w16_sub, w17_sub, w18_sub, w19_sub, w20_sub, w21_sub, w22_sub, w23_sub, w24_sub, w25_sub, w26_sub, w27_sub, w28_sub, w29_sub⟩) w hw) op ho

theorem ops_fresh : ∀ op ∈ (ops (F := F)), op.fresh = ∅ :=
  List.forall_iff_forall_mem.mp (forall_fresh_of_map rfl)

end Cert.Proof.RefHost

end
-- ==== Proof.Plain.lean ====
/-
  The reference's two ends as plain functions: the normalized logits and the probabilities before the noise, and after
  it the place of the largest score, the logit there, and the sum of the three.
-/
module

public import proofs.«01_k».proof.Proof.RefHost

@[expose] public section

noncomputable section

namespace Cert.Proof.Plain

open Cert.ReferenceIdeal Cert.ReferenceIdeal.Gen
open Idealize.ShloMosaic Idealize.ShloMosaic.TcCoe Idealize.ShloMosaic.StableHlo
open Cert.Proof.RefHost

variable {F : FTy → Type} [FloatOps F]

/-- The largest element. -/
def peak (x : Rₙ F) : R₁₁ F := broadcastInDim S1x1 ![0] bcast_S1_S1x1_0
  (Host.reduce FloatOps.maximumf x (constant S_ .f32 0xFF800000#32 : R₀ F) reducesTo_S1x1000000_S1_d1 h_S_ : R₁ F)

/-- It, where it is finite. -/
def finite (a : R₁₁ F) : R₁₁ F :=
  select (cmpf .olt (Host.absf a : R₁₁ F) (broadcastInDim S1x1 ![] bcast_S_S1x1 (constant S_ .f32 0x7F800000#32 : R₀ F)) : B₁₁ F) a
    (broadcastInDim S1x1 ![] bcast_S_S1x1 (constant S_ .f32 0x00000000#32 : R₀ F))

/-- The logarithm of the sum, taken at a distance `a`. -/
def total (x : Rₙ F) (a : R₁₁ F) : R₁₁ F :=
  addf (Host.log (broadcastInDim S1x1 ![0] bcast_S1_S1x1_0 (Host.reduceAdd (Host.exp (subf x (broadcastInDim S1x1000000 ![0, 1] bcast_S1x1_S1x1000000_0_1 a)))
    (constant S_ .f32 0x00000000#32 : R₀ F) reducesTo_S1x1000000_S1_d1 h_S_ : R₁ F) : R₁₁ F)) a

def norm (x : Rₙ F) : Rₙ F := subf x (broadcastInDim S1x1000000 ![0, 1] bcast_S1x1_S1x1000000_0_1 (total x (finite (peak x))))

theorem w0_val (V : Valuation τ sig (Elt F)) :
    after w0 V main_v14 = norm (V main_arg0) ∧ after w0 V main_v15 = (Host.exp (norm (V main_arg0)) : Rₙ F) := by
  constructor <;> (unfold w0; after_results_simp; rfl)

/-- The place of the largest score. -/
def place (h : Rₙ F) : I₁ F := fun j =>
  (Host.argReduce reducer_argmax_f32_i32 h (iotaInDim S1x1000000 32 1) (constant S_ .f32 0xFF800000#32 : R₀ F) (constantI S_ 32 0#32) reducesTo_S1x1000000_S1_d1 h_S_ j).2

/-- A place counted from the end, taken from the start. -/
def wrapped (k : I₁₁ F) : I₁₁ F :=
  select (cmpi .slt k (broadcastInDim S1x1 ![] bcast_S_S1x1 (constantI S_ 32 0#32 : I₀ F)) : B₁₁ F)
    (addi k (broadcastInDim S1x1 ![] bcast_S_S1x1 (constantI S_ 32 1000000#32 : I₀ F))) k

/-- Whether the place is one. -/
def valid (k : I₁₁ F) : B₁₁ F := broadcastInDim S1x1 ![1] bcast_S1_S1x1_1 (Host.reduce IntOp.andi
  (andi (cmpi .sge k (broadcastInDim S1x1 ![] bcast_S_S1x1 (constantI S_ 32 0#32 : I₀ F)) : B₁₁ F)
    (cmpi .sle k (broadcastInDim S1x1 ![1] bcast_S1_S1x1_1 (constantI S1 32 999999#32 : I₁ F)) : B₁₁ F) : B₁₁ F)
  (constantI S_ 1 1#1 : B₀ F) reducesTo_S1x1_S1_d1 h_S_ : B₁ F)

/-- The element there. -/
def taken (y : Rₙ F) (k : I₁₁ F) : R₁₁ F :=
  select (valid (F := F) k) (Host.gather gather_S1x1000000_S1x1_S1x1_0_1_n_n_1_1_11 y k : R₁₁ F)
    (broadcastInDim S1x1 ![] bcast_S_S1x1 (constant S_ .f32 0x7FC00000#32 : R₀ F))

/-- The element at the place, and the sum of the three. -/
def picked (y : Rₙ F) (k : I₁ F) : R₁₁ F := taken y (wrapped (F := F) (broadcastInDim S1x1 ![0] bcast_S1_S1x1_0 k))
def sum3 (t : R₁₁ F) (p y : Rₙ F) : Rₙ F :=
  addf (addf (broadcastInDim S1x1000000 ![0, 1] bcast_S1x1_S1x1000000_0_1 (broadcastInDim S1x1 ![1] bcast_S1_S1x1_1 (shapeCast S1 t shapeCasts_S1x1_S1 : R₁ F))) p) y

theorem w29_val (W : Valuation τ sig (Elt F)) :
    after w29 W main_v32 = sum3 (picked (W main_v14) (place (addf (W main_v23 : Rₙ F) (W main_arg0 : Rₙ F)))) (W main_v15) (W main_v14) := by
  unfold w29; after_results_simp; rfl

end Cert.Proof.Plain

end
-- ==== Proof.Best.lean ====
/-
  What one running entry keeps of the elements it has seen: the sum of their exponentials, the largest score, and the
  first element that has it.  One element more, and two entries made one.
-/
module

public import Idealize.ShloMosaic.PureOps.Ideal

@[expose] public section

noncomputable section

namespace Cert.Proof.Value

open Idealize.ShloMosaic

/-- An entry over the elements `A`, of values `x` and scores `h`: the sum `s`, the largest score `m` and, if there is a
    score above `⊥`, the value `t` and number `i` of the first element that has the largest. -/
structure Entry (x h : ℕ → EReal) (A : Finset ℕ) (s m t : EReal) (i : BitVec 32) : Prop where
  below : ∀ n ∈ A, n < 1000000
  sum : s = ∑ n ∈ A, Ideal.exp (x n)
  max : m = A.sup h
  first : m ≠ ⊥ → ∃ k ∈ A, i = BitVec.ofNat 32 k ∧ t = x k ∧ h k = m ∧ ∀ n ∈ A, h n = m → k ≤ n

variable {x h : ℕ → EReal} {A B : Finset ℕ} {s m t s' m' t' : EReal} {i i' : BitVec 32}

theorem Entry.empty : Entry x h ∅ 0 ⊥ t i :=
  ⟨fun _ hn => absurd hn (Finset.notMem_empty _), by simp, by simp, fun hb => absurd rfl hb⟩

theorem Entry.le (e : Entry x h A s m t i) {n : ℕ} (hn : n ∈ A) : h n ≤ m := e.max ▸ Finset.le_sup hn

open Classical in
/-- One element more, above all seen. -/
theorem Entry.take (e : Entry x h A s m t i) {n : ℕ} (hn : n < 1000000) (hA : ∀ k ∈ A, k < n) :
    Entry x h (insert n A) (s + Ideal.exp (x n)) (Max.max (h n) m) (if m < h n then x n else t)
      (if m < h n then BitVec.ofNat 32 n else i) := by
  have hnA : n ∉ A := fun hm => lt_irrefl _ (hA n hm)
  refine ⟨?_, ?_, ?_, ?_⟩
  · intro k hk
    rcases Finset.mem_insert.mp hk with rfl | hk
    · exact hn
    · exact e.below k hk
  · rw [Finset.sum_insert hnA, e.sum, add_comm]
  · rw [Finset.sup_insert, e.max]
  · intro hb
    by_cases hlt : m < h n
    · simp only [hlt, if_true, max_eq_left hlt.le]
      refine ⟨n, Finset.mem_insert_self _ _, rfl, rfl, rfl, fun k hk hkm => ?_⟩
      rcases Finset.mem_insert.mp hk with rfl | hk
      · exact le_refl _
      · exact absurd (e.le hk) (by rw [hkm]; exact not_le.mpr hlt)
    · simp only [hlt, if_false, max_eq_right (not_lt.mp hlt)] at hb ⊢
      obtain ⟨k, hk, h1, h2, h3, h4⟩ := e.first hb
      refine ⟨k, Finset.mem_insert_of_mem hk, h1, h2, h3, fun j hj hjm => ?_⟩
      rcases Finset.mem_insert.mp hj with rfl | hj
      · exact (hA k hk).le
      · exact h4 j hj hjm

/-- Numbers below a million, as signed words, compare as they are. -/
theorem slt_ofNat {a b : ℕ} (ha : a < 1000000) (hb : b < 1000000) : (BitVec.ofNat 32 a).slt (BitVec.ofNat 32 b) = decide (a < b) := by
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

open Classical in
/-- Two entries over different elements made one: the second's element if its score is larger, or the same and the
    element earlier. -/
theorem Entry.merge (e : Entry x h A s m t i) (f : Entry x h B s' m' t' i') (hd : Disjoint A B) :
    Entry x h (A ∪ B) (s + s') (Max.max m m') (if m < m' ∨ m' = m ∧ i'.slt i then t' else t)
      (if m < m' ∨ m' = m ∧ i'.slt i then i' else i) := by
  refine ⟨?_, ?_, ?_, ?_⟩
  · intro k hk
    rcases Finset.mem_union.mp hk with hk | hk
    · exact e.below k hk
    · exact f.below k hk
  · rw [Finset.sum_union hd, e.sum, f.sum]
  · rw [Finset.sup_union, e.max, f.max]
  · intro hb
    rcases lt_trichotomy m m' with hlt | heq | hgt
    · rw [max_eq_right hlt.le] at hb ⊢
      simp only [hlt, true_or, if_true]
      obtain ⟨k, hk, h1, h2, h3, h4⟩ := f.first hb
      refine ⟨k, Finset.mem_union_right _ hk, h1, h2, h3, fun j hj hjm => ?_⟩
      rcases Finset.mem_union.mp hj with hj | hj
      · exact absurd (e.le hj) (by rw [hjm]; exact not_le.mpr hlt)
      · exact h4 j hj hjm
    · subst heq
      rw [max_self] at hb ⊢
      obtain ⟨k, hk, h1, h2, h3, h4⟩ := e.first hb
      obtain ⟨k', hk', h1', h2', h3', h4'⟩ := f.first hb
      have hs : (i'.slt i = true) ↔ k' < k := by
        rw [h1, h1', slt_ofNat (f.below _ hk') (e.below _ hk)]; simp
      simp only [lt_irrefl, false_or, true_and, hs]
      by_cases hkk : k' < k
      · simp only [hkk, if_true]
        refine ⟨k', Finset.mem_union_right _ hk', h1', h2', h3', fun j hj hjm => ?_⟩
        rcases Finset.mem_union.mp hj with hj | hj
        · exact hkk.le.trans (h4 j hj hjm)
        · exact h4' j hj hjm
      · simp only [hkk, if_false]
        refine ⟨k, Finset.mem_union_left _ hk, h1, h2, h3, fun j hj hjm => ?_⟩
        rcases Finset.mem_union.mp hj with hj | hj
        · exact h4 j hj hjm
        · exact (not_lt.mp hkk).trans (h4' j hj hjm)
    · rw [max_eq_left hgt.le] at hb ⊢
      have hno : ¬ (m < m' ∨ m' = m ∧ i'.slt i = true) := fun h => h.elim (fun h => lt_asymm h hgt) (fun h => absurd h.1 hgt.ne)
      simp only [hno, if_false]
      obtain ⟨k, hk, h1, h2, h3, h4⟩ := e.first hb
      refine ⟨k, Finset.mem_union_left _ hk, h1, h2, h3, fun j hj hjm => ?_⟩
      rcases Finset.mem_union.mp hj with hj | hj
      · exact h4 j hj hjm
      · exact absurd (f.le hj) (by rw [hjm]; exact not_le.mpr hgt)

end Cert.Proof.Value

end
-- ==== Proof.Setup.lean ====
/-
  What the launch of the kernel is proved over: the program as the launch theorem sees it, the resource algebra (the
  handshakes' rounds, the pipelined kernel's staging cells, the transfers' counters), and the buffers the SparseCore
  call and the kernel after it work on.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen Cert.KernelIdeal.Facts₀
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's staging cells, the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

/-- Location of a TensorCore buffer on device `d`. -/
abbrev aLoc (d : Dev nD) : Loc nD τ sig := (SparseCore.T d).loc main_arg0
abbrev xLoc (d : Dev nD) : Loc nD τ sig := (SparseCore.T d).loc main_v0
abbrev gLoc (d : Dev nD) : Loc nD τ sig := (SparseCore.T d).loc main_v9
abbrev oLoc (d : Dev nD) : Loc nD τ sig := (SparseCore.T d).loc main_v10

end Cert.Proof.Run

end
-- ==== Proof.Spec.lean ====
/-
  What one task of the SparseCore call computes, as plain functions of the two arrays it reads: `vx`, the logits, and
  `vg`, the noise.  Task `w` of 32 walks the elements from `w * 31248` on in vectors of sixteen lanes, dealt in turn to
  three accumulators; each accumulator keeps, lane by lane, the sum of exponentials, the largest of logit plus noise,
  and the logit and the index at which it was found.
-/
module

public import proofs.«01_k».proof.Proof.Setup

@[expose] public section

noncomputable section

namespace Cert.Proof.Run

open Cert.KernelIdeal Cert.KernelIdeal.Gen
open Idealize.ShloMosaic

variable {F : FTy → Type} [FloatOps F]

/-- Element `n` of a vector of a million. -/
def ixN (n : ℕ) : S1000000.Idx := fun a => ⟨n % 1000000, by
  have h : S1000000.size a = 1000000 := by fin_cases a; rfl
  rw [h]; omega⟩

/-- Lane `l` of a vector of sixteen. -/
def lane (l : ℕ) : S16.Idx := fun a => ⟨l % 16, by
  have h : S16.size a = 16 := by fin_cases a; rfl
  rw [h]; omega⟩

/-- The sixteen elements from position `n` on. -/
def vecAt {α : Type} (v : S1000000.Idx → α) (n : ℕ) : S16.Idx → α := fun l => v (ixN (n + (l 0).val))

/-- The indices of the sixteen elements from position `n` on. -/
def idxVec (n : ℕ) : IVec S16 32 := addi (broadcast S16 (BitVec.ofNat 32 n)) (iota .scVector S16 32 [0] iota_S16_d0_w32_scVector)

variable (F) in
/-- One accumulator. -/
structure Acc where
  sum : FVec F S16 .f32
  max : FVec F S16 .f32
  xat : FVec F S16 .f32
  iat : IVec S16 32

/-- One vector taken into an accumulator. -/
def step (n : ℕ) (x g : FVec F S16 .f32) (a : Acc F) : Acc F where
  sum := addf a.sum (exp x)
  max := maximumf (addf x g) a.max
  xat := select (cmpf .ogt (addf x g) a.max) x a.xat
  iat := select (cmpf .ogt (addf x g) a.max) (idxVec n) a.iat

/-- The vector at position `n` of the two arrays taken into an accumulator. -/
def inc (vx vg : S1000000.Idx → F .f32) (n : ℕ) (a : Acc F) : Acc F := step n (vecAt vx n) (vecAt vg n) a

/-- An accumulator before any vector. -/
def acc₀ : Acc F := ⟨k0_pay37, k0_pay36, k0_pay37, k0_pay38⟩

/-- The accumulators after `k` trips of task `w`. -/
def accs (vx vg : S1000000.Idx → F .f32) (w : ℕ) : ℕ → Acc F × Acc F × Acc F
  | 0 => (acc₀, acc₀, acc₀)
  | k + 1 => (inc vx vg (w * 31248 + 48 * k) (accs vx vg w k).1, inc vx vg (w * 31248 + 48 * k + 16) (accs vx vg w k).2.1,
      inc vx vg (w * 31248 + 48 * k + 32) (accs vx vg w k).2.2)

/-- Whether the second of two accumulators has the better entry. -/
def takes (a b : Acc F) : IVec S16 1 := ori (cmpf .ogt b.max a.max) (andi (cmpf .oeq b.max a.max) (cmpi .slt b.iat a.iat))

/-- Two accumulators made one. -/
def merge (a b : Acc F) : Acc F where
  sum := addf a.sum b.sum
  max := maximumf a.max b.max
  xat := select (takes a b) b.xat a.xat
  iat := select (takes a b) b.iat a.iat

/-- The three accumulators after the walk made one. -/
def merged (vx vg : S1000000.Idx → F .f32) (w : ℕ) : Acc F :=
  merge (merge (accs vx vg w 651).1 (accs vx vg w 651).2.1) (accs vx vg w 651).2.2

/-- The 64 elements no task's walk reaches, taken in by the last task. -/
def withTail (vx vg : S1000000.Idx → F .f32) (a : Acc F) : Acc F :=
  inc vx vg 999984 (inc vx vg 999968 (inc vx vg 999952 (inc vx vg 999936 a)))

/-- What task `w` ends with. -/
def tile (vx vg : S1000000.Idx → F .f32) (w : ℕ) : Acc F := if w = 31 then withTail vx vg (merged vx vg w) else merged vx vg w

/-- An accumulator as the row of 64 the task writes. -/
def rowVal (a : Acc F) (c : ℕ) : F .f32 :=
  if c < 16 then a.sum (lane c) else if c < 32 then a.max (lane (c - 16)) else if c < 48 then a.xat (lane (c - 32))
  else sitofp .f32 a.iat (lane (c - 48))

/-- The partial results of all tasks. -/
def outs (vx vg : S1000000.Idx → F .f32) : S32x64.Idx → F .f32 := fun i => rowVal (tile vx vg (i 0).val) (i 1).val

end Cert.Proof.Run

end
-- ==== Proof.Cover.lean ====
/-
  What each lane of each task's row is at extended reals: the entry over that lane's share of the million elements.
-/
module

public import proofs.«01_k».proof.Proof.Best
public import proofs.«01_k».proof.Proof.Spec

@[expose] public section

noncomputable section

namespace Cert.Proof.Value

open Cert.KernelIdeal Cert.KernelIdeal.Gen
open Idealize.ShloMosaic
open Cert.Proof.Run

theorem sel {α : Type} (p : Prop) [d : Decidable p] (a b : α) : Scalar.select (BitVec.ofBool (decide p)) a b = if p then a else b := by
  by_cases h : p <;> simp [Scalar.select, h]

theorem zero : Ideal.ofBits .f32 0x00000000#32 = 0 := by simp [Ideal.ofBits, Ideal.ieee]
theorem negInf : Ideal.ofBits .f32 0xFF800000#32 = ⊥ := by simp [Ideal.ofBits, Ideal.ieee]

section
variable (vx vg : S1000000.Idx → Ideal .f32)

/-- Element `n`, and its score. -/
def X (n : ℕ) : EReal := vx (ixN n)
def H (n : ℕ) : EReal := vx (ixN n) + vg (ixN n)

/-- Lane `l` of an accumulator is the entry over `A`. -/
def Lane (a : Acc Ideal) (l : ℕ) (A : Finset ℕ) : Prop :=
  Entry (X vx) (H vx vg) A (a.sum (lane l)) (a.max (lane l)) (a.xat (lane l)) (a.iat (lane l))

variable {vx vg}

theorem lane_empty (l : ℕ) : Lane vx vg acc₀ l ∅ := by
  have hs : (acc₀ (F := Ideal)).sum (lane l) = (0 : EReal) := zero
  have hm : (acc₀ (F := Ideal)).max (lane l) = (⊥ : EReal) := negInf
  unfold Lane
  rw [hs, hm]
  exact Entry.empty

theorem lane_val {l : ℕ} (hl : l < 16) : ((lane l) 0).val = l := Nat.mod_eq_of_lt hl

theorem idx_lane (n : ℕ) {l : ℕ} (hl : l < 16) : idxVec n (lane l) = BitVec.ofNat 32 (n + l) := by
  have h : idxVec n (lane l) = BitVec.ofNat 32 n + BitVec.ofNat 32 ((lane l) 0).val := by
    simp [idxVec, addi, IntOp.addi, iota, broadcast]
  rw [h, lane_val hl, BitVec.ofNat_add]

theorem lane_inc {a : Acc Ideal} {l : ℕ} (hl : l < 16) {A : Finset ℕ} (e : Lane vx vg a l A) {n : ℕ} (hn : n + l < 1000000)
    (hA : ∀ k ∈ A, k < n + l) : Lane vx vg (inc vx vg n a) l (insert (n + l) A) := by
  have h := Entry.take e hn hA
  have hx : vecAt vx n (lane l) = X vx (n + l) := by unfold vecAt X; rw [lane_val hl]
  have hg : addf (vecAt vx n) (vecAt vg n) (lane l) = H vx vg (n + l) := by
    show (vecAt vx n (lane l) : EReal) + vecAt vg n (lane l) = _
    unfold vecAt H; rw [lane_val hl]
  unfold Lane
  have h1 : (inc vx vg n a).sum (lane l) = a.sum (lane l) + Ideal.exp (X vx (n + l)) := by rw [← hx]; rfl
  have h2 : (inc vx vg n a).max (lane l) = Max.max (H vx vg (n + l)) (a.max (lane l)) := by rw [← hg]; rfl
  have h3 : (inc vx vg n a).xat (lane l) = if a.max (lane l) < H vx vg (n + l) then X vx (n + l) else a.xat (lane l) := by
    rw [← sel, ← hg, ← hx]; rfl
  have h4 : (inc vx vg n a).iat (lane l) = if a.max (lane l) < H vx vg (n + l) then BitVec.ofNat 32 (n + l) else a.iat (lane l) := by
    rw [← sel, ← hg, ← idx_lane n hl]; rfl
  rw [h1, h2, h3, h4]
  exact h

theorem lane_merge {a b : Acc Ideal} {l : ℕ} {A B : Finset ℕ} (e : Lane vx vg a l A) (f : Lane vx vg b l B) (hd : Disjoint A B) :
    Lane vx vg (merge a b) l (A ∪ B) := by
  have h := Entry.merge e f hd
  have ht : takes a b (lane l) = BitVec.ofBool (decide (a.max (lane l) < b.max (lane l) ∨ b.max (lane l) = a.max (lane l) ∧ (b.iat (lane l)).slt (a.iat (lane l)) = true)) := by
    have : takes a b (lane l) = (BitVec.ofBool (decide ((a.max (lane l) : EReal) < b.max (lane l))) ||| (BitVec.ofBool (decide ((b.max (lane l) : EReal) = a.max (lane l)))
        &&& BitVec.ofBool ((b.iat (lane l)).slt (a.iat (lane l))))) := rfl
    rw [this]
    by_cases h1 : (a.max (lane l) : EReal) < b.max (lane l) <;> by_cases h2 : (b.max (lane l) : EReal) = a.max (lane l) <;>
      cases h3 : (b.iat (lane l)).slt (a.iat (lane l)) <;> simp [h1, h2]
  unfold Lane
  have h3 : (merge a b).xat (lane l) = Scalar.select (takes a b (lane l)) (b.xat (lane l)) (a.xat (lane l)) := rfl
  have h4 : (merge a b).iat (lane l) = Scalar.select (takes a b (lane l)) (b.iat (lane l)) (a.iat (lane l)) := rfl
  rw [h3, h4, ht, sel, sel]
  exact h

end

/-- What the accumulator `c` has seen in lane `l` after `k` trips of task `w`. -/
def seen (w l c k : ℕ) : Finset ℕ :=
  (Finset.range 1000000).filter fun n => n < 999936 ∧ n / 31248 = w ∧ n % 16 = l ∧ n / 16 % 3 = c ∧ n % 31248 < 48 * k

/-- Lane `l`'s share of task `w`'s walk. -/
def walk (w l : ℕ) : Finset ℕ := (Finset.range 1000000).filter fun n => n < 999936 ∧ n / 31248 = w ∧ n % 16 = l

/-- Lane `l`'s share of task `w`. -/
def share (w l : ℕ) : Finset ℕ :=
  (Finset.range 1000000).filter fun n => (n < 999936 ∧ n / 31248 = w ∨ 999936 ≤ n ∧ 31 = w) ∧ n % 16 = l

theorem mem_seen {w l c k n : ℕ} : n ∈ seen w l c k ↔ n < 1000000 ∧ n < 999936 ∧ n / 31248 = w ∧ n % 16 = l ∧ n / 16 % 3 = c ∧ n % 31248 < 48 * k := by
  unfold seen; rw [Finset.mem_filter, Finset.mem_range]
theorem mem_walk {w l n : ℕ} : n ∈ walk w l ↔ n < 1000000 ∧ n < 999936 ∧ n / 31248 = w ∧ n % 16 = l := by
  unfold walk; rw [Finset.mem_filter, Finset.mem_range]
theorem mem_share {w l n : ℕ} : n ∈ share w l ↔ n < 1000000 ∧ (n < 999936 ∧ n / 31248 = w ∨ 999936 ≤ n ∧ 31 = w) ∧ n % 16 = l := by
  unfold share; rw [Finset.mem_filter, Finset.mem_range]

theorem seen_zero (w l c : ℕ) : seen w l c 0 = ∅ := by
  ext n; rw [mem_seen]; simp

theorem seen_succ {w l c k n₀ : ℕ} (hw : w < 32) (hl : l < 16) (hc : c < 3) (hk : k < 651) (h₀ : n₀ = w * 31248 + 48 * k + 16 * c) :
    seen w l c (k + 1) = insert (n₀ + l) (seen w l c k) := by
  ext n; rw [Finset.mem_insert, mem_seen, mem_seen]; omega

theorem seen_lt {w l c k n₀ : ℕ} (hw : w < 32) (hl : l < 16) (hc : c < 3) (h₀ : n₀ = w * 31248 + 48 * k + 16 * c) : ∀ n ∈ seen w l c k, n < n₀ + l := by
  intro n hn; rw [mem_seen] at hn; omega

theorem seen_disjoint {w l c k c' k' : ℕ} (h : c ≠ c') : Disjoint (seen w l c k) (seen w l c' k') := by
  rw [Finset.disjoint_left]; intro n h1 h2; rw [mem_seen] at h1 h2; omega

theorem seen_all {w l : ℕ} (hw : w < 32) (hl : l < 16) : seen w l 0 651 ∪ seen w l 1 651 ∪ seen w l 2 651 = walk w l := by
  ext n; rw [Finset.mem_union, Finset.mem_union, mem_seen, mem_seen, mem_seen, mem_walk]; omega

section
variable {vx vg : S1000000.Idx → Ideal .f32}

theorem accs_lane {w l : ℕ} (hw : w < 32) (hl : l < 16) : ∀ k ≤ 651, Lane vx vg (accs vx vg w k).1 l (seen w l 0 k)
    ∧ Lane vx vg (accs vx vg w k).2.1 l (seen w l 1 k) ∧ Lane vx vg (accs vx vg w k).2.2 l (seen w l 2 k) := by
  intro k
  induction k with
  | zero => intro _; rw [seen_zero, seen_zero, seen_zero]; exact ⟨lane_empty l, lane_empty l, lane_empty l⟩
  | succ k ih =>
    intro hk
    obtain ⟨h0, h1, h2⟩ := ih (by omega)
    rw [seen_succ (n₀ := w * 31248 + 48 * k) hw hl (by decide) (by omega) (by omega),
      seen_succ (n₀ := w * 31248 + 48 * k + 16) hw hl (by decide) (by omega) (by omega),
      seen_succ (n₀ := w * 31248 + 48 * k + 32) hw hl (by decide) (by omega) (by omega)]
    exact ⟨lane_inc hl h0 (by omega) (seen_lt hw hl (by decide) (by omega)), lane_inc hl h1 (by omega) (seen_lt hw hl (by decide) (by omega)),
      lane_inc hl h2 (by omega) (seen_lt hw hl (by decide) (by omega))⟩

theorem merged_lane {w l : ℕ} (hw : w < 32) (hl : l < 16) : Lane vx vg (merged vx vg w) l (walk w l) := by
  obtain ⟨h0, h1, h2⟩ := accs_lane (vx := vx) (vg := vg) hw hl 651 (le_refl _)
  rw [← seen_all hw hl]
  exact lane_merge (lane_merge h0 h1 (seen_disjoint (by decide))) h2
    (Finset.disjoint_union_left.mpr ⟨seen_disjoint (by decide), seen_disjoint (by decide)⟩)

theorem tile_lane {w l : ℕ} (hw : w < 32) (hl : l < 16) : Lane vx vg (tile vx vg w) l (share w l) := by
  have h := merged_lane (vx := vx) (vg := vg) hw hl
  unfold tile
  by_cases hw' : w = 31
  · rw [if_pos hw']
    have e : share w l = insert (999984 + l) (insert (999968 + l) (insert (999952 + l) (insert (999936 + l) (walk w l)))) := by
      ext n; simp only [Finset.mem_insert, mem_walk, mem_share]; omega
    rw [e]
    refine lane_inc hl (lane_inc hl (lane_inc hl (lane_inc hl h ?_ ?_) ?_ ?_) ?_ ?_) ?_ ?_
    all_goals first
      | omega
      | (intro k hk; simp only [Finset.mem_insert, mem_walk] at hk; omega)
  · rw [if_neg hw']
    have e : share w l = walk w l := by
      ext n; simp only [mem_walk, mem_share]; omega
    rw [e]; exact h

end

end Cert.Proof.Value

end
-- ==== Proof.Total.lean ====
/-
  From the entries of the 512 lanes to the whole: the sum of all exponentials, the largest score, and the value of the
  first element that has it.
-/
module

public import proofs.«01_k».proof.Proof.Cover

@[expose] public section

noncomputable section

namespace Cert.Proof.Value

open Cert.KernelIdeal Cert.KernelIdeal.Gen
open Idealize.ShloMosaic
open Cert.Proof.Run

/-- The lane that takes element `n`. -/
def own (n : ℕ) : S32x16.Idx := fun a =>
  match a with
  | ⟨0, _⟩ => ⟨(if n < 999936 then n / 31248 else 31) % 32, Nat.mod_lt _ (by decide)⟩
  | ⟨1, _⟩ => ⟨n % 16, Nat.mod_lt _ (by decide)⟩

theorem w_lt (j : S32x16.Idx) : (j 0).val < 32 := (j 0).isLt
theorem l_lt (j : S32x16.Idx) : (j 1).val < 16 := (j 1).isLt

theorem own_eq (n : ℕ) (j : S32x16.Idx) : own n = j ↔ (if n < 999936 then n / 31248 else 31) % 32 = (j 0).val ∧ n % 16 = (j 1).val := by
  constructor
  · rintro rfl; exact ⟨rfl, rfl⟩
  · intro h; funext a
    match a with
    | ⟨0, _⟩ => exact Fin.ext h.1
    | ⟨1, _⟩ => exact Fin.ext h.2

theorem mem_own {n : ℕ} {j : S32x16.Idx} : n ∈ share (j 0).val (j 1).val ↔ n ∈ Finset.range 1000000 ∧ own n = j := by
  rw [mem_share, own_eq, Finset.mem_range]
  have := w_lt j
  split <;> omega

theorem share_own (j : S32x16.Idx) : share (j 0).val (j 1).val = (Finset.range 1000000).filter fun n => own n = j := by
  ext n; rw [mem_own, Finset.mem_filter]

variable {x h : ℕ → EReal} {s m t : S32x16.Idx → EReal} {i : S32x16.Idx → BitVec 32}
  (e : ∀ j, Entry x h (share (j 0).val (j 1).val) (s j) (m j) (t j) (i j))
include e

theorem total_sum : ∑ j, s j = ∑ n ∈ Finset.range 1000000, Ideal.exp (x n) := by
  rw [← Finset.sum_fiberwise (Finset.range 1000000) own]
  exact Finset.sum_congr rfl fun j _ => by rw [(e j).sum, share_own]

theorem total_max : Finset.univ.sup m = (Finset.range 1000000).sup h := by
  apply le_antisymm
  · refine Finset.sup_le fun j _ => ?_
    rw [(e j).max]
    exact Finset.sup_mono fun n hn => (mem_own.mp hn).1
  · refine Finset.sup_le fun n hn => ?_
    exact ((e (own n)).le (mem_own.mpr ⟨hn, rfl⟩)).trans (Finset.le_sup (Finset.mem_univ _))

/-- The first element with the largest score, and its value as the lanes give it. -/
theorem total_first {big : EReal} (hbig : ((1000000 : ℝ) : EReal) ≤ big) (hb : (Finset.range 1000000).sup h ≠ ⊥) :
    ∃ k < 1000000, h k = (Finset.range 1000000).sup h ∧ (∀ n < 1000000, h n = (Finset.range 1000000).sup h → k ≤ n)
      ∧ ∑ j, (if m j = (Finset.range 1000000).sup h ∧ (((i j).toInt : ℝ) : EReal)
          = Finset.univ.inf (fun j => if m j = (Finset.range 1000000).sup h then (((i j).toInt : ℝ) : EReal) else big) then t j else 0) = x k := by
  generalize hM : (Finset.range 1000000).sup h = M at hb ⊢
  have hle : ∀ n < 1000000, h n ≤ M := fun n hn => hM ▸ Finset.le_sup (Finset.mem_range.mpr hn)
  have hex : ∃ n, n < 1000000 ∧ h n = M := by
    obtain ⟨n, hn, hs⟩ := Finset.exists_mem_eq_sup (Finset.range 1000000) ⟨0, Finset.mem_range.mpr (by omega)⟩ h
    exact ⟨n, Finset.mem_range.mp hn, hs.symm.trans hM⟩
  classical
  obtain ⟨hk, hkM⟩ := Nat.find_spec hex
  have hmin : ∀ n < 1000000, h n = M → Nat.find hex ≤ n := fun n hn hM => Nat.find_min' hex ⟨hn, hM⟩
  generalize Nat.find hex = k at hk hkM hmin
  have lanes : ∀ j, m j = M → ∃ k' ∈ share (j 0).val (j 1).val, (((i j).toInt : ℝ) : EReal) = ((k' : ℝ) : EReal) ∧ t j = x k' ∧ h k' = M
      ∧ k ≤ k' ∧ ∀ n ∈ share (j 0).val (j 1).val, h n = M → k' ≤ n := by
    intro j hj
    obtain ⟨k', hk', h1, h2, h3, h4⟩ := (e j).first (by rw [hj]; exact hb)
    have hlt := (e j).below k' hk'
    refine ⟨k', hk', ?_, h2, h3.trans hj, hmin k' hlt (h3.trans hj), fun n hn hnM => h4 n hn (hnM.trans hj.symm)⟩
    rw [h1, BitVec.toInt_eq_toNat_of_lt (by rw [BitVec.toNat_ofNat]; omega), BitVec.toNat_ofNat, Nat.mod_eq_of_lt (by omega)]
    push_cast; rfl
  have hkmem : k ∈ share ((own k) 0).val ((own k) 1).val := mem_own.mpr ⟨Finset.mem_range.mpr hk, rfl⟩
  have hmk : m (own k) = M := by
    apply le_antisymm
    · rw [(e (own k)).max]
      exact Finset.sup_le fun n hn => hle n ((e (own k)).below n hn)
    · rw [← hkM]; exact (e (own k)).le hkmem
  obtain ⟨k₀, hk₀, hi₀, ht₀, _, hk₀1, hk₀2⟩ := lanes (own k) hmk
  have hkk : k₀ = k := le_antisymm (hk₀2 k hkmem hkM) hk₀1
  subst hkk
  have hinf : Finset.univ.inf (fun j => if m j = M then (((i j).toInt : ℝ) : EReal) else big) = ((k₀ : ℝ) : EReal) := by
    apply le_antisymm
    · refine (Finset.inf_le (Finset.mem_univ (own k₀))).trans ?_
      rw [if_pos hmk, hi₀]
    · refine Finset.le_inf fun j _ => ?_
      by_cases hj : m j = M
      · obtain ⟨k', _, hi', _, _, hkk', _⟩ := lanes j hj
        rw [if_pos hj, hi']
        exact_mod_cast hkk'
      · rw [if_neg hj]
        refine le_trans ?_ hbig
        exact_mod_cast hk.le
  refine ⟨k₀, hk, hkM, hmin, ?_⟩
  rw [hinf, Finset.sum_eq_single (own k₀)]
  · rw [if_pos ⟨hmk, hi₀⟩, ht₀]
  · intro j _ hj
    refine if_neg fun hc => hj ?_
    obtain ⟨k', hk', hi', _⟩ := lanes j hc.1
    have : k' = k₀ := by
      have h1 := hi'.symm.trans hc.2
      exact_mod_cast h1
    subst this
    exact ((mem_own.mp hk').2).symm
  · intro hn; exact absurd (Finset.mem_univ _) hn

end Cert.Proof.Value

end
-- ==== Proof.Combine.lean ====
/-
  The second kernel at extended reals, on the rows the tasks write: with `L` the logarithm of the sum of all exponentials
  and `t` the value of the first element of the largest score, each element `x` becomes `(x + (t - 2 L)) + exp (x - L)`.
-/
module

public import proofs.«01_k».proof.Proof.Total
public import proofs.«01_k».proof.Proof.Gen.KernelIdeal.Skeleton
public import Idealize.ShloMosaic.PureOps.Ideal.Laws
public import Idealize.ShloMosaic.Lib.Pipeline.Value

@[expose] public section

noncomputable section

namespace Cert.Proof.Value

open Cert.KernelIdeal Cert.KernelIdeal.Gen
open Idealize.ShloMosaic
open Cert.Proof.Run

theorem cast_self {s : Shape} {α : Type} (v : s.Idx → α) (h : s.ShapeCasts s) : shapeCast s v h = v :=
  funext fun j => congrArg v (Shape.reshapeEquiv_self _ _)

/-! ## A row of 32 by 16 reduced to one number -/

theorem all_add (v : FVec Ideal S32x16 .f32) (h₁) (h₂) :
    extractAt ![0, 0, 0] (shapeCast S1x1x1 (multiReduction .add [1, 2] S1 (shapeCast S1x32x16 v shapeCasts_S32x16_S1x32x16) 0x00000000#32
      reduces_S1x32x16_S1 h₁ h₂) shapeCasts_S1_S1x1x1) inpos_S1x1x1_p0_0_0 = ∑ j, (v j : EReal) := by
  refine (Ideal.multiReduction_add_total (shapeCast S1x32x16 v shapeCasts_S32x16_S1x32x16) 0x00000000#32 reduces_S1x32x16_S1 (by decide) h₁ h₂ _).trans ?_
  exact Equiv.sum_comp (Shape.reshapeEquiv _) (fun j => (v j : EReal))

theorem one_index (i : S1x32x16.Idx) (j : S1.Idx) : reduces_S1x32x16_S1.drop i = j := funext fun b => Fin.ext (by
  have h1 := (reduces_S1x32x16_S1.drop i b).isLt; have h2 := (j b).isLt
  have h3 : S1.size b = 1 := by fin_cases b; rfl
  omega)

theorem all_max (v : FVec Ideal S32x16 .f32) (h₁) (h₂) :
    extractAt ![0, 0, 0] (shapeCast S1x1x1 (multiReduction .maximumf [1, 2] S1 (shapeCast S1x32x16 v shapeCasts_S32x16_S1x32x16) 0xFF800000#32
      reduces_S1x32x16_S1 h₁ h₂) shapeCasts_S1_S1x1x1) inpos_S1x1x1_p0_0_0 = Finset.univ.sup (fun j => (v j : EReal)) := by
  refine (multiReduction_maximumf_eq_fold (shapeCast S1x32x16 v shapeCasts_S32x16_S1x32x16) 0xFF800000#32 reduces_S1x32x16_S1 h₁ h₂ _).trans ?_
  rw [Finset.filter_true_of_mem (fun i _ => one_index i _)]
  have hb : (FloatOps.ofBits .f32 0xFF800000#32 : Ideal .f32) = (⊥ : EReal) := negInf
  rw [hb]
  refine Eq.trans (b := Finset.univ.sup fun i => (v (Shape.reshapeEquiv shapeCasts_S32x16_S1x32x16 i) : EReal)) rfl ?_
  rw [Finset.sup_univ_eq_iSup, Finset.sup_univ_eq_iSup]
  exact Equiv.iSup_comp (g := fun j => (v j : EReal)) (Shape.reshapeEquiv shapeCasts_S32x16_S1x32x16)

theorem posInf : Ideal.ofBits .f32 0x7F800000#32 = ⊤ := by simp [Ideal.ofBits, Ideal.ieee]

theorem all_min (v : FVec Ideal S32x16 .f32) (h₁) (h₂) :
    extractAt ![0, 0, 0] (shapeCast S1x1x1 (multiReduction .minimumf [1, 2] S1 (shapeCast S1x32x16 v shapeCasts_S32x16_S1x32x16) 0x7F800000#32
      reduces_S1x32x16_S1 h₁ h₂) shapeCasts_S1_S1x1x1) inpos_S1x1x1_p0_0_0 = Finset.univ.inf (fun j => (v j : EReal)) := by
  refine (multiReduction_minimumf_eq_fold (shapeCast S1x32x16 v shapeCasts_S32x16_S1x32x16) 0x7F800000#32 reduces_S1x32x16_S1 h₁ h₂ _).trans ?_
  rw [Finset.filter_true_of_mem (fun i _ => one_index i _)]
  have hb : (FloatOps.ofBits .f32 0x7F800000#32 : Ideal .f32) = (⊤ : EReal) := posInf
  rw [hb]
  refine Eq.trans (b := Finset.univ.inf fun i => (v (Shape.reshapeEquiv shapeCasts_S32x16_S1x32x16 i) : EReal)) rfl ?_
  rw [Finset.inf_univ_eq_iInf, Finset.inf_univ_eq_iInf]
  exact Equiv.iInf_comp (g := fun j => (v j : EReal)) (Shape.reshapeEquiv shapeCasts_S32x16_S1x32x16)

/-! ## The four parts of the tasks' rows -/

variable (vx vg : S1000000.Idx → Ideal .f32)

abbrev Sm (j : S32x16.Idx) : EReal := (tile vx vg (j 0).val).sum (lane (j 1).val)
abbrev Mx (j : S32x16.Idx) : EReal := (tile vx vg (j 0).val).max (lane (j 1).val)
abbrev Xa (j : S32x16.Idx) : EReal := (tile vx vg (j 0).val).xat (lane (j 1).val)
abbrev Ia (j : S32x16.Idx) : BitVec 32 := (tile vx vg (j 0).val).iat (lane (j 1).val)

theorem entry (j : S32x16.Idx) : Entry (X vx) (H vx vg) (share (j 0).val (j 1).val) (Sm vx vg j) (Mx vx vg j) (Xa vx vg j) (Ia vx vg j) :=
  tile_lane (w_lt j) (l_lt j)

theorem part_sum : extractStridedSlice S32x16 ![0, 0] (outs vx vg) slices_S32x64_o0_0_S32x16 = Sm vx vg := by
  funext j
  have hl := l_lt j
  show rowVal (tile vx vg (0 + (j 0).val)) (0 + (j 1).val) = _
  rw [Nat.zero_add, Nat.zero_add]
  unfold rowVal
  rw [if_pos hl]

theorem part_max : extractStridedSlice S32x16 ![0, 16] (outs vx vg) slices_S32x64_o0_16_S32x16 = Mx vx vg := by
  funext j
  have hl := l_lt j
  show rowVal (tile vx vg (0 + (j 0).val)) (16 + (j 1).val) = _
  rw [Nat.zero_add]
  unfold rowVal
  rw [if_neg (by omega), if_pos (by omega), Nat.add_sub_cancel_left]

theorem part_xat : extractStridedSlice S32x16 ![0, 32] (outs vx vg) slices_S32x64_o0_32_S32x16 = Xa vx vg := by
  funext j
  have hl := l_lt j
  show rowVal (tile vx vg (0 + (j 0).val)) (32 + (j 1).val) = _
  rw [Nat.zero_add]
  unfold rowVal
  rw [if_neg (by omega), if_neg (by omega), if_pos (by omega), Nat.add_sub_cancel_left]

theorem part_iat : extractStridedSlice S32x16 ![0, 48] (outs vx vg) slices_S32x64_o0_48_S32x16 = fun j => (((Ia vx vg j).toInt : ℝ) : EReal) := by
  funext j
  have hl := l_lt j
  show rowVal (tile vx vg (0 + (j 0).val)) (48 + (j 1).val) = _
  rw [Nat.zero_add]
  unfold rowVal
  rw [if_neg (by omega), if_neg (by omega), if_neg (by omega), Nat.add_sub_cancel_left]
  rfl

/-! ## The kernel's result -/

/-- A positive normal word's value. -/
theorem pos_val {b : BitVec 32} {e f : ℕ} (hs : (b.extractLsb' 31 1 == 1#1) = false) (he : (b.extractLsb' 23 8).toNat = e)
    (hf : (b.extractLsb' 0 23).toNat = f) (h0 : e ≠ 0) (h1 : e ≠ 255) :
    Ideal.ofBits .f32 b = ((((2 ^ 23 + f : ℕ) : ℝ) * (2 : ℝ) ^ ((e : ℤ) - 127 - 23) : ℝ) : EReal) := by
  have h : Ideal.ofBits .f32 b = Ideal.ieee 8 23 b := rfl
  rw [h]
  unfold Ideal.ieee
  simp only [show 8 + 23 = 31 from rfl, hs, he, hf]
  rw [if_neg (by omega), if_neg h0]
  norm_num

/-- The sum of the exponentials, and the largest score. -/
def sumExp : EReal := ∑ n ∈ Finset.range 1000000, Ideal.exp (X vx n)
def best : EReal := (Finset.range 1000000).sup (H vx vg)

/-- What the kernel holds for the sample's value. -/
def sampled : EReal := ∑ j, (if Mx vx vg j = best vx vg ∧ (((Ia vx vg j).toInt : ℝ) : EReal)
    = Finset.univ.inf (fun j => if Mx vx vg j = best vx vg then (((Ia vx vg j).toInt : ℝ) : EReal) else Ideal.ofBits .f32 0x7F61B1E6#32)
  then Xa vx vg j else 0)

theorem big : ((1000000 : ℝ) : EReal) ≤ Ideal.ofBits .f32 0x7F61B1E6#32 := by
  rw [pos_val (e := 254) (f := 6402534) (by decide) (by decide) (by decide) (by decide) (by decide)]
  exact_mod_cast (by norm_num : (1000000 : ℝ) ≤ ((2 ^ 23 + 6402534 : ℕ) : ℝ) * (2 : ℝ) ^ (((254 : ℕ) : ℤ) - 127 - 23))

theorem sampled_eq (hb : best vx vg ≠ ⊥) : ∃ k < 1000000, H vx vg k = best vx vg ∧ (∀ n < 1000000, H vx vg n = best vx vg → k ≤ n)
    ∧ sampled vx vg = X vx k := total_first (entry vx vg) big hb

theorem two : Ideal.ofBits .f32 0x40000000#32 = ((2 : ℝ) : EReal) := by
  rw [pos_val (e := 128) (f := 0) (by decide) (by decide) (by decide) (by decide) (by decide)]
  norm_num

theorem pick (a b : FVec Ideal S32x16 .f32) (c d : Ideal .f32) (j : S32x16.Idx) :
    select (cmpf .oeq a (broadcast S32x16 c)) b (broadcast S32x16 d) j = if (a j : EReal) = c then b j else d := sel _ _ _

theorem pick2 (a b t : FVec Ideal S32x16 .f32) (c d z : Ideal .f32) (j : S32x16.Idx) :
    select (andi (cmpf .oeq a (broadcast S32x16 c)) (cmpf .oeq b (broadcast S32x16 d))) t (broadcast S32x16 z) j
      = if (a j : EReal) = c ∧ (b j : EReal) = d then t j else z := by
  rw [← sel]
  have h : andi (cmpf .oeq a (broadcast S32x16 c)) (cmpf .oeq b (broadcast S32x16 d)) j
      = BitVec.ofBool (decide ((a j : EReal) = c)) &&& BitVec.ofBool (decide ((b j : EReal) = d)) := rfl
  unfold select
  rw [h]
  by_cases h1 : (a j : EReal) = c <;> by_cases h2 : (b j : EReal) = d <;> simp [h1, h2, broadcast]

/-! The three reductions, by name. -/
def rAdd (v : FVec Ideal S32x16 .f32) : Ideal .f32 :=
  extractAt ![0, 0, 0] (shapeCast S1x1x1 (multiReduction .add [1, 2] S1 (shapeCast S1x32x16 v shapeCasts_S32x16_S1x32x16) 0x00000000#32
    reduces_S1x32x16_S1 (.inl rfl) rfl) shapeCasts_S1_S1x1x1) inpos_S1x1x1_p0_0_0
def rMax (v : FVec Ideal S32x16 .f32) : Ideal .f32 :=
  extractAt ![0, 0, 0] (shapeCast S1x1x1 (multiReduction .maximumf [1, 2] S1 (shapeCast S1x32x16 v shapeCasts_S32x16_S1x32x16) 0xFF800000#32
    reduces_S1x32x16_S1 (.inl rfl) rfl) shapeCasts_S1_S1x1x1) inpos_S1x1x1_p0_0_0
def rMin (v : FVec Ideal S32x16 .f32) : Ideal .f32 :=
  extractAt ![0, 0, 0] (shapeCast S1x1x1 (multiReduction .minimumf [1, 2] S1 (shapeCast S1x32x16 v shapeCasts_S32x16_S1x32x16) 0x7F800000#32
    reduces_S1x32x16_S1 (.inl rfl) rfl) shapeCasts_S1_S1x1x1) inpos_S1x1x1_p0_0_0

/-- The kernel's text, of its four slices. -/
def text (a b c d : FVec Ideal S32x16 .f32) (v : FVec Ideal S64x15625 .f32) : FVec Ideal S64x15625 .f32 :=
  addf (addf v (broadcast S64x15625 (Scalar.subf
      (rAdd (select (andi (cmpf .oeq b (broadcast S32x16 (rMax b)))
        (cmpf .oeq d (broadcast S32x16 (rMin (select (cmpf .oeq b (broadcast S32x16 (rMax b))) d (broadcast S32x16 (Scalar.ofBits .f32 0x7F61B1E6#32)))))))
        c (broadcast S32x16 (Scalar.ofBits .f32 0x00000000#32))))
      (Scalar.mulf (Scalar.ofBits .f32 0x40000000#32) (Scalar.log (rAdd a))))))
    (exp (subf v (broadcast S64x15625 (Scalar.log (rAdd a)))))

theorem pay_text (v0 : FVec Ideal S32x64 .f32) (v : FVec Ideal S64x15625 .f32) :
    k1_pay1 (F := Ideal) v0 v = text (extractStridedSlice S32x16 ![0, 0] (shapeCast S32x64 v0 shapeCasts_S32x64_S32x64) slices_S32x64_o0_0_S32x16)
      (extractStridedSlice S32x16 ![0, 16] (shapeCast S32x64 v0 shapeCasts_S32x64_S32x64) slices_S32x64_o0_16_S32x16)
      (extractStridedSlice S32x16 ![0, 32] (shapeCast S32x64 v0 shapeCasts_S32x64_S32x64) slices_S32x64_o0_32_S32x16)
      (extractStridedSlice S32x16 ![0, 48] (shapeCast S32x64 v0 shapeCasts_S32x64_S32x64) slices_S32x64_o0_48_S32x16)
      (shapeCast S64x15625 v shapeCasts_S64x15625_S64x15625) := rfl

theorem pointwise (v : FVec Ideal S64x15625 .f32) (i : S64x15625.Idx) (p q r : Ideal .f32) :
    addf (addf v (broadcast S64x15625 (Scalar.subf p (Scalar.mulf q (Scalar.log r))))) (exp (subf v (broadcast S64x15625 (Scalar.log r)))) i
      = ((v i : EReal) + ((p : EReal) - (q : EReal) * Ideal.log r)) + Ideal.exp ((v i : EReal) - Ideal.log r) := rfl

theorem kernel_val (v : FVec Ideal S64x15625 .f32) (i : S64x15625.Idx) :
    k1_pay1 (F := Ideal) (outs vx vg) v i = ((v i : EReal) + (sampled vx vg - ((2 : ℝ) : EReal) * Ideal.log (sumExp vx)))
      + Ideal.exp ((v i : EReal) - Ideal.log (sumExp vx)) := by
  rw [pay_text, cast_self, cast_self, part_sum, part_max, part_xat, part_iat]
  have h1 : rAdd (Sm vx vg) = sumExp vx := (all_add _ _ _).trans (total_sum (entry vx vg))
  have h2 : rMax (Mx vx vg) = best vx vg := (all_max _ _ _).trans (total_max (entry vx vg))
  have h3 : rMin (select (cmpf .oeq (Mx vx vg : FVec Ideal S32x16 .f32) (broadcast S32x16 (rMax (Mx vx vg)))) (fun j => (((Ia vx vg j).toInt : ℝ) : EReal))
      (broadcast S32x16 (Scalar.ofBits .f32 0x7F61B1E6#32)))
        = Finset.univ.inf (fun j => if Mx vx vg j = best vx vg then (((Ia vx vg j).toInt : ℝ) : EReal) else Ideal.ofBits .f32 0x7F61B1E6#32) := by
    refine (all_min _ _ _).trans ?_
    rw [h2]
    exact congrArg (Finset.univ.inf) (funext fun j => pick _ _ _ _ j)
  have h4 : rAdd (select (andi (cmpf .oeq (Mx vx vg : FVec Ideal S32x16 .f32) (broadcast S32x16 (rMax (Mx vx vg))))
        (cmpf .oeq (fun j => (((Ia vx vg j).toInt : ℝ) : EReal) : FVec Ideal S32x16 .f32) (broadcast S32x16 (rMin (select (cmpf .oeq (Mx vx vg : FVec Ideal S32x16 .f32) (broadcast S32x16 (rMax (Mx vx vg)))) (fun j => (((Ia vx vg j).toInt : ℝ) : EReal)) (broadcast S32x16 (Scalar.ofBits .f32 0x7F61B1E6#32)))))))
        (Xa vx vg) (broadcast S32x16 (Scalar.ofBits .f32 0x00000000#32))) = sampled vx vg := by
    rw [h3, h2]
    refine (all_add _ _ _).trans ?_
    unfold sampled
    refine Finset.sum_congr rfl fun j _ => ?_
    refine (pick2 _ _ _ _ _ _ j).trans ?_
    have hz : (Scalar.ofBits .f32 0x00000000#32 : Ideal .f32) = (0 : EReal) := zero
    rw [hz]
  unfold text
  rw [h4, h1]
  have ht : (Scalar.ofBits .f32 0x40000000#32 : Ideal .f32) = ((2 : ℝ) : EReal) := two
  rw [ht]
  exact pointwise v i _ _ _

end Cert.Proof.Value

end
-- ==== Proof.Host.lean ====
/-
  The operations of the kernel's program before its SparseCore call, cut at the rounds of the noise's generator, and the
  program as those operations, the call, a reshape, the kernel after it and a last reshape.
-/
module

public import proofs.«01_k».proof.Proof.Setup

@[expose] public section

noncomputable section

namespace Cert.Proof.Host

open Cert.KernelIdeal Cert.KernelIdeal.Gen
open Idealize.ShloMosaic Idealize.ShloMosaic.TcCoe Idealize.ShloMosaic.StableHlo
open Idealize.SL Idealize.SL.Sem

variable {F : FTy → Type} [FloatOps F]

/-! Contents of the arrays, by shape and element. -/
abbrev I₀ (F : FTy → Type) : Type := (⟨S_, .i32⟩ : BufTy).Contents (Elt F)
abbrev Iₙ (F : FTy → Type) : Type := (⟨S1x1000000, .i32⟩ : BufTy).Contents (Elt F)
abbrev Lₙ (F : FTy → Type) : Type := (⟨S1x1000000, .i64⟩ : BufTy).Contents (Elt F)
abbrev L₀ (F : FTy → Type) : Type := (⟨S_, .i64⟩ : BufTy).Contents (Elt F)
abbrev Rₙ (F : FTy → Type) : Type := (⟨S1x1000000, .f32⟩ : BufTy).Contents (Elt F)
abbrev R₀ (F : FTy → Type) : Type := (⟨S_, .f32⟩ : BufTy).Contents (Elt F)
abbrev I₁ (F : FTy → Type) : Type := (⟨S1, .i32⟩ : BufTy).Contents (Elt F)
abbrev I₂ (F : FTy → Type) : Type := (⟨S2, .i32⟩ : BufTy).Contents (Elt F)
abbrev R₁₁ (F : FTy → Type) : Type := (⟨S1x1, .f32⟩ : BufTy).Contents (Elt F)

/-- The key, the counter and the constants, before the rounds. -/
def w0 : List (HloOp τ sig (Elt F)) :=
  [reshape main_arg0 main_v0 (rfl : (.f32 : EltTy) = .f32) shapeCasts_S1x1000000_S1000000,
   nullary main_c (constantI S_ 32 42#32),
   nullary main_c_0 (constantI S_ 32 32#32),
   binary main_c main_c_0 main_v1 (Host.shrui : I₀ F → I₀ F → I₀ F),
   unary main_v1 main_v2 (id : I₀ F → I₀ F),
   unary main_v2 main_v3 (broadcastInDim S1 ![] bcast_S_S1 : I₀ F → I₁ F),
   nullary main_c_1 (constantI S_ 32 4294967295#32),
   binary main_c main_c_1 main_v4 (andi : I₀ F → I₀ F → I₀ F),
   unary main_v4 main_v5 (id : I₀ F → I₀ F),
   unary main_v5 main_v6 (broadcastInDim S1 ![] bcast_S_S1 : I₀ F → I₁ F),
   binary main_v3 main_v6 main_v7 ((fun a b => concatenate S2 0 [⟨S1, a⟩, ⟨S1, b⟩] concatenates_S1_S1_S2_d0) : I₁ F → I₁ F → I₂ F),
   nullary main_call0_cst (constant S_ .f32 0x3F800000#32),
   nullary main_call0_cst_0 (constant S_ .f32 0x00800000#32),
   unary main_call0_cst main_call0_call0_v0 (id : R₀ F → R₀ F),
   unary main_call0_cst_0 main_call0_call0_v1 ((broadcastInDim S1x1 ![] bcast_S_S1x1) : R₀ F → R₁₁ F),
   unary main_call0_call0_v0 main_call0_call0_v2 ((broadcastInDim S1x1 ![] bcast_S_S1x1) : R₀ F → R₁₁ F),
   unary main_v7 main_call0_call0_v3 ((extractStridedSlice S1 ![0] · slices_S2_S1_0) : I₂ F → I₁ F),
   reshape main_call0_call0_v3 main_call0_call0_v4 (rfl : (.i32 : EltTy) = .i32) shapeCasts_S1_S_,
   unary main_v7 main_call0_call0_v5 ((extractStridedSlice S1 ![1] · slices_S2_S1_1) : I₂ F → I₁ F),
   reshape main_call0_call0_v5 main_call0_call0_v6 (rfl : (.i32 : EltTy) = .i32) shapeCasts_S1_S_,
   nullary main_call0_call0_v7 (iotaInDim S1x1000000 64 0),
   nullary main_call0_call0_v8 (iotaInDim S1x1000000 64 1),
   nullary main_call0_call0_c (constantI S_ 64 1000000#64),
   unary main_call0_call0_c main_call0_call0_v9 ((broadcastInDim S1x1000000 ![] bcast_S_S1x1000000) : L₀ F → Lₙ F),
   binary main_call0_call0_v9 main_call0_call0_v7 main_call0_call0_v10 (muli : Lₙ F → Lₙ F → Lₙ F),
   nullary main_call0_call0_c_0 (constantI S_ 64 1#64),
   unary main_call0_call0_c_0 main_call0_call0_v11 ((broadcastInDim S1x1000000 ![] bcast_S_S1x1000000) : L₀ F → Lₙ F),
   binary main_call0_call0_v11 main_call0_call0_v8 main_call0_call0_v12 (muli : Lₙ F → Lₙ F → Lₙ F),
   binary main_call0_call0_v10 main_call0_call0_v12 main_call0_call0_v13 (addi : Lₙ F → Lₙ F → Lₙ F),
   nullary main_call0_call0_c_1 (constantI S_ 64 32#64),
   unary main_call0_call0_c_1 main_call0_call0_v14 ((broadcastInDim S1x1000000 ![] bcast_S_S1x1000000) : L₀ F → Lₙ F),
   binary main_call0_call0_v13 main_call0_call0_v14 main_call0_call0_v15 (Host.shrui : Lₙ F → Lₙ F → Lₙ F),
   unary main_call0_call0_v13 main_call0_call0_v16 ((trunci 32 · natLt_32_64) : Lₙ F → Iₙ F),
   unary main_call0_call0_v15 main_call0_call0_v17 ((trunci 32 · natLt_32_64) : Lₙ F → Iₙ F)]

/-- Keys mixed in. -/
def w1 : List (HloOp τ sig (Elt F)) :=
  [binary main_call0_call0_v4 main_call0_call0_v6 main_call0_call0_call0_v0 (xori : I₀ F → I₀ F → I₀ F),
   nullary main_call0_call0_call0_c (constantI S_ 32 466688986#32),
   binary main_call0_call0_call0_v0 main_call0_call0_call0_c main_call0_call0_call0_v1 (xori : I₀ F → I₀ F → I₀ F),
   unary main_call0_call0_v4 main_call0_call0_call0_v2 ((broadcastInDim S1x1000000 ![] bcast_S_S1x1000000) : I₀ F → Iₙ F),
   binary main_call0_call0_v17 main_call0_call0_call0_v2 main_call0_call0_call0_v3 (addi : Iₙ F → Iₙ F → Iₙ F),
   unary main_call0_call0_v6 main_call0_call0_call0_v4 ((broadcastInDim S1x1000000 ![] bcast_S_S1x1000000) : I₀ F → Iₙ F),
   binary main_call0_call0_v16 main_call0_call0_call0_v4 main_call0_call0_call0_v5 (addi : Iₙ F → Iₙ F → Iₙ F)]

/-- One round. -/
def w2 : List (HloOp τ sig (Elt F)) :=
  [binary main_call0_call0_call0_v3 main_call0_call0_call0_v5 main_call0_call0_call0_v6 (addi : Iₙ F → Iₙ F → Iₙ F),
   nullary main_call0_call0_call0_c_0 (constantI S_ 32 13#32),
   unary main_call0_call0_call0_c_0 main_call0_call0_call0_v7 ((broadcastInDim S1x1000000 ![] bcast_S_S1x1000000) : I₀ F → Iₙ F),
   binary main_call0_call0_call0_v5 main_call0_call0_call0_v7 main_call0_call0_call0_v8 (Host.shli : Iₙ F → Iₙ F → Iₙ F),
   nullary main_call0_call0_call0_c_1 (constantI S_ 32 19#32),
   unary main_call0_call0_call0_c_1 main_call0_call0_call0_v9 ((broadcastInDim S1x1000000 ![] bcast_S_S1x1000000) : I₀ F → Iₙ F),
   binary main_call0_call0_call0_v5 main_call0_call0_call0_v9 main_call0_call0_call0_v10 (Host.shrui : Iₙ F → Iₙ F → Iₙ F),
   binary main_call0_call0_call0_v8 main_call0_call0_call0_v10 main_call0_call0_call0_v11 (ori : Iₙ F → Iₙ F → Iₙ F),
   binary main_call0_call0_call0_v6 main_call0_call0_call0_v11 main_call0_call0_call0_v12 (xori : Iₙ F → Iₙ F → Iₙ F)]

/-- One round. -/
def w3 : List (HloOp τ sig (Elt F)) :=
  [binary main_call0_call0_call0_v6 main_call0_call0_call0_v12 main_call0_call0_call0_v13 (addi : Iₙ F → Iₙ F → Iₙ F),
   nullary main_call0_call0_call0_c_2 (constantI S_ 32 15#32),
   unary main_call0_call0_call0_c_2 main_call0_call0_call0_v14 ((broadcastInDim S1x1000000 ![] bcast_S_S1x1000000) : I₀ F → Iₙ F),
   binary main_call0_call0_call0_v12 main_call0_call0_call0_v14 main_call0_call0_call0_v15 (Host.shli : Iₙ F → Iₙ F → Iₙ F),
   nullary main_call0_call0_call0_c_3 (constantI S_ 32 17#32),
   unary main_call0_call0_call0_c_3 main_call0_call0_call0_v16 ((broadcastInDim S1x1000000 ![] bcast_S_S1x1000000) : I₀ F → Iₙ F),
   binary main_call0_call0_call0_v12 main_call0_call0_call0_v16 main_call0_call0_call0_v17 (Host.shrui : Iₙ F → Iₙ F → Iₙ F),
   binary main_call0_call0_call0_v15 main_call0_call0_call0_v17 main_call0_call0_call0_v18 (ori : Iₙ F → Iₙ F → Iₙ F),
   binary main_call0_call0_call0_v13 main_call0_call0_call0_v18 main_call0_call0_call0_v19 (xori : Iₙ F → Iₙ F → Iₙ F)]

/-- One round. -/
def w4 : List (HloOp τ sig (Elt F)) :=
  [binary main_call0_call0_call0_v13 main_call0_call0_call0_v19 main_call0_call0_call0_v20 (addi : Iₙ F → Iₙ F → Iₙ F),
   nullary main_call0_call0_call0_c_4 (constantI S_ 32 26#32),
   unary main_call0_call0_call0_c_4 main_call0_call0_call0_v21 ((broadcastInDim S1x1000000 ![] bcast_S_S1x1000000) : I₀ F → Iₙ F),
   binary main_call0_call0_call0_v19 main_call0_call0_call0_v21 main_call0_call0_call0_v22 (Host.shli : Iₙ F → Iₙ F → Iₙ F),
   nullary main_call0_call0_call0_c_5 (constantI S_ 32 6#32),
   unary main_call0_call0_call0_c_5 main_call0_call0_call0_v23 ((broadcastInDim S1x1000000 ![] bcast_S_S1x1000000) : I₀ F → Iₙ F),
   binary main_call0_call0_call0_v19 main_call0_call0_call0_v23 main_call0_call0_call0_v24 (Host.shrui : Iₙ F → Iₙ F → Iₙ F),
   binary main_call0_call0_call0_v22 main_call0_call0_call0_v24 main_call0_call0_call0_v25 (ori : Iₙ F → Iₙ F → Iₙ F),
   binary main_call0_call0_call0_v20 main_call0_call0_call0_v25 main_call0_call0_call0_v26 (xori : Iₙ F → Iₙ F → Iₙ F)]

/-- One round. -/
def w5 : List (HloOp τ sig (Elt F)) :=
  [binary main_call0_call0_call0_v20 main_call0_call0_call0_v26 main_call0_call0_call0_v27 (addi : Iₙ F → Iₙ F → Iₙ F),
   nullary main_call0_call0_call0_c_6 (constantI S_ 32 6#32),
   unary main_call0_call0_call0_c_6 main_call0_call0_call0_v28 ((broadcastInDim S1x1000000 ![] bcast_S_S1x1000000) : I₀ F → Iₙ F),
   binary main_call0_call0_call0_v26 main_call0_call0_call0_v28 main_call0_call0_call0_v29 (Host.shli : Iₙ F → Iₙ F → Iₙ F),
   nullary main_call0_call0_call0_c_7 (constantI S_ 32 26#32),
   unary main_call0_call0_call0_c_7 main_call0_call0_call0_v30 ((broadcastInDim S1x1000000 ![] bcast_S_S1x1000000) : I₀ F → Iₙ F),
   binary main_call0_call0_call0_v26 main_call0_call0_call0_v30 main_call0_call0_call0_v31 (Host.shrui : Iₙ F → Iₙ F → Iₙ F),
   binary main_call0_call0_call0_v29 main_call0_call0_call0_v31 main_call0_call0_call0_v32 (ori : Iₙ F → Iₙ F → Iₙ F),
   binary main_call0_call0_call0_v27 main_call0_call0_call0_v32 main_call0_call0_call0_v33 (xori : Iₙ F → Iₙ F → Iₙ F)]

/-- Keys mixed in. -/
def w6 : List (HloOp τ sig (Elt F)) :=
  [unary main_call0_call0_v6 main_call0_call0_call0_v34 ((broadcastInDim S1x1000000 ![] bcast_S_S1x1000000) : I₀ F → Iₙ F),
   binary main_call0_call0_call0_v27 main_call0_call0_call0_v34 main_call0_call0_call0_v35 (addi : Iₙ F → Iₙ F → Iₙ F),
   unary main_call0_call0_call0_v1 main_call0_call0_call0_v36 ((broadcastInDim S1x1000000 ![] bcast_S_S1x1000000) : I₀ F → Iₙ F),
   binary main_call0_call0_call0_v33 main_call0_call0_call0_v36 main_call0_call0_call0_v37 (addi : Iₙ F → Iₙ F → Iₙ F),
   nullary main_call0_call0_call0_c_8 (constantI S_ 32 1#32),
   unary main_call0_call0_call0_c_8 main_call0_call0_call0_v38 ((broadcastInDim S1x1000000 ![] bcast_S_S1x1000000) : I₀ F → Iₙ F),
   binary main_call0_call0_call0_v37 main_call0_call0_call0_v38 main_call0_call0_call0_v39 (addi : Iₙ F → Iₙ F → Iₙ F)]

/-- One round. -/
def w7 : List (HloOp τ sig (Elt F)) :=
  [binary main_call0_call0_call0_v35 main_call0_call0_call0_v39 main_call0_call0_call0_v40 (addi : Iₙ F → Iₙ F → Iₙ F),
   nullary main_call0_call0_call0_c_9 (constantI S_ 32 17#32),
   unary main_call0_call0_call0_c_9 main_call0_call0_call0_v41 ((broadcastInDim S1x1000000 ![] bcast_S_S1x1000000) : I₀ F → Iₙ F),
   binary main_call0_call0_call0_v39 main_call0_call0_call0_v41 main_call0_call0_call0_v42 (Host.shli : Iₙ F → Iₙ F → Iₙ F),
   nullary main_call0_call0_call0_c_10 (constantI S_ 32 15#32),
   unary main_call0_call0_call0_c_10 main_call0_call0_call0_v43 ((broadcastInDim S1x1000000 ![] bcast_S_S1x1000000) : I₀ F → Iₙ F),
   binary main_call0_call0_call0_v39 main_call0_call0_call0_v43 main_call0_call0_call0_v44 (Host.shrui : Iₙ F → Iₙ F → Iₙ F),
   binary main_call0_call0_call0_v42 main_call0_call0_call0_v44 main_call0_call0_call0_v45 (ori : Iₙ F → Iₙ F → Iₙ F),
   binary main_call0_call0_call0_v40 main_call0_call0_call0_v45 main_call0_call0_call0_v46 (xori : Iₙ F → Iₙ F → Iₙ F)]

/-- One round. -/
def w8 : List (HloOp τ sig (Elt F)) :=
  [binary main_call0_call0_call0_v40 main_call0_call0_call0_v46 main_call0_call0_call0_v47 (addi : Iₙ F → Iₙ F → Iₙ F),
   nullary main_call0_call0_call0_c_11 (constantI S_ 32 29#32),
   unary main_call0_call0_call0_c_11 main_call0_call0_call0_v48 ((broadcastInDim S1x1000000 ![] bcast_S_S1x1000000) : I₀ F → Iₙ F),
   binary main_call0_call0_call0_v46 main_call0_call0_call0_v48 main_call0_call0_call0_v49 (Host.shli : Iₙ F → Iₙ F → Iₙ F),
   nullary main_call0_call0_call0_c_12 (constantI S_ 32 3#32),
   unary main_call0_call0_call0_c_12 main_call0_call0_call0_v50 ((broadcastInDim S1x1000000 ![] bcast_S_S1x1000000) : I₀ F → Iₙ F),
   binary main_call0_call0_call0_v46 main_call0_call0_call0_v50 main_call0_call0_call0_v51 (Host.shrui : Iₙ F → Iₙ F → Iₙ F),
   binary main_call0_call0_call0_v49 main_call0_call0_call0_v51 main_call0_call0_call0_v52 (ori : Iₙ F → Iₙ F → Iₙ F),
   binary main_call0_call0_call0_v47 main_call0_call0_call0_v52 main_call0_call0_call0_v53 (xori : Iₙ F → Iₙ F → Iₙ F)]

/-- One round. -/
def w9 : List (HloOp τ sig (Elt F)) :=
  [binary main_call0_call0_call0_v47 main_call0_call0_call0_v53 main_call0_call0_call0_v54 (addi : Iₙ F → Iₙ F → Iₙ F),
   nullary main_call0_call0_call0_c_13 (constantI S_ 32 16#32),
   unary main_call0_call0_call0_c_13 main_call0_call0_call0_v55 ((broadcastInDim S1x1000000 ![] bcast_S_S1x1000000) : I₀ F → Iₙ F),
   binary main_call0_call0_call0_v53 main_call0_call0_call0_v55 main_call0_call0_call0_v56 (Host.shli : Iₙ F → Iₙ F → Iₙ F),
   nullary main_call0_call0_call0_c_14 (constantI S_ 32 16#32),
   unary main_call0_call0_call0_c_14 main_call0_call0_call0_v57 ((broadcastInDim S1x1000000 ![] bcast_S_S1x1000000) : I₀ F → Iₙ F),
   binary main_call0_call0_call0_v53 main_call0_call0_call0_v57 main_call0_call0_call0_v58 (Host.shrui : Iₙ F → Iₙ F → Iₙ F),
   binary main_call0_call0_call0_v56 main_call0_call0_call0_v58 main_call0_call0_call0_v59 (ori : Iₙ F → Iₙ F → Iₙ F),
   binary main_call0_call0_call0_v54 main_call0_call0_call0_v59 main_call0_call0_call0_v60 (xori : Iₙ F → Iₙ F → Iₙ F)]

/-- One round. -/
def w10 : List (HloOp τ sig (Elt F)) :=
  [binary main_call0_call0_call0_v54 main_call0_call0_call0_v60 main_call0_call0_call0_v61 (addi : Iₙ F → Iₙ F → Iₙ F),
   nullary main_call0_call0_call0_c_15 (constantI S_ 32 24#32),
   unary main_call0_call0_call0_c_15 main_call0_call0_call0_v62 ((broadcastInDim S1x1000000 ![] bcast_S_S1x1000000) : I₀ F → Iₙ F),
   binary main_call0_call0_call0_v60 main_call0_call0_call0_v62 main_call0_call0_call0_v63 (Host.shli : Iₙ F → Iₙ F → Iₙ F),
   nullary main_call0_call0_call0_c_16 (constantI S_ 32 8#32),
   unary main_call0_call0_call0_c_16 main_call0_call0_call0_v64 ((broadcastInDim S1x1000000 ![] bcast_S_S1x1000000) : I₀ F → Iₙ F),
   binary main_call0_call0_call0_v60 main_call0_call0_call0_v64 main_call0_call0_call0_v65 (Host.shrui : Iₙ F → Iₙ F → Iₙ F),
   binary main_call0_call0_call0_v63 main_call0_call0_call0_v65 main_call0_call0_call0_v66 (ori : Iₙ F → Iₙ F → Iₙ F),
   binary main_call0_call0_call0_v61 main_call0_call0_call0_v66 main_call0_call0_call0_v67 (xori : Iₙ F → Iₙ F → Iₙ F)]

/-- Keys mixed in. -/
def w11 : List (HloOp τ sig (Elt F)) :=
  [unary main_call0_call0_call0_v1 main_call0_call0_call0_v68 ((broadcastInDim S1x1000000 ![] bcast_S_S1x1000000) : I₀ F → Iₙ F),
   binary main_call0_call0_call0_v61 main_call0_call0_call0_v68 main_call0_call0_call0_v69 (addi : Iₙ F → Iₙ F → Iₙ F),
   unary main_call0_call0_v4 main_call0_call0_call0_v70 ((broadcastInDim S1x1000000 ![] bcast_S_S1x1000000) : I₀ F → Iₙ F),
   binary main_call0_call0_call0_v67 main_call0_call0_call0_v70 main_call0_call0_call0_v71 (addi : Iₙ F → Iₙ F → Iₙ F),
   nullary main_call0_call0_call0_c_17 (constantI S_ 32 2#32),
   unary main_call0_call0_call0_c_17 main_call0_call0_call0_v72 ((broadcastInDim S1x1000000 ![] bcast_S_S1x1000000) : I₀ F → Iₙ F),
   binary main_call0_call0_call0_v71 main_call0_call0_call0_v72 main_call0_call0_call0_v73 (addi : Iₙ F → Iₙ F → Iₙ F)]

/-- One round. -/
def w12 : List (HloOp τ sig (Elt F)) :=
  [binary main_call0_call0_call0_v69 main_call0_call0_call0_v73 main_call0_call0_call0_v74 (addi : Iₙ F → Iₙ F → Iₙ F),
   nullary main_call0_call0_call0_c_18 (constantI S_ 32 13#32),
   unary main_call0_call0_call0_c_18 main_call0_call0_call0_v75 ((broadcastInDim S1x1000000 ![] bcast_S_S1x1000000) : I₀ F → Iₙ F),
   binary main_call0_call0_call0_v73 main_call0_call0_call0_v75 main_call0_call0_call0_v76 (Host.shli : Iₙ F → Iₙ F → Iₙ F),
   nullary main_call0_call0_call0_c_19 (constantI S_ 32 19#32),
   unary main_call0_call0_call0_c_19 main_call0_call0_call0_v77 ((broadcastInDim S1x1000000 ![] bcast_S_S1x1000000) : I₀ F → Iₙ F),
   binary main_call0_call0_call0_v73 main_call0_call0_call0_v77 main_call0_call0_call0_v78 (Host.shrui : Iₙ F → Iₙ F → Iₙ F),
   binary main_call0_call0_call0_v76 main_call0_call0_call0_v78 main_call0_call0_call0_v79 (ori : Iₙ F → Iₙ F → Iₙ F),
   binary main_call0_call0_call0_v74 main_call0_call0_call0_v79 main_call0_call0_call0_v80 (xori : Iₙ F → Iₙ F → Iₙ F)]

/-- One round. -/
def w13 : List (HloOp τ sig (Elt F)) :=
  [binary main_call0_call0_call0_v74 main_call0_call0_call0_v80 main_call0_call0_call0_v81 (addi : Iₙ F → Iₙ F → Iₙ F),
   nullary main_call0_call0_call0_c_20 (constantI S_ 32 15#32),
   unary main_call0_call0_call0_c_20 main_call0_call0_call0_v82 ((broadcastInDim S1x1000000 ![] bcast_S_S1x1000000) : I₀ F → Iₙ F),
   binary main_call0_call0_call0_v80 main_call0_call0_call0_v82 main_call0_call0_call0_v83 (Host.shli : Iₙ F → Iₙ F → Iₙ F),
   nullary main_call0_call0_call0_c_21 (constantI S_ 32 17#32),
   unary main_call0_call0_call0_c_21 main_call0_call0_call0_v84 ((broadcastInDim S1x1000000 ![] bcast_S_S1x1000000) : I₀ F → Iₙ F),
   binary main_call0_call0_call0_v80 main_call0_call0_call0_v84 main_call0_call0_call0_v85 (Host.shrui : Iₙ F → Iₙ F → Iₙ F),
   binary main_call0_call0_call0_v83 main_call0_call0_call0_v85 main_call0_call0_call0_v86 (ori : Iₙ F → Iₙ F → Iₙ F),
   binary main_call0_call0_call0_v81 main_call0_call0_call0_v86 main_call0_call0_call0_v87 (xori : Iₙ F → Iₙ F → Iₙ F)]

/-- One round. -/
def w14 : List (HloOp τ sig (Elt F)) :=
  [binary main_call0_call0_call0_v81 main_call0_call0_call0_v87 main_call0_call0_call0_v88 (addi : Iₙ F → Iₙ F → Iₙ F),
   nullary main_call0_call0_call0_c_22 (constantI S_ 32 26#32),
   unary main_call0_call0_call0_c_22 main_call0_call0_call0_v89 ((broadcastInDim S1x1000000 ![] bcast_S_S1x1000000) : I₀ F → Iₙ F),
   binary main_call0_call0_call0_v87 main_call0_call0_call0_v89 main_call0_call0_call0_v90 (Host.shli : Iₙ F → Iₙ F → Iₙ F),
   nullary main_call0_call0_call0_c_23 (constantI S_ 32 6#32),
   unary main_call0_call0_call0_c_23 main_call0_call0_call0_v91 ((broadcastInDim S1x1000000 ![] bcast_S_S1x1000000) : I₀ F → Iₙ F),
   binary main_call0_call0_call0_v87 main_call0_call0_call0_v91 main_call0_call0_call0_v92 (Host.shrui : Iₙ F → Iₙ F → Iₙ F),
   binary main_call0_call0_call0_v90 main_call0_call0_call0_v92 main_call0_call0_call0_v93 (ori : Iₙ F → Iₙ F → Iₙ F),
   binary main_call0_call0_call0_v88 main_call0_call0_call0_v93 main_call0_call0_call0_v94 (xori : Iₙ F → Iₙ F → Iₙ F)]

/-- One round. -/
def w15 : List (HloOp τ sig (Elt F)) :=
  [binary main_call0_call0_call0_v88 main_call0_call0_call0_v94 main_call0_call0_call0_v95 (addi : Iₙ F → Iₙ F → Iₙ F),
   nullary main_call0_call0_call0_c_24 (constantI S_ 32 6#32),
   unary main_call0_call0_call0_c_24 main_call0_call0_call0_v96 ((broadcastInDim S1x1000000 ![] bcast_S_S1x1000000) : I₀ F → Iₙ F),
   binary main_call0_call0_call0_v94 main_call0_call0_call0_v96 main_call0_call0_call0_v97 (Host.shli : Iₙ F → Iₙ F → Iₙ F),
   nullary main_call0_call0_call0_c_25 (constantI S_ 32 26#32),
   unary main_call0_call0_call0_c_25 main_call0_call0_call0_v98 ((broadcastInDim S1x1000000 ![] bcast_S_S1x1000000) : I₀ F → Iₙ F),
   binary main_call0_call0_call0_v94 main_call0_call0_call0_v98 main_call0_call0_call0_v99 (Host.shrui : Iₙ F → Iₙ F → Iₙ F),
   binary main_call0_call0_call0_v97 main_call0_call0_call0_v99 main_call0_call0_call0_v100 (ori : Iₙ F → Iₙ F → Iₙ F),
   binary main_call0_call0_call0_v95 main_call0_call0_call0_v100 main_call0_call0_call0_v101 (xori : Iₙ F → Iₙ F → Iₙ F)]

/-- Keys mixed in. -/
def w16 : List (HloOp τ sig (Elt F)) :=
  [unary main_call0_call0_v4 main_call0_call0_call0_v102 ((broadcastInDim S1x1000000 ![] bcast_S_S1x1000000) : I₀ F → Iₙ F),
   binary main_call0_call0_call0_v95 main_call0_call0_call0_v102 main_call0_call0_call0_v103 (addi : Iₙ F → Iₙ F → Iₙ F),
   unary main_call0_call0_v6 main_call0_call0_call0_v104 ((broadcastInDim S1x1000000 ![] bcast_S_S1x1000000) : I₀ F → Iₙ F),
   binary main_call0_call0_call0_v101 main_call0_call0_call0_v104 main_call0_call0_call0_v105 (addi : Iₙ F → Iₙ F → Iₙ F),
   nullary main_call0_call0_call0_c_26 (constantI S_ 32 3#32),
   unary main_call0_call0_call0_c_26 main_call0_call0_call0_v106 ((broadcastInDim S1x1000000 ![] bcast_S_S1x1000000) : I₀ F → Iₙ F),
   binary main_call0_call0_call0_v105 main_call0_call0_call0_v106 main_call0_call0_call0_v107 (addi : Iₙ F → Iₙ F → Iₙ F)]

/-- One round. -/
def w17 : List (HloOp τ sig (Elt F)) :=
  [binary main_call0_call0_call0_v103 main_call0_call0_call0_v107 main_call0_call0_call0_v108 (addi : Iₙ F → Iₙ F → Iₙ F),
   nullary main_call0_call0_call0_c_27 (constantI S_ 32 17#32),
   unary main_call0_call0_call0_c_27 main_call0_call0_call0_v109 ((broadcastInDim S1x1000000 ![] bcast_S_S1x1000000) : I₀ F → Iₙ F),
   binary main_call0_call0_call0_v107 main_call0_call0_call0_v109 main_call0_call0_call0_v110 (Host.shli : Iₙ F → Iₙ F → Iₙ F),
   nullary main_call0_call0_call0_c_28 (constantI S_ 32 15#32),
   unary main_call0_call0_call0_c_28 main_call0_call0_call0_v111 ((broadcastInDim S1x1000000 ![] bcast_S_S1x1000000) : I₀ F → Iₙ F),
   binary main_call0_call0_call0_v107 main_call0_call0_call0_v111 main_call0_call0_call0_v112 (Host.shrui : Iₙ F → Iₙ F → Iₙ F),
   binary main_call0_call0_call0_v110 main_call0_call0_call0_v112 main_call0_call0_call0_v113 (ori : Iₙ F → Iₙ F → Iₙ F),
   binary main_call0_call0_call0_v108 main_call0_call0_call0_v113 main_call0_call0_call0_v114 (xori : Iₙ F → Iₙ F → Iₙ F)]

/-- One round. -/
def w18 : List (HloOp τ sig (Elt F)) :=
  [binary main_call0_call0_call0_v108 main_call0_call0_call0_v114 main_call0_call0_call0_v115 (addi : Iₙ F → Iₙ F → Iₙ F),
   nullary main_call0_call0_call0_c_29 (constantI S_ 32 29#32),
   unary main_call0_call0_call0_c_29 main_call0_call0_call0_v116 ((broadcastInDim S1x1000000 ![] bcast_S_S1x1000000) : I₀ F → Iₙ F),
   binary main_call0_call0_call0_v114 main_call0_call0_call0_v116 main_call0_call0_call0_v117 (Host.shli : Iₙ F → Iₙ F → Iₙ F),
   nullary main_call0_call0_call0_c_30 (constantI S_ 32 3#32),
   unary main_call0_call0_call0_c_30 main_call0_call0_call0_v118 ((broadcastInDim S1x1000000 ![] bcast_S_S1x1000000) : I₀ F → Iₙ F),
   binary main_call0_call0_call0_v114 main_call0_call0_call0_v118 main_call0_call0_call0_v119 (Host.shrui : Iₙ F → Iₙ F → Iₙ F),
   binary main_call0_call0_call0_v117 main_call0_call0_call0_v119 main_call0_call0_call0_v120 (ori : Iₙ F → Iₙ F → Iₙ F),
   binary main_call0_call0_call0_v115 main_call0_call0_call0_v120 main_call0_call0_call0_v121 (xori : Iₙ F → Iₙ F → Iₙ F)]

/-- One round. -/
def w19 : List (HloOp τ sig (Elt F)) :=
  [binary main_call0_call0_call0_v115 main_call0_call0_call0_v121 main_call0_call0_call0_v122 (addi : Iₙ F → Iₙ F → Iₙ F),
   nullary main_call0_call0_call0_c_31 (constantI S_ 32 16#32),
   unary main_call0_call0_call0_c_31 main_call0_call0_call0_v123 ((broadcastInDim S1x1000000 ![] bcast_S_S1x1000000) : I₀ F → Iₙ F),
   binary main_call0_call0_call0_v121 main_call0_call0_call0_v123 main_call0_call0_call0_v124 (Host.shli : Iₙ F → Iₙ F → Iₙ F),
   nullary main_call0_call0_call0_c_32 (constantI S_ 32 16#32),
   unary main_call0_call0_call0_c_32 main_call0_call0_call0_v125 ((broadcastInDim S1x1000000 ![] bcast_S_S1x1000000) : I₀ F → Iₙ F),
   binary main_call0_call0_call0_v121 main_call0_call0_call0_v125 main_call0_call0_call0_v126 (Host.shrui : Iₙ F → Iₙ F → Iₙ F),
   binary main_call0_call0_call0_v124 main_call0_call0_call0_v126 main_call0_call0_call0_v127 (ori : Iₙ F → Iₙ F → Iₙ F),
   binary main_call0_call0_call0_v122 main_call0_call0_call0_v127 main_call0_call0_call0_v128 (xori : Iₙ F → Iₙ F → Iₙ F)]

/-- One round. -/
def w20 : List (HloOp τ sig (Elt F)) :=
  [binary main_call0_call0_call0_v122 main_call0_call0_call0_v128 main_call0_call0_call0_v129 (addi : Iₙ F → Iₙ F → Iₙ F),
   nullary main_call0_call0_call0_c_33 (constantI S_ 32 24#32),
   unary main_call0_call0_call0_c_33 main_call0_call0_call0_v130 ((broadcastInDim S1x1000000 ![] bcast_S_S1x1000000) : I₀ F → Iₙ F),
   binary main_call0_call0_call0_v128 main_call0_call0_call0_v130 main_call0_call0_call0_v131 (Host.shli : Iₙ F → Iₙ F → Iₙ F),
   nullary main_call0_call0_call0_c_34 (constantI S_ 32 8#32),
   unary main_call0_call0_call0_c_34 main_call0_call0_call0_v132 ((broadcastInDim S1x1000000 ![] bcast_S_S1x1000000) : I₀ F → Iₙ F),
   binary main_call0_call0_call0_v128 main_call0_call0_call0_v132 main_call0_call0_call0_v133 (Host.shrui : Iₙ F → Iₙ F → Iₙ F),
   binary main_call0_call0_call0_v131 main_call0_call0_call0_v133 main_call0_call0_call0_v134 (ori : Iₙ F → Iₙ F → Iₙ F),
   binary main_call0_call0_call0_v129 main_call0_call0_call0_v134 main_call0_call0_call0_v135 (xori : Iₙ F → Iₙ F → Iₙ F)]

/-- Keys mixed in. -/
def w21 : List (HloOp τ sig (Elt F)) :=
  [unary main_call0_call0_v6 main_call0_call0_call0_v136 ((broadcastInDim S1x1000000 ![] bcast_S_S1x1000000) : I₀ F → Iₙ F),
   binary main_call0_call0_call0_v129 main_call0_call0_call0_v136 main_call0_call0_call0_v137 (addi : Iₙ F → Iₙ F → Iₙ F),
   unary main_call0_call0_call0_v1 main_call0_call0_call0_v138 ((broadcastInDim S1x1000000 ![] bcast_S_S1x1000000) : I₀ F → Iₙ F),
   binary main_call0_call0_call0_v135 main_call0_call0_call0_v138 main_call0_call0_call0_v139 (addi : Iₙ F → Iₙ F → Iₙ F),
   nullary main_call0_call0_call0_c_35 (constantI S_ 32 4#32),
   unary main_call0_call0_call0_c_35 main_call0_call0_call0_v140 ((broadcastInDim S1x1000000 ![] bcast_S_S1x1000000) : I₀ F → Iₙ F),
   binary main_call0_call0_call0_v139 main_call0_call0_call0_v140 main_call0_call0_call0_v141 (addi : Iₙ F → Iₙ F → Iₙ F)]

/-- One round. -/
def w22 : List (HloOp τ sig (Elt F)) :=
  [binary main_call0_call0_call0_v137 main_call0_call0_call0_v141 main_call0_call0_call0_v142 (addi : Iₙ F → Iₙ F → Iₙ F),
   nullary main_call0_call0_call0_c_36 (constantI S_ 32 13#32),
   unary main_call0_call0_call0_c_36 main_call0_call0_call0_v143 ((broadcastInDim S1x1000000 ![] bcast_S_S1x1000000) : I₀ F → Iₙ F),
   binary main_call0_call0_call0_v141 main_call0_call0_call0_v143 main_call0_call0_call0_v144 (Host.shli : Iₙ F → Iₙ F → Iₙ F),
   nullary main_call0_call0_call0_c_37 (constantI S_ 32 19#32),
   unary main_call0_call0_call0_c_37 main_call0_call0_call0_v145 ((broadcastInDim S1x1000000 ![] bcast_S_S1x1000000) : I₀ F → Iₙ F),
   binary main_call0_call0_call0_v141 main_call0_call0_call0_v145 main_call0_call0_call0_v146 (Host.shrui : Iₙ F → Iₙ F → Iₙ F),
   binary main_call0_call0_call0_v144 main_call0_call0_call0_v146 main_call0_call0_call0_v147 (ori : Iₙ F → Iₙ F → Iₙ F),
   binary main_call0_call0_call0_v142 main_call0_call0_call0_v147 main_call0_call0_call0_v148 (xori : Iₙ F → Iₙ F → Iₙ F)]

/-- One round. -/
def w23 : List (HloOp τ sig (Elt F)) :=
  [binary main_call0_call0_call0_v142 main_call0_call0_call0_v148 main_call0_call0_call0_v149 (addi : Iₙ F → Iₙ F → Iₙ F),
   nullary main_call0_call0_call0_c_38 (constantI S_ 32 15#32),
   unary main_call0_call0_call0_c_38 main_call0_call0_call0_v150 ((broadcastInDim S1x1000000 ![] bcast_S_S1x1000000) : I₀ F → Iₙ F),
   binary main_call0_call0_call0_v148 main_call0_call0_call0_v150 main_call0_call0_call0_v151 (Host.shli : Iₙ F → Iₙ F → Iₙ F),
   nullary main_call0_call0_call0_c_39 (constantI S_ 32 17#32),
   unary main_call0_call0_call0_c_39 main_call0_call0_call0_v152 ((broadcastInDim S1x1000000 ![] bcast_S_S1x1000000) : I₀ F → Iₙ F),
   binary main_call0_call0_call0_v148 main_call0_call0_call0_v152 main_call0_call0_call0_v153 (Host.shrui : Iₙ F → Iₙ F → Iₙ F),
   binary main_call0_call0_call0_v151 main_call0_call0_call0_v153 main_call0_call0_call0_v154 (ori : Iₙ F → Iₙ F → Iₙ F),
   binary main_call0_call0_call0_v149 main_call0_call0_call0_v154 main_call0_call0_call0_v155 (xori : Iₙ F → Iₙ F → Iₙ F)]

/-- One round. -/
def w24 : List (HloOp τ sig (Elt F)) :=
  [binary main_call0_call0_call0_v149 main_call0_call0_call0_v155 main_call0_call0_call0_v156 (addi : Iₙ F → Iₙ F → Iₙ F),
   nullary main_call0_call0_call0_c_40 (constantI S_ 32 26#32),
   unary main_call0_call0_call0_c_40 main_call0_call0_call0_v157 ((broadcastInDim S1x1000000 ![] bcast_S_S1x1000000) : I₀ F → Iₙ F),
   binary main_call0_call0_call0_v155 main_call0_call0_call0_v157 main_call0_call0_call0_v158 (Host.shli : Iₙ F → Iₙ F → Iₙ F),
   nullary main_call0_call0_call0_c_41 (constantI S_ 32 6#32),
   unary main_call0_call0_call0_c_41 main_call0_call0_call0_v159 ((broadcastInDim S1x1000000 ![] bcast_S_S1x1000000) : I₀ F → Iₙ F),
   binary main_call0_call0_call0_v155 main_call0_call0_call0_v159 main_call0_call0_call0_v160 (Host.shrui : Iₙ F → Iₙ F → Iₙ F),
   binary main_call0_call0_call0_v158 main_call0_call0_call0_v160 main_call0_call0_call0_v161 (ori : Iₙ F → Iₙ F → Iₙ F),
   binary main_call0_call0_call0_v156 main_call0_call0_call0_v161 main_call0_call0_call0_v162 (xori : Iₙ F → Iₙ F → Iₙ F)]

/-- One round. -/
def w25 : List (HloOp τ sig (Elt F)) :=
  [binary main_call0_call0_call0_v156 main_call0_call0_call0_v162 main_call0_call0_call0_v163 (addi : Iₙ F → Iₙ F → Iₙ F),
   nullary main_call0_call0_call0_c_42 (constantI S_ 32 6#32),
   unary main_call0_call0_call0_c_42 main_call0_call0_call0_v164 ((broadcastInDim S1x1000000 ![] bcast_S_S1x1000000) : I₀ F → Iₙ F),
   binary main_call0_call0_call0_v162 main_call0_call0_call0_v164 main_call0_call0_call0_v165 (Host.shli : Iₙ F → Iₙ F → Iₙ F),
   nullary main_call0_call0_call0_c_43 (constantI S_ 32 26#32),
   unary main_call0_call0_call0_c_43 main_call0_call0_call0_v166 ((broadcastInDim S1x1000000 ![] bcast_S_S1x1000000) : I₀ F → Iₙ F),
   binary main_call0_call0_call0_v162 main_call0_call0_call0_v166 main_call0_call0_call0_v167 (Host.shrui : Iₙ F → Iₙ F → Iₙ F),
   binary main_call0_call0_call0_v165 main_call0_call0_call0_v167 main_call0_call0_call0_v168 (ori : Iₙ F → Iₙ F → Iₙ F),
   binary main_call0_call0_call0_v163 main_call0_call0_call0_v168 main_call0_call0_call0_v169 (xori : Iₙ F → Iₙ F → Iₙ F)]

/-- Keys mixed in. -/
def w26 : List (HloOp τ sig (Elt F)) :=
  [unary main_call0_call0_call0_v1 main_call0_call0_call0_v170 ((broadcastInDim S1x1000000 ![] bcast_S_S1x1000000) : I₀ F → Iₙ F),
   binary main_call0_call0_call0_v163 main_call0_call0_call0_v170 main_call0_call0_v18_0 (addi : Iₙ F → Iₙ F → Iₙ F),
   unary main_call0_call0_v4 main_call0_call0_call0_v172 ((broadcastInDim S1x1000000 ![] bcast_S_S1x1000000) : I₀ F → Iₙ F),
   binary main_call0_call0_call0_v169 main_call0_call0_call0_v172 main_call0_call0_call0_v173 (addi : Iₙ F → Iₙ F → Iₙ F),
   nullary main_call0_call0_call0_c_44 (constantI S_ 32 5#32),
   unary main_call0_call0_call0_c_44 main_call0_call0_call0_v174 ((broadcastInDim S1x1000000 ![] bcast_S_S1x1000000) : I₀ F → Iₙ F),
   binary main_call0_call0_call0_v173 main_call0_call0_call0_v174 main_call0_call0_v18_1 (addi : Iₙ F → Iₙ F → Iₙ F)]

/-- The bits to the noise. -/
def w27 : List (HloOp τ sig (Elt F)) :=
  [binary main_call0_call0_v18_0 main_call0_call0_v18_1 main_call0_call0_v19 (xori : Iₙ F → Iₙ F → Iₙ F),
   nullary main_call0_call0_c_2 (constantI S_ 32 9#32),
   unary main_call0_call0_c_2 main_call0_call0_v20 ((broadcastInDim S1x1000000 ![] bcast_S_S1x1000000) : I₀ F → Iₙ F),
   binary main_call0_call0_v19 main_call0_call0_v20 main_call0_call0_v21 (Host.shrui : Iₙ F → Iₙ F → Iₙ F),
   nullary main_call0_call0_c_3 (constantI S_ 32 1065353216#32),
   unary main_call0_call0_c_3 main_call0_call0_v22 ((broadcastInDim S1x1000000 ![] bcast_S_S1x1000000) : I₀ F → Iₙ F),
   binary main_call0_call0_v21 main_call0_call0_v22 main_call0_call0_v23 (ori : Iₙ F → Iₙ F → Iₙ F),
   unary main_call0_call0_v23 main_call0_call0_v24 ((bitcastToFloat .f32) : Iₙ F → Rₙ F),
   nullary main_call0_call0_cst (constant S_ .f32 0x3F800000#32),
   unary main_call0_call0_cst main_call0_call0_v25 ((broadcastInDim S1x1000000 ![] bcast_S_S1x1000000) : R₀ F → Rₙ F),
   binary main_call0_call0_v24 main_call0_call0_v25 main_call0_call0_v26 (subf : Rₙ F → Rₙ F → Rₙ F),
   binary main_call0_call0_v2 main_call0_call0_v1 main_call0_call0_v27 (subf : R₁₁ F → R₁₁ F → R₁₁ F),
   unary main_call0_call0_v27 main_call0_call0_v28 ((broadcastInDim S1x1000000 ![0, 1] bcast_S1x1_S1x1000000_0_1) : R₁₁ F → Rₙ F),
   binary main_call0_call0_v26 main_call0_call0_v28 main_call0_call0_v29 (mulf : Rₙ F → Rₙ F → Rₙ F),
   unary main_call0_call0_v1 main_call0_call0_v30 ((broadcastInDim S1x1000000 ![0, 1] bcast_S1x1_S1x1000000_0_1) : R₁₁ F → Rₙ F),
   binary main_call0_call0_v29 main_call0_call0_v30 main_call0_call0_v31 (addf : Rₙ F → Rₙ F → Rₙ F),
   unary main_call0_call0_v1 main_call0_call0_v32 ((broadcastInDim S1x1000000 ![0, 1] bcast_S1x1_S1x1000000_0_1) : R₁₁ F → Rₙ F),
   binary main_call0_call0_v32 main_call0_call0_v31 main_call0_v0 (maximumf : Rₙ F → Rₙ F → Rₙ F),
   unary main_call0_v0 main_call0_v1 (Host.log : Rₙ F → Rₙ F),
   unary main_call0_v1 main_call0_v2 (Host.negf : Rₙ F → Rₙ F),
   unary main_call0_v2 main_call0_v3 (Host.log : Rₙ F → Rₙ F),
   unary main_call0_v3 main_v8 (Host.negf : Rₙ F → Rₙ F),
   reshape main_v8 main_v9 (rfl : (.f32 : EltTy) = .f32) shapeCasts_S1x1000000_S1000000]

/-- All of them, in order. -/
def ops : List (HloOp τ sig (Elt F)) := [w0, w1, w2, w3, w4, w5, w6, w7, w8, w9, w10, w11, w12, w13, w14, w15, w16, w17, w18, w19, w20, w21, w22, w23, w24, w25, w26, w27].flatten

/-- The reshapes after the SparseCore call and after the kernel. -/
def opsIn : List (HloOp τ sig (Elt F)) := [reshape main_arg0 main_v11 (rfl : (.f32 : EltTy) = .f32) shapeCasts_S1x1000000_S64x15625]
def opsOut : List (HloOp τ sig (Elt F)) := [reshape main_v12 main_v13 (rfl : (.f32 : EltTy) = .f32) shapeCasts_S64x15625_S1x1000000]

/-- One operation of the line comes off both sides. -/
theorem step {Λ : Labels} {op : HloOp τ sig (Elt F)} {o : List (HloOp τ sig (Elt F))} {k r : Prog (TpuEff nD τ sig (Elt F) Λ .tc) PUnit}
    (h : k = (seq o >>= fun _ => r)) : (((hlo rfl op fun _ => .ret ⟨⟩) : Prog (TpuEff nD τ sig (Elt F) Λ .tc) PUnit) >>= fun _ => k) = (seq (op :: o) >>= fun _ => r) := by
  subst h; rfl

/-- The line is through. -/
theorem last {Λ : Labels} {k r : Prog (TpuEff nD τ sig (Elt F) Λ .tc) PUnit}
    (h : k = r) : k = (seq [] >>= fun _ => r) := h

set_option maxRecDepth 20000 in
set_option maxHeartbeats 2000000 in
/-- The host program: its straight line, the launch, the second kernel's staging and call, the result's shape. -/
theorem main_eq (d : Dev nD) :  main (F := F) d = (seq ops >>= fun _ => sc.run d 0 >>= fun _ => seq opsIn >>= fun _ =>
      Prog.lift (.customCall (SparseCore.inner (Pipeline.entry 0)) ()) >>= fun _ => seq opsOut) := by
  unfold main fn_gumbel.body fn_uniform.body fn_threefry2x32.body fn_threefry2x32.body_part0 fn_threefry2x32.body_part1 fn_threefry2x32.body_part2 fn_threefry2x32.body_part3
  simp only [bind_assoc, pure_bind]
  unfold ops
  iterate 279 (refine step ?_)
  refine last ?_
  rfl

end Cert.Proof.Host

end
-- ==== Proof.Noise.lean ====
/-
  The noise as a function of nothing: the key, the counters, the rounds of the generator, and the bits taken to a number.
  Each step is kept under its own name, so that it is never written out.
-/
module

public import proofs.«01_k».proof.Proof.Host

@[expose] public section

noncomputable section

namespace Cert.Proof.Noise

open Cert.KernelIdeal Cert.KernelIdeal.Gen
open Idealize.ShloMosaic Idealize.ShloMosaic.TcCoe Idealize.ShloMosaic.StableHlo
open Cert.Proof.Host

variable {F : FTy → Type} [FloatOps F]

/-- One word in every element; one constant. -/
abbrev spread (v : I₀ F) : Iₙ F := broadcastInDim S1x1000000 ![] bcast_S_S1x1000000 v
abbrev word (n : BitVec 32) : Iₙ F := spread (F := F) (constantI S_ 32 n)

/-- A round: the sum, and the second word turned left by `n` (and right by `m`, with `n + m = 32`) against it. -/
def round (n m : BitVec 32) (p : Iₙ F × Iₙ F) : Iₙ F × Iₙ F :=
  (addi p.1 p.2, xori (addi p.1 p.2) (ori (Host.shli p.2 (word (F := F) n)) (Host.shrui p.2 (word (F := F) m))))

/-- Two keys and a count mixed in. -/
def inject (a b : I₀ F) (c : BitVec 32) (p : Iₙ F × Iₙ F) : Iₙ F × Iₙ F :=
  (addi p.1 (spread a), addi (addi p.2 (spread b)) (word (F := F) c))

/-! ## The key, the counters, the ends of the range -/

section Values

variable (F : FTy → Type) [FloatOps F]

def seed : I₂ F := (fun a b : I₁ F => concatenate S2 0 [⟨S1, a⟩, ⟨S1, b⟩] concatenates_S1_S1_S2_d0)
  (broadcastInDim S1 ![] bcast_S_S1 (Host.shrui (constantI S_ 32 42#32) (constantI S_ 32 32#32) : I₀ F))
  (broadcastInDim S1 ![] bcast_S_S1 (andi (constantI S_ 32 42#32) (constantI S_ 32 4294967295#32) : I₀ F))
def key0 : I₀ F := shapeCast S_ (extractStridedSlice S1 ![0] (seed F) slices_S2_S1_0) shapeCasts_S1_S_
def key1 : I₀ F := shapeCast S_ (extractStridedSlice S1 ![1] (seed F) slices_S2_S1_1) shapeCasts_S1_S_
def key2 : I₀ F := xori (xori (key0 F) (key1 F)) (constantI S_ 32 466688986#32)
/-- An element's number, from its two coordinates. -/
def count : Lₙ F :=
  addi (muli (broadcastInDim S1x1000000 ![] bcast_S_S1x1000000 (constantI S_ 64 1000000#64)) (iotaInDim S1x1000000 64 0))
    (muli (broadcastInDim S1x1000000 ![] bcast_S_S1x1000000 (constantI S_ 64 1#64)) (iotaInDim S1x1000000 64 1))
def lo : Iₙ F := trunci 32 (count F) natLt_32_64
def hi : Iₙ F := trunci 32 (Host.shrui (count F) (broadcastInDim S1x1000000 ![] bcast_S_S1x1000000 (constantI S_ 64 32#64))) natLt_32_64
def one : R₁₁ F := broadcastInDim S1x1 ![] bcast_S_S1x1 (constant S_ .f32 0x3F800000#32 : R₀ F)
def tiny : R₁₁ F := broadcastInDim S1x1 ![] bcast_S_S1x1 (constant S_ .f32 0x00800000#32 : R₀ F)

/-! ## The twenty rounds and five mixings -/

def s1 : Iₙ F × Iₙ F := (addi (hi F) (spread (key0 F)), addi (lo F) (spread (key1 F)))
def s2 : Iₙ F × Iₙ F := round 13#32 19#32 (s1 F)
def s3 : Iₙ F × Iₙ F := round 15#32 17#32 (s2 F)
def s4 : Iₙ F × Iₙ F := round 26#32 6#32 (s3 F)
def s5 : Iₙ F × Iₙ F := round 6#32 26#32 (s4 F)
def s6 : Iₙ F × Iₙ F := inject (key1 F) (key2 F) 1#32 (s5 F)
def s7 : Iₙ F × Iₙ F := round 17#32 15#32 (s6 F)
def s8 : Iₙ F × Iₙ F := round 29#32 3#32 (s7 F)
def s9 : Iₙ F × Iₙ F := round 16#32 16#32 (s8 F)
def s10 : Iₙ F × Iₙ F := round 24#32 8#32 (s9 F)
def s11 : Iₙ F × Iₙ F := inject (key2 F) (key0 F) 2#32 (s10 F)
def s12 : Iₙ F × Iₙ F := round 13#32 19#32 (s11 F)
def s13 : Iₙ F × Iₙ F := round 15#32 17#32 (s12 F)
def s14 : Iₙ F × Iₙ F := round 26#32 6#32 (s13 F)
def s15 : Iₙ F × Iₙ F := round 6#32 26#32 (s14 F)
def s16 : Iₙ F × Iₙ F := inject (key0 F) (key1 F) 3#32 (s15 F)
def s17 : Iₙ F × Iₙ F := round 17#32 15#32 (s16 F)
def s18 : Iₙ F × Iₙ F := round 29#32 3#32 (s17 F)
def s19 : Iₙ F × Iₙ F := round 16#32 16#32 (s18 F)
def s20 : Iₙ F × Iₙ F := round 24#32 8#32 (s19 F)
def s21 : Iₙ F × Iₙ F := inject (key1 F) (key2 F) 4#32 (s20 F)
def s22 : Iₙ F × Iₙ F := round 13#32 19#32 (s21 F)
def s23 : Iₙ F × Iₙ F := round 15#32 17#32 (s22 F)
def s24 : Iₙ F × Iₙ F := round 26#32 6#32 (s23 F)
def s25 : Iₙ F × Iₙ F := round 6#32 26#32 (s24 F)
def s26 : Iₙ F × Iₙ F := inject (key2 F) (key0 F) 5#32 (s25 F)

/-! ## The noise -/

/-- The mantissa's bits at exponent zero: a number from 1 up to 2. -/
def mantissa (p : Iₙ F × Iₙ F) : Iₙ F := ori (Host.shrui (xori p.1 p.2) (word (F := F) 9#32)) (word (F := F) 1065353216#32)
/-- Uniform on the range from the smallest normal number up to one. -/
def uniform (w : Iₙ F) : Rₙ F :=
  maximumf (broadcastInDim S1x1000000 ![0, 1] bcast_S1x1_S1x1000000_0_1 (tiny F))
    (addf (mulf (subf (bitcastToFloat .f32 w) (broadcastInDim S1x1000000 ![] bcast_S_S1x1000000 (constant S_ .f32 0x3F800000#32 : R₀ F)))
        (broadcastInDim S1x1000000 ![0, 1] bcast_S1x1_S1x1000000_0_1 (subf (one F) (tiny F))))
      (broadcastInDim S1x1000000 ![0, 1] bcast_S1x1_S1x1000000_0_1 (tiny F)))
def noise : Rₙ F := Host.negf (Host.log (Host.negf (Host.log (uniform F (mantissa F (s26 F))))))

end Values

end Cert.Proof.Noise

end
-- ==== Proof.Finite.lean ====
/-
  The noise is finite at extended reals, whatever the generator's words are.
-/
module

public import proofs.«01_k».proof.Proof.Combine
public import proofs.«01_k».proof.Proof.Noise

@[expose] public section

noncomputable section

namespace Cert.Proof.Noise

open Idealize.ShloMosaic
open Cert.Proof.Value Cert.Proof.Host
open Cert.KernelIdeal Cert.KernelIdeal.Gen

theorem ideal_log {r : ℝ} (h : 0 < r) : Ideal.log ((r : ℝ) : EReal) = ((Real.log r : ℝ) : EReal) := by
  show (if r ≤ 0 then (⊥ : EReal) else ((Real.log r : ℝ) : EReal)) = _
  rw [if_neg (not_le.mpr h)]

/-- Twice the logarithm, negated, of a number strictly between zero and one is real. -/
theorem twice {u : ℝ} (h0 : 0 < u) (h1 : u < 1) : ∃ r : ℝ, -(Ideal.log (-(Ideal.log ((u : ℝ) : EReal)))) = ((r : ℝ) : EReal) := by
  refine ⟨-(Real.log (-(Real.log u))), ?_⟩
  rw [ideal_log h0, ← EReal.coe_neg, ideal_log (by have := Real.log_neg h0 h1; linarith), ← EReal.coe_neg]

theorem word_val (b : BitVec 32) : ∃ f : ℕ, f < 2 ^ 23 ∧
    Ideal.ofBits .f32 ((b >>> 9) ||| 1065353216#32) = ((1 + (f : ℝ) / 2 ^ 23 : ℝ) : EReal) := by
  refine ⟨(((b >>> 9) ||| 1065353216#32).extractLsb' 0 23).toNat, BitVec.isLt _, ?_⟩
  have hb := b.isLt
  have hz : (b >>> 9).toNat < 2 ^ 23 := by
    rw [BitVec.toNat_ushiftRight, Nat.shiftRight_eq_div_pow]; omega
  rw [pos_val (e := 127) (f := (((b >>> 9) ||| 1065353216#32).extractLsb' 0 23).toNat) ?_ ?_ rfl (by decide) (by decide)]
  · congr 1
    push_cast
    norm_num
    ring
  · have h : ((b >>> 9) ||| 1065353216#32).extractLsb' 31 1 = 0#1 := by
      ext i hi
      obtain rfl : i = 0 := by omega
      simp [BitVec.getElem_extractLsb', BitVec.getLsbD_or, BitVec.getLsbD_ushiftRight]
    rw [h]; rfl
  · have h : ((b >>> 9) ||| 1065353216#32).extractLsb' 23 8 = 127#8 := by
      ext i hi
      have hg : (b >>> 9).getLsbD (23 + i) = false := by
        rw [BitVec.getLsbD_ushiftRight]; exact BitVec.getLsbD_of_ge _ _ (by omega)
      rw [BitVec.getElem_extractLsb', BitVec.getLsbD_or, hg, ← BitVec.getLsbD_eq_getElem]
      clear hg hb hz
      interval_cases i <;> rfl
    rw [h]; rfl

theorem one_val : Ideal.ofBits .f32 0x3F800000#32 = ((1 : ℝ) : EReal) := by
  rw [pos_val (e := 127) (f := 0) (by decide) (by decide) (by decide) (by decide) (by decide)]
  norm_num

theorem tiny_val : ∃ t : ℝ, 0 < t ∧ t < 1 ∧ Ideal.ofBits .f32 0x00800000#32 = ((t : ℝ) : EReal) := by
  refine ⟨_, ?_, ?_, pos_val (e := 1) (f := 0) (by decide) (by decide) (by decide) (by decide) (by decide)⟩
  · positivity
  · norm_num [zpow_neg]

theorem uniform_eq (w : Iₙ Ideal) (i) : (uniform Ideal w i : EReal) = max (Ideal.ofBits .f32 0x00800000#32)
    ((Ideal.ofBits .f32 (w i) - Ideal.ofBits .f32 0x3F800000#32)
      * (Ideal.ofBits .f32 0x3F800000#32 - Ideal.ofBits .f32 0x00800000#32) + Ideal.ofBits .f32 0x00800000#32) := rfl

theorem twice_eq (u : FVec Ideal S1x1000000 .f32) (i : S1x1000000.Idx) : Host.negf (Host.log (Host.negf (Host.log u))) i
    = (-(Ideal.log (-(Ideal.log (u i : EReal)))) : EReal) := rfl

theorem noise_eq (i) : (noise Ideal i : EReal) = -(Ideal.log (-(Ideal.log (uniform Ideal (mantissa Ideal (s26 Ideal)) i)))) :=
  twice_eq _ i

theorem mantissa_eq (i) : ∃ b : BitVec 32, mantissa Ideal (s26 Ideal) i = (b >>> 9) ||| 1065353216#32 := by
  unfold mantissa
  generalize s26 Ideal = p
  exact ⟨p.1 i ^^^ p.2 i, rfl⟩

theorem noise_real (i) : ∃ r : ℝ, (noise Ideal i : EReal) = ((r : ℝ) : EReal) := by
  obtain ⟨b, hb⟩ := mantissa_eq i
  obtain ⟨f, hf, hv⟩ := word_val b
  obtain ⟨t, h0, h1, ht⟩ := tiny_val
  rw [noise_eq, uniform_eq, hb, hv, one_val, ht]
  have hf' : (f : ℝ) / 2 ^ 23 < 1 := by
    rw [div_lt_one (by positivity)]; exact_mod_cast hf
  have hf0 : 0 ≤ (f : ℝ) / 2 ^ 23 := by positivity
  generalize (f : ℝ) / 2 ^ 23 = q at hf' hf0
  have he : max ((t : ℝ) : EReal) ((((1 + q : ℝ) : EReal) - ((1 : ℝ) : EReal)) * (((1 : ℝ) : EReal) - ((t : ℝ) : EReal)) + ((t : ℝ) : EReal))
      = ((q * (1 - t) + t : ℝ) : EReal) := by
    rw [← EReal.coe_sub, ← EReal.coe_sub, ← EReal.coe_mul, ← EReal.coe_add]
    rw [max_eq_right]
    · congr 1; ring
    · exact_mod_cast (by nlinarith : t ≤ (1 + q - 1) * (1 - t) + t)
  rw [he]
  exact twice (by nlinarith) (by nlinarith)

end Cert.Proof.Noise

end
-- ==== Proof.Agree.lean ====
/-
  The two programs' formulas agree at extended reals. With `M` the largest element: when `M` is infinite both results
  are `⊥`; when `M` is real the two logarithms are one real number, and the rest is arithmetic.
-/
module

public import proofs.«01_k».proof.Proof.Finite

@[expose] public section

noncomputable section

namespace Cert.Proof.Value

open Idealize.ShloMosaic
open Finset (range)

/-- The largest element where it is finite, and zero where it is not. -/
def guard (a : EReal) : EReal := if max a (-a) < ⊤ then a else 0

/-- The logarithm of the sum of exponentials, taken at a distance from the largest. -/
def lse (x : ℕ → EReal) : EReal :=
  Ideal.log (0 + ∑ n ∈ range 1000000, Ideal.exp (x n - guard ((range 1000000).sup x))) + guard ((range 1000000).sup x)

theorem exp_coe (r : ℝ) : Ideal.exp ((r : ℝ) : EReal) = ((Real.exp r : ℝ) : EReal) := rfl
theorem exp_bot : Ideal.exp ⊥ = 0 := rfl
theorem exp_top : Ideal.exp ⊤ = ⊤ := rfl
theorem log_top : Ideal.log ⊤ = ⊤ := rfl

theorem exp_nonneg (a : EReal) : 0 ≤ Ideal.exp a := by
  induction a with
  | bot => rw [exp_bot]
  | top => rw [exp_top]; exact le_top
  | coe r => rw [exp_coe]; exact_mod_cast (Real.exp_pos r).le

theorem sum_top {x : ℕ → EReal} {k : ℕ} (hk : k ∈ range 1000000) (h : x k = ⊤) : ∑ n ∈ range 1000000, Ideal.exp (x n) = ⊤ := by
  refine top_le_iff.mp ?_
  have := Finset.single_le_sum (f := fun n => Ideal.exp (x n)) (fun n _ => exp_nonneg _) hk
  rwa [h, exp_top] at this

theorem coe_sum (s : Finset ℕ) (f : ℕ → ℝ) : ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

theorem top_add_bot' (a : EReal) : a - ⊤ = ⊥ := by
  rw [sub_eq_add_neg, EReal.neg_top, EReal.add_bot]

theorem two_top : ((2 : ℝ) : EReal) * ⊤ = ⊤ := EReal.coe_mul_top_of_pos (by norm_num)

/-- The logarithms, when the largest element is real. -/
theorem logs {x : ℕ → EReal} {M : ℝ} (hM : (range 1000000).sup x = ((M : ℝ) : EReal)) :
    ∃ L : ℝ, Ideal.log (∑ n ∈ range 1000000, Ideal.exp (x n)) = ((L : ℝ) : EReal) ∧ lse x = ((L : ℝ) : EReal) := by
  have hle : ∀ n ∈ range 1000000, x n ≤ ((M : ℝ) : EReal) := fun n hn => hM ▸ Finset.le_sup hn
  obtain ⟨k, hk, hxk⟩ := Finset.exists_mem_eq_sup (range 1000000) ⟨0, by simp⟩ x
  rw [hM] at hxk
  let e : ℕ → ℝ := fun n => if x n = ⊥ then 0 else Real.exp (x n).toReal
  have he0 : ∀ n, 0 ≤ e n := fun n => by
    by_cases h : x n = ⊥
    · simp [e, h]
    · simp [e, h, (Real.exp_pos _).le]
  have he : ∀ n ∈ range 1000000, Ideal.exp (x n) = ((e n : ℝ) : EReal) ∧ Ideal.exp (x n - ((M : ℝ) : EReal)) = ((e n * Real.exp (-M) : ℝ) : EReal) := by
    intro n hn
    have hl := hle n hn
    by_cases h : x n = ⊥
    · simp [e, h, exp_bot]
    · have ht : x n ≠ ⊤ := fun h => by rw [h] at hl; exact absurd (top_le_iff.mp hl) (EReal.coe_ne_top M)
      simp only [e, h, if_false]
      obtain ⟨r, hr⟩ : ∃ r : ℝ, x n = ((r : ℝ) : EReal) := ⟨(x n).toReal, (EReal.coe_toReal ht h).symm⟩
      rw [hr, EReal.toReal_coe, ← EReal.coe_sub, exp_coe, exp_coe, sub_eq_add_neg, Real.exp_add]
      exact ⟨rfl, rfl⟩
  have hk0 : 0 < e k := by
    have : x k ≠ ⊥ := by rw [← hxk]; exact EReal.coe_ne_bot M
    simp only [e, this, if_false]; exact Real.exp_pos _
  have hS : 0 < ∑ n ∈ range 1000000, e n := Finset.sum_pos' (fun n _ => he0 n) ⟨k, hk, hk0⟩
  have h1 : ∑ n ∈ range 1000000, Ideal.exp (x n) = ((∑ n ∈ range 1000000, e n : ℝ) : EReal) := by
    rw [← coe_sum]; exact Finset.sum_congr rfl fun n hn => (he n hn).1
  have h2 : ∑ n ∈ range 1000000, Ideal.exp (x n - ((M : ℝ) : EReal)) = (((∑ n ∈ range 1000000, e n) * Real.exp (-M) : ℝ) : EReal) := by
    rw [Finset.sum_mul, ← coe_sum]; exact Finset.sum_congr rfl fun n hn => (he n hn).2
  refine ⟨Real.log (∑ n ∈ range 1000000, e n), ?_, ?_⟩
  · rw [h1, Noise.ideal_log hS]
  · have hg : guard ((range 1000000).sup x) = ((M : ℝ) : EReal) := by
      rw [hM]; unfold guard
      rw [if_pos]
      exact max_lt (EReal.coe_lt_top M) (by rw [← EReal.coe_neg]; exact EReal.coe_lt_top _)
    unfold lse
    rw [hg, h2, zero_add, Noise.ideal_log (mul_pos hS (Real.exp_pos _)), Real.log_mul hS.ne' (Real.exp_pos _).ne', Real.log_exp, ← EReal.coe_add]
    exact congrArg (Real.toEReal) (by ring)

theorem lse_top {x : ℕ → EReal} (hM : (range 1000000).sup x = ⊤) :
    Ideal.log (∑ n ∈ range 1000000, Ideal.exp (x n)) = ⊤ ∧ lse x = ⊤ := by
  obtain ⟨k, hk, hxk⟩ := Finset.exists_mem_eq_sup (range 1000000) ⟨0, by simp⟩ x
  rw [hM] at hxk
  have hg : guard ((range 1000000).sup x) = 0 := by rw [hM]; simp [guard]
  refine ⟨by rw [sum_top hk hxk.symm, log_top], ?_⟩
  unfold lse
  rw [hg]
  simp only [sub_zero, zero_add, add_zero]
  rw [sum_top hk hxk.symm, log_top]

theorem agree {x g : ℕ → EReal} (hg : ∀ n, ∃ r : ℝ, g n = ((r : ℝ) : EReal)) {p s : EReal}
    (hk : (range 1000000).sup (fun n => x n + g n) ≠ ⊥ → ∃ k < 1000000, x k + g k = (range 1000000).sup (fun n => x n + g n) ∧ s = x k ∧ p = x k - lse x)
    {i : ℕ} (hi : i < 1000000) :
    (x i + (s - ((2 : ℝ) : EReal) * Ideal.log (∑ n ∈ range 1000000, Ideal.exp (x n))))
        + Ideal.exp (x i - Ideal.log (∑ n ∈ range 1000000, Ideal.exp (x n)))
      = (p + Ideal.exp (x i - lse x)) + (x i - lse x) := by
  have hbot : x i = ⊥ → (x i + (s - ((2 : ℝ) : EReal) * Ideal.log (∑ n ∈ range 1000000, Ideal.exp (x n))))
        + Ideal.exp (x i - Ideal.log (∑ n ∈ range 1000000, Ideal.exp (x n)))
      = (p + Ideal.exp (x i - lse x)) + (x i - lse x) := fun h => by
    have h' : x i - lse x = ⊥ := by rw [h, sub_eq_add_neg, EReal.bot_add]
    rw [h', EReal.add_bot, h, EReal.bot_add, EReal.bot_add]
  have hir := Finset.mem_range.mpr hi
  rcases hM : (range 1000000).sup x with _ | _ | M
  · refine hbot (le_bot_iff.mp ?_)
    have := Finset.le_sup (f := x) hir
    rw [hM] at this; exact this
  · obtain ⟨h1, h2⟩ := lse_top (x := x) hM
    rw [h1, h2, two_top, top_add_bot', top_add_bot', EReal.add_bot, EReal.add_bot, EReal.bot_add]
  · replace hM : (range 1000000).sup x = ((M : ℝ) : EReal) := hM
    obtain ⟨L, h1, h2⟩ := logs hM
    have hle : ∀ n ∈ range 1000000, x n ≤ ((M : ℝ) : EReal) := fun n hn => hM ▸ Finset.le_sup hn
    have hreal : ∀ n < 1000000, x n ≠ ⊥ → ∃ r : ℝ, x n = ((r : ℝ) : EReal) := fun n hn h =>
      ⟨(x n).toReal, (EReal.coe_toReal (fun ht => by
        have := hle n (Finset.mem_range.mpr hn); rw [ht] at this
        exact absurd (top_le_iff.mp this) (EReal.coe_ne_top M)) h).symm⟩
    by_cases hb : x i = ⊥
    · exact hbot hb
    obtain ⟨v, hv⟩ := hreal i hi hb
    have hne : (range 1000000).sup (fun n => x n + g n) ≠ ⊥ := fun h => by
      have := Finset.le_sup (f := fun n => x n + g n) hir
      rw [h] at this
      obtain ⟨r, hr⟩ := hg i
      simp only [hv, hr, ← EReal.coe_add] at this
      exact absurd (le_bot_iff.mp this) (EReal.coe_ne_bot _)
    obtain ⟨k, hkN, hkH, rfl, rfl⟩ := hk hne
    obtain ⟨y, hy⟩ := hreal k hkN fun h => hne (by rw [← hkH, h, EReal.bot_add])
    rw [h1, h2, hv, hy, ← EReal.coe_mul, ← EReal.coe_sub, ← EReal.coe_sub, ← EReal.coe_sub, exp_coe, ← EReal.coe_add, ← EReal.coe_add, ← EReal.coe_add,
      ← EReal.coe_add]
    exact congrArg (Real.toEReal) (by ring)

end Cert.Proof.Value

end
-- ==== Proof.Index.lean ====
/-
  A row of a million elements, counted by a number; and the first largest of a list, as a fold keeps it.
-/
module

public import proofs.«01_k».proof.Proof.Plain
public import proofs.«01_k».proof.Proof.Agree

@[expose] public section

noncomputable section

namespace Cert.Proof.Value

open Cert.ReferenceIdeal Cert.ReferenceIdeal.Gen
open Idealize.ShloMosaic
open Finset (range)

/-- Element `n` of the row. -/
def ixR (n : ℕ) : S1x1000000.Idx := fun a => ⟨if a = 1 then n % 1000000 else 0, by
  fin_cases a
  · exact Nat.one_pos
  · show n % 1000000 < 1000000; omega⟩

theorem ixR_val (n : ℕ) : (ixR n 1).val = n % 1000000 := rfl

theorem ixR_self (i : S1x1000000.Idx) : ixR (i 1).val = i := by
  funext a
  refine Fin.ext ?_
  fin_cases a
  · have : (i 0).val < 1 := (i 0).isLt
    show 0 = (i 0).val
    omega
  · exact Nat.mod_eq_of_lt (i 1).isLt

theorem univ_row : (Finset.univ : Finset S1x1000000.Idx) = (range 1000000).image ixR := by
  refine (Finset.eq_univ_iff_forall.mpr fun i => Finset.mem_image.mpr ⟨(i 1).val, Finset.mem_range.mpr (i 1).isLt, ixR_self i⟩).symm

theorem ixR_inj : Set.InjOn ixR (range 1000000 : Finset ℕ) := by
  intro a ha b hb h
  have h1 : a % 1000000 = b % 1000000 := congrArg (fun i : S1x1000000.Idx => (i 1).val) h
  rw [Finset.mem_coe, Finset.mem_range] at ha hb
  rw [Nat.mod_eq_of_lt ha, Nat.mod_eq_of_lt hb] at h1
  exact h1

theorem sum_row (f : S1x1000000.Idx → EReal) : ∑ i, f i = ∑ n ∈ range 1000000, f (ixR n) := by
  rw [univ_row, Finset.sum_image ixR_inj]

theorem sup_row (f : S1x1000000.Idx → EReal) : Finset.univ.sup f = (range 1000000).sup fun n => f (ixR n) := by
  rw [univ_row, Finset.sup_image]; rfl

/-- One step of the fold: the larger, and of two as large the one of the smaller place. -/
theorem step (a b : Ideal .f32 × BitVec 32) : reducer_argmax_f32_i32 (F := Ideal) a b
    = (if (b.1 : EReal) < a.1 then a.1 else b.1, if (b.1 : EReal) < a.1 ∨ (a.1 : EReal) = b.1 ∧ a.2.toInt < b.2.toInt then a.2 else b.2) := by
  have h : reducer_argmax_f32_i32 (F := Ideal) a b
    = (Scalar.select (BitVec.ofBool (decide ((b.1 : EReal) < a.1)) ||| BitVec.ofBool (decide ((a.1 : EReal) ≠ a.1))) a.1 b.1,
      Scalar.select ((BitVec.ofBool (decide ((b.1 : EReal) < a.1)) ||| BitVec.ofBool (decide ((a.1 : EReal) ≠ a.1)))
        ||| (BitVec.ofBool (decide ((a.1 : EReal) = b.1)) &&& BitVec.ofBool (a.2.slt b.2))) a.2 b.2) := rfl
  rw [h]
  have hs : BitVec.ofBool (a.2.slt b.2) = BitVec.ofBool (decide (a.2.toInt < b.2.toInt)) := rfl
  rw [hs]
  by_cases h1 : (b.1 : EReal) < a.1 <;> by_cases h2 : (a.1 : EReal) = b.1 <;> by_cases h3 : a.2.toInt < b.2.toInt <;>
    simp [h1, h2, h3, Scalar.select]

theorem fold_first (l : List (Ideal .f32 × BitVec 32)) (s : Ideal .f32 × BitVec 32) :
    l.foldl (reducer_argmax_f32_i32 (F := Ideal)) s ∈ s :: l
      ∧ ∀ p ∈ s :: l, (p.1 : EReal) ≤ (l.foldl (reducer_argmax_f32_i32 (F := Ideal)) s).1
        ∧ ((p.1 : EReal) = (l.foldl (reducer_argmax_f32_i32 (F := Ideal)) s).1 → (l.foldl (reducer_argmax_f32_i32 (F := Ideal)) s).2.toInt ≤ p.2.toInt) := by
  induction l generalizing s with
  | nil => simp
  | cons q l ih =>
    obtain ⟨hm, hall⟩ := ih (reducer_argmax_f32_i32 (F := Ideal) s q)
    rw [List.foldl_cons]
    generalize l.foldl (reducer_argmax_f32_i32 (F := Ideal)) (reducer_argmax_f32_i32 (F := Ideal) s q) = r at hm hall
    have hst := step s q
    generalize reducer_argmax_f32_i32 (F := Ideal) s q = t at hm hall hst
    have ht : t = s ∨ t = q := by
      rw [hst]
      by_cases h1 : (q.1 : EReal) < s.1
      · left; simp [h1]
      · by_cases h2 : (s.1 : EReal) = q.1 ∧ s.2.toInt < q.2.toInt
        · left; rw [if_neg h1, if_pos (Or.inr h2)]; exact Prod.ext h2.1.symm rfl
        · right; rw [if_neg h1, if_neg (not_or.mpr ⟨h1, h2⟩)]
    have hp : ∀ p, p = s ∨ p = q → (p.1 : EReal) ≤ t.1 ∧ ((p.1 : EReal) = t.1 → t.2.toInt ≤ p.2.toInt) := by
      rintro p (rfl | rfl)
      · by_cases h1 : (q.1 : EReal) < p.1
        · rw [hst]; simp [h1]
        · have h1' := not_lt.mp h1
          by_cases h2 : (p.1 : EReal) = q.1 ∧ p.2.toInt < q.2.toInt
          · rw [hst, if_neg h1, if_pos (Or.inr h2)]; exact ⟨h1', fun _ => le_refl _⟩
          · rw [hst, if_neg h1, if_neg (not_or.mpr ⟨h1, h2⟩)]
            exact ⟨h1', fun e => not_lt.mp fun h => h2 ⟨e, h⟩⟩
      · by_cases h1 : (p.1 : EReal) < s.1
        · rw [hst, if_pos h1, if_pos (Or.inl h1)]; exact ⟨h1.le, fun e => absurd e h1.ne⟩
        · by_cases h2 : (s.1 : EReal) = p.1 ∧ s.2.toInt < p.2.toInt
          · rw [hst, if_neg h1, if_pos (Or.inr h2)]; exact ⟨le_refl _, fun _ => h2.2.le⟩
          · rw [hst, if_neg h1, if_neg (not_or.mpr ⟨h1, h2⟩)]; exact ⟨le_refl _, fun _ => le_refl _⟩
    refine ⟨?_, fun p hpm => ?_⟩
    · rcases List.mem_cons.mp hm with rfl | h
      · rcases ht with rfl | rfl <;> simp
      · simp [h]
    · have ht' := hall t (by simp)
      rcases List.mem_cons.mp hpm with h | h
      · have h' := hp p (Or.inl h)
        exact ⟨h'.1.trans ht'.1, fun e => (ht'.2 (le_antisymm ht'.1 (e ▸ h'.1))).trans (h'.2 (le_antisymm h'.1 (e ▸ ht'.1)))⟩
      · rcases List.mem_cons.mp h with h | h
        · have h' := hp p (Or.inr h)
          exact ⟨h'.1.trans ht'.1, fun e => (ht'.2 (le_antisymm ht'.1 (e ▸ h'.1))).trans (h'.2 (le_antisymm h'.1 (e ▸ ht'.1)))⟩
        · exact hall p (by simp [h])

end Cert.Proof.Value

end
-- ==== Proof.HostFacts.lean ====
/-
  Of the operations before the SparseCore call: each touches arrays of the device only, and which ones they write.
-/
module

public import proofs.«01_k».proof.Proof.Host

@[expose] public section

noncomputable section

namespace Cert.Proof.Host

open Cert.KernelIdeal Cert.KernelIdeal.Gen
open Idealize.ShloMosaic Idealize.ShloMosaic.TcCoe Idealize.ShloMosaic.StableHlo

variable {F : FTy → Type} [FloatOps F]

theorem w0_sub : (w0 (F := F)).Forall fun op => op.bufs ⊆ tcRefs τ sig :=
  ⟨reshape_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
theorem w1_sub : (w1 (F := F)).Forall fun op => op.bufs ⊆ tcRefs τ sig :=
  ⟨binary_bufs_sub .., nullary_bufs_sub .., binary_bufs_sub .., unary_bufs_sub .., binary_bufs_sub .., unary_bufs_sub .., binary_bufs_sub ..⟩
theorem w2_sub : (w2 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w3_sub : (w3 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w4_sub : (w4 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w5_sub : (w5 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w6_sub : (w6 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w7_sub : (w7 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w8_sub : (w8 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w9_sub : (w9 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w10_sub : (w10 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w11_sub : (w11 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w12_sub : (w12 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w13_sub : (w13 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w14_sub : (w14 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w15_sub : (w15 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w16_sub : (w16 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w17_sub : (w17 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w18_sub : (w18 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w19_sub : (w19 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w20_sub : (w20 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w21_sub : (w21 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w22_sub : (w22 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w23_sub : (w23 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w24_sub : (w24 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w25_sub : (w25 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem w26_sub : (w26 (F := F)).Forall fun op => op.bufs ⊆ tcRefs τ sig :=
  ⟨unary_bufs_sub .., binary_bufs_sub .., unary_bufs_sub .., binary_bufs_sub .., nullary_bufs_sub .., unary_bufs_sub .., binary_bufs_sub ..⟩
theorem w27_sub : (w27 (F := F)).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., reshape_bufs_sub ..⟩

theorem ops_sub : ∀ op ∈ (ops (F := F)), op.bufs ⊆ tcRefs τ sig := fun op h => by
  obtain ⟨w, hw, ho⟩ := List.mem_flatten.mp h
  exact List.forall_iff_forall_mem.mp (List.forall_iff_forall_mem.mp
    (show List.Forall (fun w : List (HloOp τ sig (Elt F)) => w.Forall fun op => op.bufs ⊆ tcRefs τ sig) [w0, w1, w2, w3, w4, w5, w6, w7, w8, w9, w10, w11, w12, w13, w14, w15, w16, w17, w18, w19, w20, w21, w22, w23, w24, w25, w26, w27] from
      ⟨w0_sub, w1_sub, w2_sub, w3_sub, w4_sub, w5_sub, w6_sub, w7_sub, w8_sub, w9_sub, w10_sub, w11_sub, w12_sub, w13_sub, w14_sub, w15_sub, w16_sub, w17_sub, w18_sub, w19_sub, w20_sub, w21_sub, w22_sub, w23_sub, w24_sub, w25_sub, w26_sub, w27_sub⟩) w hw) op ho

theorem ops_fresh : ∀ op ∈ (ops (F := F)), op.fresh = ∅ :=
  List.forall_iff_forall_mem.mp (forall_fresh_of_map rfl)

/-- The arrays written, in order. -/
def written : List (Ref sig .tc) :=
  [main_v0, main_c, main_c_0, main_v1, main_v2, main_v3, main_c_1, main_v4, main_v5, main_v6, main_v7, main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_c_0, main_call0_call0_v11, main_call0_call0_v12, main_call0_call0_v13, main_call0_call0_c_1, main_call0_call0_v14, main_call0_call0_v15, main_call0_call0_v16, main_call0_call0_v17, main_call0_call0_call0_v0, main_call0_call0_call0_c, main_call0_call0_call0_v1, main_call0_call0_call0_v2, main_call0_call0_call0_v3, main_call0_call0_call0_v4, main_call0_call0_call0_v5, main_call0_call0_call0_v6, main_call0_call0_call0_c_0, main_call0_call0_call0_v7, main_call0_call0_call0_v8, main_call0_call0_call0_c_1, main_call0_call0_call0_v9, main_call0_call0_call0_v10, main_call0_call0_call0_v11, main_call0_call0_call0_v12, main_call0_call0_call0_v13, main_call0_call0_call0_c_2, main_call0_call0_call0_v14, main_call0_call0_call0_v15, main_call0_call0_call0_c_3, main_call0_call0_call0_v16, main_call0_call0_call0_v17, main_call0_call0_call0_v18, main_call0_call0_call0_v19, main_call0_call0_call0_v20, main_call0_call0_call0_c_4, main_call0_call0_call0_v21, main_call0_call0_call0_v22, main_call0_call0_call0_c_5, main_call0_call0_call0_v23, main_call0_call0_call0_v24, main_call0_call0_call0_v25, main_call0_call0_call0_v26, main_call0_call0_call0_v27, main_call0_call0_call0_c_6, main_call0_call0_call0_v28, main_call0_call0_call0_v29, main_call0_call0_call0_c_7, main_call0_call0_call0_v30, main_call0_call0_call0_v31, main_call0_call0_call0_v32, main_call0_call0_call0_v33, main_call0_call0_call0_v34, main_call0_call0_call0_v35, main_call0_call0_call0_v36, main_call0_call0_call0_v37, main_call0_call0_call0_c_8, main_call0_call0_call0_v38, main_call0_call0_call0_v39, main_call0_call0_call0_v40, main_call0_call0_call0_c_9, main_call0_call0_call0_v41, main_call0_call0_call0_v42, main_call0_call0_call0_c_10, main_call0_call0_call0_v43, main_call0_call0_call0_v44, main_call0_call0_call0_v45, main_call0_call0_call0_v46, main_call0_call0_call0_v47, main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54, main_call0_call0_call0_c_13, main_call0_call0_call0_v55, main_call0_call0_call0_v56, main_call0_call0_call0_c_14, main_call0_call0_call0_v57, main_call0_call0_call0_v58, main_call0_call0_call0_v59, main_call0_call0_call0_v60, main_call0_call0_call0_v61, main_call0_call0_call0_c_15, main_call0_call0_call0_v62, main_call0_call0_call0_v63, main_call0_call0_call0_c_16, main_call0_call0_call0_v64, main_call0_call0_call0_v65, main_call0_call0_call0_v66, main_call0_call0_call0_v67, main_call0_call0_call0_v68, main_call0_call0_call0_v69, main_call0_call0_call0_v70, main_call0_call0_call0_v71, main_call0_call0_call0_c_17, main_call0_call0_call0_v72, main_call0_call0_call0_v73, main_call0_call0_call0_v74, main_call0_call0_call0_c_18, main_call0_call0_call0_v75, main_call0_call0_call0_v76, main_call0_call0_call0_c_19, main_call0_call0_call0_v77, main_call0_call0_call0_v78, main_call0_call0_call0_v79, main_call0_call0_call0_v80, main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88, main_call0_call0_call0_c_22, main_call0_call0_call0_v89, main_call0_call0_call0_v90, main_call0_call0_call0_c_23, main_call0_call0_call0_v91, main_call0_call0_call0_v92, main_call0_call0_call0_v93, main_call0_call0_call0_v94, main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102, main_call0_call0_call0_v103, main_call0_call0_call0_v104, main_call0_call0_call0_v105, main_call0_call0_call0_c_26, main_call0_call0_call0_v106, main_call0_call0_call0_v107, main_call0_call0_call0_v108, main_call0_call0_call0_c_27, main_call0_call0_call0_v109, main_call0_call0_call0_v110, main_call0_call0_call0_c_28, main_call0_call0_call0_v111, main_call0_call0_call0_v112, main_call0_call0_call0_v113, main_call0_call0_call0_v114, main_call0_call0_call0_v115, main_call0_call0_call0_c_29, main_call0_call0_call0_v116, main_call0_call0_call0_v117, main_call0_call0_call0_c_30, main_call0_call0_call0_v118, main_call0_call0_call0_v119, main_call0_call0_call0_v120, main_call0_call0_call0_v121, main_call0_call0_call0_v122, main_call0_call0_call0_c_31, main_call0_call0_call0_v123, main_call0_call0_call0_v124, main_call0_call0_call0_c_32, main_call0_call0_call0_v125, main_call0_call0_call0_v126, main_call0_call0_call0_v127, main_call0_call0_call0_v128, main_call0_call0_call0_v129, main_call0_call0_call0_c_33, main_call0_call0_call0_v130, main_call0_call0_call0_v131, main_call0_call0_call0_c_34, main_call0_call0_call0_v132, main_call0_call0_call0_v133, main_call0_call0_call0_v134, main_call0_call0_call0_v135, main_call0_call0_call0_v136, main_call0_call0_call0_v137, main_call0_call0_call0_v138, main_call0_call0_call0_v139, main_call0_call0_call0_c_35, main_call0_call0_call0_v140, main_call0_call0_call0_v141, main_call0_call0_call0_v142, main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149, main_call0_call0_call0_c_38, main_call0_call0_call0_v150, main_call0_call0_call0_v151, main_call0_call0_call0_c_39, main_call0_call0_call0_v152, main_call0_call0_call0_v153, main_call0_call0_call0_v154, main_call0_call0_call0_v155, main_call0_call0_call0_v156, main_call0_call0_call0_c_40, main_call0_call0_call0_v157, main_call0_call0_call0_v158, main_call0_call0_call0_c_41, main_call0_call0_call0_v159, main_call0_call0_call0_v160, main_call0_call0_call0_v161, main_call0_call0_call0_v162, main_call0_call0_call0_v163, main_call0_call0_call0_c_42, main_call0_call0_call0_v164, main_call0_call0_call0_v165, main_call0_call0_call0_c_43, main_call0_call0_call0_v166, main_call0_call0_call0_v167, main_call0_call0_call0_v168, main_call0_call0_call0_v169, main_call0_call0_call0_v170, main_call0_call0_v18_0, main_call0_call0_call0_v172, main_call0_call0_call0_v173, main_call0_call0_call0_c_44, main_call0_call0_call0_v174, main_call0_call0_v18_1, main_call0_call0_v19, main_call0_call0_c_2, main_call0_call0_v20, main_call0_call0_v21, main_call0_call0_c_3, main_call0_call0_v22, main_call0_call0_v23, main_call0_call0_v24, main_call0_call0_cst, main_call0_call0_v25, main_call0_call0_v26, main_call0_call0_v27, main_call0_call0_v28, main_call0_call0_v29, main_call0_call0_v30, main_call0_call0_v31, main_call0_call0_v32, main_call0_v0, main_call0_v1, main_call0_v2, main_call0_v3, main_v8, main_v9]

theorem ops_written : (ops (F := F)).map HloOp.writes = written.map fun r => {Proc.devRef (τ := τ) .tc r} := rfl

/-- An array not written keeps its contents. -/
theorem ops_keep (V : Valuation τ sig (Elt F)) {r : Ref sig .tc} (hr : r ∉ written) : after ops V r = V r :=
  after_of_writes_sub ops V (forall_writes_sub_of_map ops_written) hr

end Cert.Proof.Host

end
-- ==== Proof.Tile.lean ====
/-
  One task of the SparseCore call, run with its values: the two copies in, the 651 trips over three vectors of sixteen
  lanes, the merge of the three partial results, the tail of the last task, the four stores and the copy out.
-/
module

public import proofs.«01_k».proof.Proof.Spec
public import Idealize.ShloMosaic.Lib.WritesUnit

@[expose] public section

noncomputable section

namespace Cert.Proof.Run

open Cert.KernelIdeal Cert.KernelIdeal.Gen Cert.KernelIdeal.Facts₀
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S1000000 EltTy.f32)
local notation "gV" => (Memref.whole Cert.KernelIdeal.main_v9_scv : Memref Cert.KernelIdeal.sig Kind.scVector Space.hbm Cert.KernelIdeal.S1000000 EltTy.f32)
local notation "oV" => (Memref.whole Cert.KernelIdeal.main_v10_scv : Memref Cert.KernelIdeal.sig Kind.scVector Space.hbm Cert.KernelIdeal.S32x64 EltTy.f32)
local notation "sX" => (Memref.whole Cert.KernelIdeal.cc0_scratch0 : Memref Cert.KernelIdeal.sig Kind.scVector Space.vmem Cert.KernelIdeal.S31312 EltTy.f32)
local notation "sG" => (Memref.whole Cert.KernelIdeal.cc0_scratch1 : Memref Cert.KernelIdeal.sig Kind.scVector Space.vmem Cert.KernelIdeal.S31312 EltTy.f32)
local notation "sR" => (Memref.whole Cert.KernelIdeal.cc0_scratch2 : Memref Cert.KernelIdeal.sig Kind.scVector Space.vmem Cert.KernelIdeal.S64 EltTy.f32)

/-! ## The task's coordinates -/

abbrev cV (L : grid0.Coords) : Fin τ.nSC := (L 0).castLE Gen.hcore0
abbrev jV (L : grid0.Coords) : Fin τ.nSub := (L 1).castLE Gen.hsub0
abbrev thr (d : Dev nD) (L : grid0.Coords) : Thread nD τ := V d (cV L) (jV L)

/-- The row of the partial results the task writes, as the body spells it. -/
abbrev oRowK (L : grid0.Coords) : Memref sig .scVector .hbm S64 .f32 :=
  ((oV).slice (Rect.unit (s := S32x64) (k0_off3 L) S1x64.size (Gen.k0_off3_inb L)) (fun _ => rfl)).squeeze S64 Gen.squeezes_S1x64_S64

/-- The task's number. -/
abbrev wOf (L : grid0.Coords) : ℕ := 2 * (L 1).val + (L 0).val

omit [FloatOps F] in
theorem shapeCast_refl {s : Shape} {α : Type} (v : s.Idx → α) (h : s.ShapeCasts s) : shapeCast s v h = v := by
  funext i; simp only [shapeCast, Shape.reshapeEquiv_self]

/-- What the copy in leaves in a scratch: at position `j`, the array's element `31248 w + j`. -/
def window (v : S1000000.Idx → F .f32) (w : ℕ) : S31312.Idx → F .f32 := fun j => v (ixN (w * 31248 + (j 0).val))

omit [FloatOps F] in
theorem window_copied (L : grid0.Coords) (v : S1000000.Idx → F .f32) (f : S31312.Idx → F .f32) :
    (sX).view.write (Elt F) f (((xV).slice (Rect.unit (s := S1000000) (k0_off1 L) S31312.size (Gen.k0_off1_inb L)) (fun _ => rfl)).view.read (Elt F) v) Finset.univ
      = window v (wOf L) := by
  refine (View.write_whole_univ _ _ _).trans ?_
  funext j
  refine (View.read_apply _ _).trans ((cast_eq _ _).trans ?_)
  unfold window
  congr 1
  funext a
  apply Fin.ext
  fin_cases a
  have h0 := (L 0).isLt
  have h1 := (L 1).isLt
  have hj : (j 0).val < 31312 := (j 0).isLt
  change (L 0).val < 2 at h0
  change (L 1).val < 16 at h1
  have e : k0_off1 L 0 = 62496 * (L 1).val + 31248 * (L 0).val := congrFun (Gen.k0_off1_eq L) 0
  show k0_off1 L 0 + 1 * (j 0).val = ((2 * (L 1).val + (L 0).val) * 31248 + (j 0).val) % 1000000
  omega

omit [FloatOps F] in
theorem window_copied_g (L : grid0.Coords) (v : S1000000.Idx → F .f32) (f : S31312.Idx → F .f32) :
    (sG).view.write (Elt F) f (((gV).slice (Rect.unit (s := S1000000) (k0_off1 L) S31312.size (Gen.k0_off1_inb L)) (fun _ => rfl)).view.read (Elt F) v) Finset.univ
      = window v (wOf L) := by
  refine (View.write_whole_univ _ _ _).trans ?_
  funext j
  refine (View.read_apply _ _).trans ((cast_eq _ _).trans ?_)
  unfold window
  congr 1
  funext a
  apply Fin.ext
  fin_cases a
  have h0 := (L 0).isLt
  have h1 := (L 1).isLt
  have hj : (j 0).val < 31312 := (j 0).isLt
  change (L 0).val < 2 at h0
  change (L 1).val < 16 at h1
  have e : k0_off1 L 0 = 62496 * (L 1).val + 31248 * (L 0).val := congrFun (Gen.k0_off1_eq L) 0
  show k0_off1 L 0 + 1 * (j 0).val = ((2 * (L 1).val + (L 0).val) * 31248 + (j 0).val) % 1000000
  omega

omit [FloatOps F] in
/-- A vector loaded from a scratch. -/
theorem window_load (v : S1000000.Idx → F .f32) (w o : ℕ) (off : Fin S31312.rank → ℕ) (inb : ∀ a, off a + S16.size a ≤ S31312.size a) (ho : w * 31248 + off 0 = o) :
    (sX).view.readAt (Elt F) (Rect.unit (s := S31312) off S16.size inb).toLoadRect (window v w) = vecAt v o := by
  funext l
  rw [View.readAt_apply]
  refine (View.read_apply _ _).trans ((cast_eq _ _).trans ?_)
  show v (ixN (w * 31248 + (off 0 + 1 * (l 0).val))) = v (ixN (o + (l 0).val))
  rw [← ho, one_mul, add_assoc]

omit [FloatOps F] in
/-- A vector loaded from a scratch, for the noise. -/
theorem window_load_g (v : S1000000.Idx → F .f32) (w o : ℕ) (off : Fin S31312.rank → ℕ) (inb : ∀ a, off a + S16.size a ≤ S31312.size a) (ho : w * 31248 + off 0 = o) :
    (sG).view.readAt (Elt F) (Rect.unit (s := S31312) off S16.size inb).toLoadRect (window v w) = vecAt v o := by
  funext l
  rw [View.readAt_apply]
  refine (View.read_apply _ _).trans ((cast_eq _ _).trans ?_)
  show v (ixN (w * 31248 + (off 0 + 1 * (l 0).val))) = v (ixN (o + (l 0).val))
  rw [← ho, one_mul, add_assoc]

/-- Three accumulators after `k` trips, as the loop carries them. -/
def carried (s : Acc F × Acc F × Acc F) :
    FVec F S16 .f32 × FVec F S16 .f32 × FVec F S16 .f32 × IVec S16 32 × FVec F S16 .f32 × FVec F S16 .f32 × FVec F S16 .f32 × IVec S16 32
      × FVec F S16 .f32 × FVec F S16 .f32 × FVec F S16 .f32 × IVec S16 32 :=
  (s.1.sum, s.1.max, s.1.xat, s.1.iat, s.2.1.sum, s.2.1.max, s.2.1.xat, s.2.1.iat, s.2.2.sum, s.2.2.max, s.2.2.xat, s.2.2.iat)

/-- The element a task starts from, as the body computes it. -/
abbrev v2Of (L : grid0.Coords) : BitVec 32 := Scalar.muli (Scalar.addi (Scalar.muli (BitVec.ofNat 32 (L 1).val) 2#32) (BitVec.ofNat 32 (L 0).val)) 31248#32

omit [FloatOps F] in
theorem v2Of_eq (L : grid0.Coords) : v2Of L = BitVec.ofNat 32 (wOf L * 31248) := by
  apply BitVec.eq_of_toNat_eq
  simp only [v2Of, Scalar.muli, Scalar.addi, IntOp.muli, IntOp.addi, BitVec.toNat_mul, BitVec.toNat_add, BitVec.toNat_ofNat, wOf]
  omega

omit [FloatOps F] in
theorem pos_eq (L : grid0.Coords) (k r : ℕ) :
    Scalar.addi (v2Of L) (Scalar.muli (Scalar.addi (Scalar.addi 0#32 (Scalar.muli (Scf.iv 0#32 1#32 k) 3#32)) (BitVec.ofNat 32 r)) 16#32)
      = BitVec.ofNat 32 (wOf L * 31248 + 48 * k + 16 * r) := by
  rw [v2Of_eq]
  apply BitVec.eq_of_toNat_eq
  simp only [Scf.iv, Scalar.muli, Scalar.addi, IntOp.muli, IntOp.addi, BitVec.toNat_mul, BitVec.toNat_add, BitVec.toNat_ofNat]
  omega

/-- One trip, as the body computes it. -/
theorem trip_eq (L : grid0.Coords) (k : Fin k0_t1_loop.trips) (vx vg : S1000000.Idx → F .f32) (s : Acc F × Acc F × Acc F)
    {X0 X1 X2 G0 G1 G2 : FVec F S16 .f32}
    (hX0 : X0 = vecAt vx (wOf L * 31248 + 48 * k.val)) (hG0 : G0 = vecAt vg (wOf L * 31248 + 48 * k.val))
    (hX1 : X1 = vecAt vx (wOf L * 31248 + 48 * k.val + 16)) (hG1 : G1 = vecAt vg (wOf L * 31248 + 48 * k.val + 16))
    (hX2 : X2 = vecAt vx (wOf L * 31248 + 48 * k.val + 32)) (hG2 : G2 = vecAt vg (wOf L * 31248 + 48 * k.val + 32)) :
    (k0_pay8 s.1.sum X0, k0_pay9 s.1.max X0 G0, k0_pay10 s.1.max s.1.xat X0 G0,
      k0_pay11 (v2Of L) (iota .scVector S16 32 [0] Gen.iota_S16_d0_w32_scVector) 0#32 1#32 k s.1.max s.1.iat X0 G0,
      k0_pay16 s.2.1.sum X1, k0_pay17 s.2.1.max X1 G1, k0_pay18 s.2.1.max s.2.1.xat X1 G1,
      k0_pay39 s.2.1.iat (k0_pay14 (v2Of L) (iota .scVector S16 32 [0] Gen.iota_S16_d0_w32_scVector) 0#32 1#32 k) (k0_pay15 s.2.1.max X1 G1),
      k0_pay43 s.2.2.sum X2, k0_pay44 s.2.2.max X2 G2, k0_pay45 s.2.2.max s.2.2.xat X2 G2,
      k0_pay46 L s.2.2.max s.2.2.iat (Scalar.addi 0#32 (Scalar.muli (Scf.iv 0#32 1#32 k) 3#32)) X2 G2)
    = carried (inc vx vg (wOf L * 31248 + 48 * k.val) s.1, inc vx vg (wOf L * 31248 + 48 * k.val + 16) s.2.1,
        inc vx vg (wOf L * 31248 + 48 * k.val + 32) s.2.2) := by
  have p0 := pos_eq L k.val 0
  have p1 := pos_eq L k.val 1
  have p2 := pos_eq L k.val 2
  simp only [mul_zero, add_zero, mul_one] at p0 p1 p2
  simp only [carried, inc, step, idxVec, k0_pay8, k0_pay9, k0_pay10, k0_pay11, k0_pay16, k0_pay17, k0_pay18, k0_pay39, k0_pay14, k0_pay15, k0_pay43, k0_pay44,
    k0_pay45, k0_pay46, k0_pay5, k0_pay6, k0_pay7, k0_pay12, k0_pay13, k0_pay40, k0_pay41, k0_pay42, shapeCast_refl, hX0, hG0, hX1, hG1, hX2, hG2, ← p0, ← p1, ← p2]

/-- The tail, as the body computes it. -/
theorem tail_eq (L : grid0.Coords) (hw : wOf L = 31) (vx vg : S1000000.Idx → F .f32) (s : Acc F)
    {X0 X1 X2 X3 G0 G1 G2 G3 : FVec F S16 .f32}
    (hX0 : X0 = vecAt vx 999936) (hG0 : G0 = vecAt vg 999936) (hX1 : X1 = vecAt vx 999952) (hG1 : G1 = vecAt vg 999952)
    (hX2 : X2 = vecAt vx 999968) (hG2 : G2 = vecAt vg 999968) (hX3 : X3 = vecAt vx 999984) (hG3 : G3 = vecAt vg 999984) :
    withTail vx vg s = ⟨k0_pay56 (k0_pay30 s.sum X0 X1 X2) (k0_pay34 X3), k0_pay57 (k0_pay31 s.max X0 G0 X1 G1 X2 G2) (k0_pay35 X3 G3),
      k0_pay58 (k0_pay31 s.max X0 G0 X1 G1 X2 G2) (k0_pay32 s.max s.xat X0 G0 X1 G1 X2 G2) (k0_pay34 X3) (k0_pay35 X3 G3),
      select (k0_pay55 (k0_pay31 s.max X0 G0 X1 G1 X2 G2) (k0_pay35 X3 G3))
        (addi (broadcast S16 (Scalar.addi (v2Of L) 31296#32)) (iota .scVector S16 32 [0] Gen.iota_S16_d0_w32_scVector))
        (k0_pay33 (v2Of L) (iota .scVector S16 32 [0] Gen.iota_S16_d0_w32_scVector) s.max s.iat X0 G0 X1 G1 X2 G2)⟩ := by
  have p0 : BitVec.ofNat 32 999936 = Scalar.addi (v2Of L) 31248#32 := by rw [v2Of_eq, hw]; decide
  have p1 : BitVec.ofNat 32 999952 = Scalar.addi (v2Of L) 31264#32 := by rw [v2Of_eq, hw]; decide
  have p2 : BitVec.ofNat 32 999968 = Scalar.addi (v2Of L) 31280#32 := by rw [v2Of_eq, hw]; decide
  have p3 : BitVec.ofNat 32 999984 = Scalar.addi (v2Of L) 31296#32 := by rw [v2Of_eq, hw]; decide
  simp only [withTail, inc, step, idxVec, p0, p1, p2, p3, k0_pay56, k0_pay57, k0_pay58, k0_pay55, k0_pay30, k0_pay31, k0_pay32, k0_pay33, k0_pay34, k0_pay35,
    k0_pay19, k0_pay20, k0_pay21, k0_pay22, k0_pay23, k0_pay24, k0_pay25, k0_pay26, k0_pay27, k0_pay28, k0_pay29, shapeCast_refl, hX0, hG0, hX1, hG1, hX2, hG2, hX3, hG3]

/-- The merge of the three accumulators, as the body computes it. -/
theorem merged_eq (a b c : Acc F) :
    merge (merge a b) c = ⟨k0_pay51 a.sum b.sum c.sum, k0_pay52 a.max b.max c.max, k0_pay53 a.max a.xat a.iat b.max b.xat b.iat c.max c.xat c.iat,
      k0_pay54 a.max a.iat b.max b.iat c.max c.iat⟩ := rfl

/-- The four stores of an accumulator, read back. -/
theorem stored_read (a : Acc F) (f : S64.Idx → F .f32) (x : S64.Idx) {w0 w1 w2 w3 : FVec F S16 .f32}
    (h0 : w0 = a.sum) (h1 : w1 = a.max) (h2 : w2 = a.xat) (h3 : w3 = sitofp .f32 a.iat) :
    (sR).view.read (Elt F) ((sR).view.writes (Elt F) f
      [⟨Rect.unit ![48] S16.size Gen.inb_S64_S16_48, w3⟩, ⟨Rect.unit ![32] S16.size Gen.inb_S64_S16_32, w2⟩,
        ⟨Rect.unit ![16] S16.size Gen.inb_S64_S16_16, w1⟩, ⟨Rect.unit ![0] S16.size Gen.inb_S64_S16_0, w0⟩]) x = rowVal a (x 0).val := by
  have hx : (x 0).val < 64 := (x 0).isLt
  subst h0 h1 h2 h3
  unfold rowVal
  have key : ∀ (o : ℕ) (h : o ≤ (x 0).val) (h' : (x 0).val < o + 16) (b : Fin S64.rank), (x b).val = (![o] : Fin 1 → ℕ) b + (lane ((x 0).val - o) b).val := by
    intro o h h' b
    fin_cases b
    show (x 0).val = o + ((x 0).val - o) % 16
    omega
  by_cases c3 : 48 ≤ (x 0).val
  · refine (View.read_writes_cons_unit_of_mem _ _ _ _ _ x (lane ((x 0).val - 48)) rfl (key 48 c3 (by omega))).trans ?_
    rw [if_neg (by omega), if_neg (by omega), if_neg (by omega)]
  refine (View.read_writes_cons_unit_of_not_mem _ _ _ _ _ x rfl 0 (Or.inl (by show (x 0).val < 48; omega))).trans ?_
  by_cases c2 : 32 ≤ (x 0).val
  · refine (View.read_writes_cons_unit_of_mem _ _ _ _ _ x (lane ((x 0).val - 32)) rfl (key 32 c2 (by omega))).trans ?_
    rw [if_neg (by omega), if_neg (by omega), if_pos (by omega)]
  refine (View.read_writes_cons_unit_of_not_mem _ _ _ _ _ x rfl 0 (Or.inl (by show (x 0).val < 32; omega))).trans ?_
  by_cases c1 : 16 ≤ (x 0).val
  · refine (View.read_writes_cons_unit_of_mem _ _ _ _ _ x (lane ((x 0).val - 16)) rfl (key 16 c1 (by omega))).trans ?_
    rw [if_neg (by omega), if_pos (by omega)]
  refine (View.read_writes_cons_unit_of_not_mem _ _ _ _ _ x rfl 0 (Or.inl (by show (x 0).val < 16; omega))).trans ?_
  refine (View.read_writes_cons_unit_of_mem _ _ _ _ _ x (lane ((x 0).val - 0)) rfl (key 0 (Nat.zero_le _) (by omega))).trans ?_
  rw [if_pos (by omega), Nat.sub_zero]

omit [FloatOps F] in
/-- The place in the partial results of element `x` of the task's row. -/
theorem oRow_emb (L : grid0.Coords) (x : S64.Idx) :
    ((oRowK L).view.emb x 0).val = wOf L ∧ ((oRowK L).view.emb x 1).val = (x 0).val := by
  have hy : Shape.reshapeEquiv Gen.squeezes_S1x64_S64.numel_eq x = Fin.cons ⟨0, Nat.one_pos⟩ x := Shape.reshapeEquiv_cons_one (d := ![64]) _ x
  have e : (oRowK L).view.emb x = (Rect.unit (s := S32x64) (k0_off3 L) S1x64.size (Gen.k0_off3_inb L)).emb (Shape.reshapeEquiv Gen.squeezes_S1x64_S64.numel_eq x) := rfl
  rw [e, hy]
  have e0 : k0_off3 L 0 = 2 * (L 1).val + (L 0).val := congrFun (Gen.k0_off3_eq L) 0
  have e1 : k0_off3 L 1 = 0 := congrFun (Gen.k0_off3_eq L) 1
  constructor
  · show k0_off3 L 0 + 1 * 0 = _
    rw [e0]; simp only [wOf]; omega
  · show k0_off3 L 1 + 1 * (x 0).val = _
    rw [e1]; omega

/-- The row the task writes holds its accumulator, whatever the row's payload is called. -/
theorem row_final (L : grid0.Coords) (vx vg : S1000000.Idx → F .f32) (fo : S32x64.Idx → F .f32) (w : S64.Idx → F .f32)
    (hw : ∀ x, w x = rowVal (tile vx vg (wOf L)) (x 0).val) :
    ∀ i ∈ (oRowK L).view.set, (oRowK L).view.writes (Elt F) fo [⟨Rect.whole S64, w⟩] i = outs vx vg i := by
  intro i hi
  obtain ⟨x, -, rfl⟩ := Finset.mem_map.mp hi
  have h1 := (oRow_emb L x).1
  have h2 := (oRow_emb L x).2
  have hr : (oRowK L).view.read (Elt F) ((oRowK L).view.writes (Elt F) fo [⟨Rect.whole S64, w⟩]) x = w x := by
    have h := View.read_writes_cons_emb (Val := Elt F) (oRowK L).view fo (Rect.whole S64) w [] x
    rwa [Rect.emb_whole_apply] at h
  have hr' : (oRowK L).view.writes (Elt F) fo [⟨Rect.whole S64, w⟩] ((oRowK L).view.emb x) = w x :=
    ((View.read_apply _ _).trans (cast_eq _ _)).symm.trans hr
  rw [hr', hw]
  unfold outs
  rw [h1, h2]

theorem isLast_iff (L : grid0.Coords) :
    (Scalar.cmpi .ne (Scalar.extui (Scalar.cmpi .eq (Scalar.addi (Scalar.muli (BitVec.ofNat 32 (L 1).val) 2#32) (BitVec.ofNat 32 (L 0).val)) 31#32)) 0#32 : BitVec 1) = 1#1
      ↔ wOf L = 31 := by
  revert L; decide +kernel

theorem isNotLast_iff (L : grid0.Coords) :
    (Scalar.cmpi .ne (Scalar.extui (Scalar.cmpi .ne (Scalar.addi (Scalar.muli (BitVec.ofNat 32 (L 1).val) 2#32) (BitVec.ofNat 32 (L 0).val)) 31#32)) 0#32 : BitVec 1) = 1#1
      ↔ ¬ wOf L = 31 := by
  revert L; decide +kernel

/-- What the task copies out is its accumulator. -/
theorem row_payload (L : grid0.Coords) (vx vg : S1000000.Idx → F .f32) (f : S64.Idx → F .f32) {c c' : Prop} [Decidable c] [Decidable c']
    (hc : c ↔ wOf L = 31) (hc' : c' ↔ ¬ wOf L = 31) {u0 u1 u2 u3 w0 w1 w2 w3 : FVec F S16 .f32} {b : Acc F} {u : Acc F}
    (hb : b = merged vx vg (wOf L)) (hu : wOf L = 31 → withTail vx vg b = u)
    (hu0 : u0 = u.sum) (hu1 : u1 = u.max) (hu2 : u2 = u.xat) (hu3 : u3 = sitofp .f32 u.iat)
    (hw0 : w0 = b.sum) (hw1 : w1 = b.max) (hw2 : w2 = b.xat) (hw3 : w3 = sitofp .f32 b.iat) (x : S64.Idx) :
    (sR).view.read (Elt F) (if _ : c' then (sR).view.writes (Elt F) (if _ : c then (sR).view.writes (Elt F) f
        [⟨Rect.unit ![48] S16.size Gen.inb_S64_S16_48, u3⟩, ⟨Rect.unit ![32] S16.size Gen.inb_S64_S16_32, u2⟩,
          ⟨Rect.unit ![16] S16.size Gen.inb_S64_S16_16, u1⟩, ⟨Rect.unit ![0] S16.size Gen.inb_S64_S16_0, u0⟩] else f)
        [⟨Rect.unit ![48] S16.size Gen.inb_S64_S16_48, w3⟩, ⟨Rect.unit ![32] S16.size Gen.inb_S64_S16_32, w2⟩,
          ⟨Rect.unit ![16] S16.size Gen.inb_S64_S16_16, w1⟩, ⟨Rect.unit ![0] S16.size Gen.inb_S64_S16_0, w0⟩]
      else if _ : c then (sR).view.writes (Elt F) f
        [⟨Rect.unit ![48] S16.size Gen.inb_S64_S16_48, u3⟩, ⟨Rect.unit ![32] S16.size Gen.inb_S64_S16_32, u2⟩,
          ⟨Rect.unit ![16] S16.size Gen.inb_S64_S16_16, u1⟩, ⟨Rect.unit ![0] S16.size Gen.inb_S64_S16_0, u0⟩] else f) x = rowVal (tile vx vg (wOf L)) (x 0).val := by
  subst hb
  unfold tile
  by_cases h : wOf L = 31
  · rw [dif_neg (fun h' => hc'.mp h' h), dif_pos (hc.mpr h), if_pos h, hu h]
    exact stored_read _ f x hu0 hu1 hu2 hu3
  · rw [dif_pos (hc'.mpr h), dif_neg (fun h' => h (hc.mp h')), if_neg h]
    exact stored_read _ f x hw0 hw1 hw2 hw3

theorem tile_run (d : Dev nD) (L : grid0.Coords) (q : PosShare TreeShare)
    (vx : Buf (Elt F) (xLoc d)) (vg : Buf (Elt F) (gLoc d)) (fo : Buf (Elt F) (oLoc d))
    (O : CellTallies nD τ sig (HIx 1)) (W : Waits sig (HIx 1))
    (f5 : Buf (Elt F) ((sX).view.loc (thr d L))) (f6 : Buf (Elt F) ((sG).view.loc (thr d L))) (f7 : Buf (Elt F) ((sR).view.loc (thr d L))) :
    iprop(Transfers.MayWaits (thr d L) (default : HIx 1) O
        ∗ ((xV).view.loc (thr d L) ↦{q} vx) ∗ ((gV).view.loc (thr d L) ↦{q} vg)
        ∗ ((oRowK L).view.loc (thr d L) ↦[(oRowK L).view.set]{fullShare} fo)
        ∗ ((sX).view.loc (thr d L) ↦{fullShare} f5) ∗ ((sG).view.loc (thr d L) ↦{fullShare} f6) ∗ ((sR).view.loc (thr d L) ↦{fullShare} f7)
        ∗ semVal (thr d L, .dma cc0_scoped0.sem) 0 ∗ semVal (thr d L, .dma cc0_scoped1.sem) 0 ∗ semVal (thr d L, .dma cc0_scoped2.sem) 0
        ∗ owes (thr d L) O W)
      ⊢ wp frame (wpE (defs₀ (F := F)) 𝒱₀ (thr d L) none) Set.univ
          (cc0__sc_body L xV (Memref.isWhole_whole _) gV (Memref.isWhole_whole _) oV (Memref.isWhole_whole _)
            sX (Memref.isWhole_whole _) sG (Memref.isWhole_whole _) sR (Memref.isWhole_whole _) cc0_scoped0 cc0_scoped1 cc0_scoped2)
          fun _ => (iprop(((xV).view.loc (thr d L) ↦{q} vx) ∗ ((gV).view.loc (thr d L) ↦{q} vg)
            ∗ ((oRowK L).view.loc (thr d L) ↦[(oRowK L).view.set]{fullShare} outs vx vg)
            ∗ (∃ f : Buf (Elt F) ((sX).view.loc (thr d L)), (sX).view.loc (thr d L) ↦{fullShare} f)
            ∗ (∃ f : Buf (Elt F) ((sG).view.loc (thr d L)), (sG).view.loc (thr d L) ↦{fullShare} f)
            ∗ (∃ f : Buf (Elt F) ((sR).view.loc (thr d L)), (sR).view.loc (thr d L) ↦{fullShare} f)
            ∗ semVal (thr d L, .dma cc0_scoped0.sem) 0 ∗ semVal (thr d L, .dma cc0_scoped1.sem) 0 ∗ semVal (thr d L, .dma cc0_scoped2.sem) 0
            ∗ ∃ W' : Waits sig (HIx 1), ⌜∀ p ∈ W', p ∈ W ∨ p.2 = none⌝ ∗ owes (thr d L) O W') : sProp 𝕄) := by
  iintro ⟨#Hmw, Hx, Hg, Ho, H5, H6, H7, Hs0, Hs1, Hs2, HO⟩
  sl_unfold [cc0__sc_body]
  sl_exec
  sl_for (fun (k : Nat) (acc : FVec F S16 .f32 × FVec F S16 .f32 × FVec F S16 .f32 × IVec S16 32 × FVec F S16 .f32 × FVec F S16 .f32 × FVec F S16 .f32 × IVec S16 32 × FVec F S16 .f32 × FVec F S16 .f32 × FVec F S16 .f32 × IVec S16 32) =>
     iprop(⌜acc = carried (accs vx vg (wOf L) k)⌝
       ∗ ((sX).view.loc (thr d L) ↦{fullShare} window vx (wOf L)) ∗ ((sG).view.loc (thr d L) ↦{fullShare} window vg (wOf L)))) $$ [H5 H6]
  case region =>
    intro k acc
    obtain ⟨a0, a1, a2, a3, b0, b1, b2, b3, c0, c1, c2, c3⟩ := acc
    iintro ⟨%hacc, HX, HG⟩
    sl_exec
    sl_step
    isplitr
    · ipureintro
      simp only [carried, Prod.mk.injEq] at hacc
      obtain ⟨rfl, rfl, rfl, rfl, rfl, rfl, rfl, rfl, rfl, rfl, rfl, rfl⟩ := hacc
      have o0 : k0_off2 k 0#32 0 = 48 * k.val := congrFun (Gen.k0_off2_eq k 0) 0
      have o1 : k0_off2 k 1#32 0 = 48 * k.val + 16 := congrFun (Gen.k0_off2_eq k 1) 0
      have o2 : k0_off2 k 2#32 0 = 48 * k.val + 32 := congrFun (Gen.k0_off2_eq k 2) 0
      exact trip_eq L k vx vg (accs vx vg (wOf L) k)
        (window_load vx (wOf L) _ _ _ (by rw [o0])) (window_load_g vg (wOf L) _ _ _ (by rw [o0]))
        (window_load vx (wOf L) _ _ _ (by rw [o1, add_assoc])) (window_load_g vg (wOf L) _ _ _ (by rw [o1, add_assoc]))
        (window_load vx (wOf L) _ _ _ (by rw [o2, add_assoc])) (window_load_g vg (wOf L) _ _ _ (by rw [o2, add_assoc]))
    isplitl [HX] <;> iassumption
  · isplitr
    · ipureintro; rfl
    isplitl [H5]
    · iapply (Entails.of_eq (pointsTo_congr (g := window vx (wOf L)) ?hH5)) $$ H5
      case hH5 => intro i _; exact congrFun (window_copied L vx f5) i
    · iapply (Entails.of_eq (pointsTo_congr (g := window vg (wOf L)) ?hH6)) $$ H6
      case hH6 => intro i _; exact congrFun (window_copied_g L vg f6) i
  · iintro %acc ⟨%hacc, HX, HG⟩
    subst hacc
    sl_exec
    sl_step
    ihave Ho := (Entails.of_eq (pointsTo_congr (row_final L vx vg fo _ (row_payload L vx vg f7 (isLast_iff L) (isNotLast_iff L)
      (b := merge (merge (accs vx vg (wOf L) (Scf.trips k0_t1_loop.lb k0_t1_loop.ub k0_t1_loop.st)).1 (accs vx vg (wOf L) (Scf.trips k0_t1_loop.lb k0_t1_loop.ub k0_t1_loop.st)).2.1)
        (accs vx vg (wOf L) (Scf.trips k0_t1_loop.lb k0_t1_loop.ub k0_t1_loop.st)).2.2) (by rfl)
      (fun h => tail_eq L h vx vg _
        (window_load vx (wOf L) _ ![31248] Gen.inb_S31312_S16_31248 (by rw [h]; rfl)) (window_load_g vg (wOf L) _ ![31248] Gen.inb_S31312_S16_31248 (by rw [h]; rfl))
        (window_load vx (wOf L) _ ![31264] Gen.inb_S31312_S16_31264 (by rw [h]; rfl)) (window_load_g vg (wOf L) _ ![31264] Gen.inb_S31312_S16_31264 (by rw [h]; rfl))
        (window_load vx (wOf L) _ ![31280] Gen.inb_S31312_S16_31280 (by rw [h]; rfl)) (window_load_g vg (wOf L) _ ![31280] Gen.inb_S31312_S16_31280 (by rw [h]; rfl))
        (window_load vx (wOf L) _ ![31296] Gen.inb_S31312_S16_31296 (by rw [h]; rfl)) (window_load_g vg (wOf L) _ ![31296] Gen.inb_S31312_S16_31296 (by rw [h]; rfl)))
      (by rfl) (by rfl) (by rfl) (shapeCast_refl _ _) (shapeCast_refl _ _) (shapeCast_refl _ _) (shapeCast_refl _ _) (shapeCast_refl _ _))))) $$ Ho
    isplitl [Hx]; · iexact Hx
    isplitl [Hg]; · iexact Hg
    isplitl [Ho]; · iexact Ho
    isplitl [HX]; · iexists _; iexact HX
    isplitl [HG]; · iexists _; iexact HG
    isplitl [H7]; · iexists _; iexact H7
    isplitl [Hs0]; · iexact Hs0
    isplitl [Hs1]; · iexact Hs1
    isplitl [Hs2]; · iexact Hs2
    iexists _
    isplitr
    rotate_left
    · iexact HO
    · ipureintro
      intro p hp
      simp only [Finset.mem_insert] at hp
      rcases hp with rfl | rfl | rfl | hp
      · exact Or.inr rfl
      · exact Or.inr rfl
      · exact Or.inr rfl
      · exact Or.inl hp

end Cert.Proof.Run

end
-- ==== Proof.Deal.lean ====
/-
  How the SparseCore call deals its work: the two arrays it reads go to every task as a share of the whole, the partial
  results' rows one to a task; and each task's obligation to the launch.
-/
module

public import proofs.«01_k».proof.Proof.Tile
public import Idealize.ShloMosaic.Lib.SparseCore.Stream

@[expose] public section

noncomputable section

namespace Cert.Proof.Run

open Cert.KernelIdeal Cert.KernelIdeal.Gen Cert.KernelIdeal.Facts₀
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S1000000 EltTy.f32)
local notation "gV" => (Memref.whole Cert.KernelIdeal.main_v9_scv : Memref Cert.KernelIdeal.sig Kind.scVector Space.hbm Cert.KernelIdeal.S1000000 EltTy.f32)
local notation "oV" => (Memref.whole Cert.KernelIdeal.main_v10_scv : Memref Cert.KernelIdeal.sig Kind.scVector Space.hbm Cert.KernelIdeal.S32x64 EltTy.f32)
local notation "sX" => (Memref.whole Cert.KernelIdeal.cc0_scratch0 : Memref Cert.KernelIdeal.sig Kind.scVector Space.vmem Cert.KernelIdeal.S31312 EltTy.f32)
local notation "sG" => (Memref.whole Cert.KernelIdeal.cc0_scratch1 : Memref Cert.KernelIdeal.sig Kind.scVector Space.vmem Cert.KernelIdeal.S31312 EltTy.f32)
local notation "sR" => (Memref.whole Cert.KernelIdeal.cc0_scratch2 : Memref Cert.KernelIdeal.sig Kind.scVector Space.vmem Cert.KernelIdeal.S64 EltTy.f32)

/-! ## Who gets what -/

/-- The rows of the tasks of one SparseCore. -/
def coreSet (c : ℕ) : Finset S32x64.Idx := Finset.univ.filter fun j => (j 0).val % 2 = c
/-- The row of one task. -/
def rowSet (c i : ℕ) : Finset S32x64.Idx := Finset.univ.filter fun j => (j 0).val = 2 * i + c

/-- The share of the arrays read that one SparseCore gets, and one task of it. -/
abbrev coreShare (c : Fin 2) : PosShare TreeShare := pieceOf fullShare 2 (by decide) c
abbrev taskShare (c : Fin 2) (i : Fin 16) : PosShare TreeShare := pieceOf (coreShare c) 16 (by decide) i

variable (vx : (d : Dev nD) → Buf (Elt F) (xLoc d)) (vg : (d : Dev nD) → Buf (Elt F) (gLoc d)) (fo : (d : Dev nD) → Buf (Elt F) (oLoc d))

/-- One SparseCore's part, with the partial results at `o`. -/
abbrev corePart (d : Dev nD) (c : Fin 2) (o : Buf (Elt F) (oLoc d)) : sProp 𝕄 :=
  iprop((xLoc d ↦{coreShare c} vx d) ∗ (gLoc d ↦{coreShare c} vg d) ∗ (oLoc d ↦[coreSet c.val]{fullShare} o))
/-- One task's part. -/
abbrev taskPart (d : Dev nD) (c : Fin 2) (i : Fin 16) (o : Buf (Elt F) (oLoc d)) : sProp 𝕄 :=
  iprop((xLoc d ↦{taskShare c i} vx d) ∗ (gLoc d ↦{taskShare c i} vg d) ∗ (oLoc d ↦[rowSet c.val i.val]{fullShare} o))

def P : (K (F := F)).Pay (nD := nD) (Val := Elt F) (Name := ℕ) (U := UU) where
  st := fun q d c => match q with | 0 => corePart vx vg d (Fin.cast nCore_zero c) (fo d)
  dn := fun q d c => match q with | 0 => corePart vx vg d (Fin.cast nCore_zero c) (outs (vx d) (vg d))
  go := fun q d c i => match q with | 0 => taskPart vx vg d (Fin.cast nCore_zero c) (Fin.cast nSub_zero i) (fo d)
  td := fun q d c i => match q with | 0 => taskPart vx vg d (Fin.cast nCore_zero c) (Fin.cast nSub_zero i) (outs (vx d) (vg d))
  x := fun _ _ => iprop(emp)

instance P_storable : (P (F := F) vx vg fo).IsStorable where
  st q d c := match q with
    | 0 => (inferInstance : BI.Storable (upEmb : UEmb _ 𝕄) (corePart vx vg d (Fin.cast nCore_zero c) (fo d)))
  dn q d c := match q with
    | 0 => (inferInstance : BI.Storable (upEmb : UEmb _ 𝕄) (corePart vx vg d (Fin.cast nCore_zero c) (outs (vx d) (vg d))))
  go q d c i := match q with
    | 0 => (inferInstance : BI.Storable (upEmb : UEmb _ 𝕄) (taskPart vx vg d (Fin.cast nCore_zero c) (Fin.cast nSub_zero i) (fo d)))
  td q d c i := match q with
    | 0 => (inferInstance : BI.Storable (upEmb : UEmb _ 𝕄) (taskPart vx vg d (Fin.cast nCore_zero c) (Fin.cast nSub_zero i) (outs (vx d) (vg d))))

/-! ## The splits -/

theorem core_rows (c : ℕ) (hc : c < 2) : coreSet c = (Finset.univ : Finset (Fin 16)).biUnion fun i => rowSet c i.val := by
  ext j
  have hj : (j 0).val < 32 := (j 0).isLt
  simp only [coreSet, rowSet, Finset.mem_filter, Finset.mem_univ, true_and, Finset.mem_biUnion]
  constructor
  · intro h; exact ⟨⟨(j 0).val / 2, by omega⟩, by show _ = 2 * ((j 0).val / 2) + c; omega⟩
  · rintro ⟨i, h⟩; omega

theorem rows_disjoint (c : ℕ) : ∀ i ∈ (Finset.univ : Finset (Fin 16)), ∀ j ∈ (Finset.univ : Finset (Fin 16)), i ≠ j → Disjoint (rowSet c i.val) (rowSet c j.val) := by
  intro i _ j _ hij
  rw [Finset.disjoint_left]
  intro x h h'
  simp only [rowSet, Finset.mem_filter, Finset.mem_univ, true_and] at h h'
  exact hij (Fin.ext (by omega))

theorem cores_cover : (Finset.univ : Finset (Fin 2)).biUnion (fun c => coreSet c.val) = Finset.univ := by
  ext j
  simp only [coreSet, Finset.mem_filter, Finset.mem_univ, true_and, Finset.mem_biUnion, iff_true]
  exact ⟨⟨(j 0).val % 2, by omega⟩, rfl⟩

theorem cores_disjoint : ∀ i ∈ (Finset.univ : Finset (Fin 2)), ∀ j ∈ (Finset.univ : Finset (Fin 2)), i ≠ j → Disjoint (coreSet i.val) (coreSet j.val) := by
  intro i _ j _ hij
  rw [Finset.disjoint_left]
  intro x h h'
  simp only [coreSet, Finset.mem_filter, Finset.mem_univ, true_and] at h h'
  exact hij (Fin.ext (by omega))

/-- One SparseCore's part is its tasks' parts. -/
theorem corePart_tasks (d : Dev nD) (c : Fin 2) (o : Buf (Elt F) (oLoc d)) :
    corePart vx vg d c o = bigSep Finset.univ fun i : Fin 16 => taskPart vx vg d c i o := by
  unfold corePart taskPart
  rw [bigSep_sep', bigSep_sep', ← pointsTo_piecesOf, ← pointsTo_piecesOf, core_rows c.val c.isLt,
    pointsTo_biUnion _ _ (rows_disjoint c.val)]

/-- The call's three arrays are the two SparseCores' parts. -/
theorem arrays_cores (d : Dev nD) (o : Buf (Elt F) (oLoc d)) :
    (iprop((xLoc d ↦{fullShare} vx d) ∗ (gLoc d ↦{fullShare} vg d) ∗ (oLoc d ↦{fullShare} o)) : sProp 𝕄)
      = bigSep Finset.univ fun c : Fin 2 => corePart vx vg d c o := by
  unfold corePart
  rw [bigSep_sep', bigSep_sep', ← pointsTo_piecesOf, ← pointsTo_piecesOf, ← pointsTo_biUnion _ _ cores_disjoint, cores_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P vx vg fo) 0 := by
  intro d c
  show corePart vx vg d (Fin.cast nCore_zero c) (fo d) ⊢ |={Set.univ}=> iprop(
      (bigSep Finset.univ fun i : Fin ((K (F := F)).nSub 0) => taskPart vx vg d (Fin.cast nCore_zero c) (Fin.cast nSub_zero i) (fo d))
      ∗ ((bigSep Finset.univ fun i : Fin ((K (F := F)).nSub 0) => taskPart vx vg d (Fin.cast nCore_zero c) (Fin.cast nSub_zero i) (outs (vx d) (vg d)))
          -∗ corePart vx vg d (Fin.cast nCore_zero c) (outs (vx d) (vg d))))
  rw [bigSep_tasks (F := F) (fun i => taskPart vx vg d (Fin.cast nCore_zero c) i (fo d)),
    bigSep_tasks (F := F) (fun i => taskPart vx vg d (Fin.cast nCore_zero c) i (outs (vx d) (vg d))),
    ← corePart_tasks, ← corePart_tasks]
  iintro H; imodintro
  isplitl [H]; · iexact H
  iintro H; iexact H

/-! ## The task's obligation -/

section Tile

variable (d : Dev nD) (L : grid0.Coords)

theorem set_oRowK : (oRowK L).view.set = rowSet (L 0).val (L 1).val := by
  ext i
  simp only [rowSet, Finset.mem_filter, Finset.mem_univ, true_and]
  constructor
  · intro hi
    obtain ⟨x, -, rfl⟩ := Finset.mem_map.mp hi
    exact (oRow_emb L x).1
  · intro hi
    obtain ⟨x, hx⟩ : ∃ x : S64.Idx, (x 0).val = (i 1).val := ⟨fun a => ⟨(i 1).val, by
      have h : S64.size a = 64 := by fin_cases a; rfl
      rw [h]; exact (i 1).isLt⟩, rfl⟩
    have h1 := (oRow_emb L x).1
    have h2 := (oRow_emb L x).2
    refine Finset.mem_map.mpr ⟨x, Finset.mem_univ _, ?_⟩
    funext a
    fin_cases a
    · exact Fin.ext (h1.trans hi.symm)
    · exact Fin.ext (h2.trans hx)

abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)

theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

theorem tile_body (hF : (K (F := F)).Facts) (c : Fin 2) (i : Fin 16) (hc : (L 0).val = c.val) (hi : (L 1).val = i.val)
    (O : CellTallies nD τ sig (HIx 1)) (W : Waits sig (HIx 1)) (hO : ∀ g, O g none = 0) :
    iprop(levAts (K (F := F)).L (K (F := F)).lev ∗ emp ∗ taskPart vx vg d c i (fo d)
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) gV (Memref.isWhole_whole _) oV (Memref.isWhole_whole _)
            sX (Memref.isWhole_whole _) sG (Memref.isWhole_whole _) sR (Memref.isWhole_whole _) cc0_scoped0 cc0_scoped1 cc0_scoped2)
          fun _ => iprop(taskPart vx vg d c i (outs (vx d) (vg d))
            ∗ scopedBufs (thr d L) ∗ scopedSems0 (thr d L)
            ∗ ∃ W', ⌜∀ p ∈ W', p ∈ W ∨ p.2 = none ∨ p.2 = some (0 : Fin 1)⌝ ∗ owes (thr d L) O W') := by
  have hset : rowSet c.val i.val = (oRowK L).view.set := by rw [set_oRowK, hc, hi]
  rw [(K (F := F)).scopedBufs_V hF d (cV L) (jV L), SparseCore.Cfg.scopedSems0_V (Val := Elt F) d (cV L) (jV L), ownSems0_V, ownBufs_V]
  unfold taskPart
  rw [hset]
  iintro ⟨#Hlv, -, ⟨Hx, Hg, Ho⟩, ⟨⟨%f5, H5⟩, ⟨%f6, H6⟩, ⟨%f7, H7⟩, Hbufs⟩, ⟨Hs0, Hs1, Hs2, Hsems⟩, HO⟩
  ihave Hmw := (show levAts (K (F := F)).L (K (F := F)).lev ⊢ Transfers.MayWaits (thr d L) (default : HIx 1) O from (K (F := F)).mayWaits_none (thr := thr d L) hO) $$ Hlv
  iapply (wp_wand_r Idealize.ShloMosaic.frame (wpE (defs₀ (F := F)) 𝒱₀ (thr d L) none) Set.univ)
  isplitl [Hx Hg Ho H5 H6 H7 Hs0 Hs1 Hs2 HO Hmw]
  · iapply (tile_run d L (taskShare c i) (vx d) (vg d) (fo d) O W f5 f6 f7)
    isplitl [Hmw]; · iexact Hmw
    isplitl [Hx]; · iexact Hx
    isplitl [Hg]; · iexact Hg
    isplitl [Ho]; · iexact Ho
    isplitl [H5]; · iexact H5
    isplitl [H6]; · iexact H6
    isplitl [H7]; · iexact H7
    isplitl [Hs0]; · iexact Hs0
    isplitl [Hs1]; · iexact Hs1
    isplitl [Hs2]; · iexact Hs2
    iexact HO
  iintro %_ ⟨Hx, Hg, Ho, H5, H6, H7, Hs0, Hs1, Hs2, ⟨%W', %hW', HO⟩⟩
  isplitl [Hx Hg Ho]
  · isplitl [Hx]; · iexact Hx
    isplitl [Hg]; · iexact Hg
    iexact Ho
  isplitl [H5 H6 H7 Hbufs]
  · isplitl [H5]; · iexact H5
    isplitl [H6]; · iexact H6
    isplitl [H7]; · iexact H7
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; intro p hp
    rcases hW' p hp with h | h
    · exact .inl h
    · exact .inr (.inl h)
  iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Gen.hcore0 Gen.hsub0 (fun c s => cc0__sc_body (coordsV c s)
          xV (Memref.isWhole_whole _) gV (Memref.isWhole_whole _) oV (Memref.isWhole_whole _)
            sX (Memref.isWhole_whole _) sG (Memref.isWhole_whole _) sR (Memref.isWhole_whole _) cc0_scoped0 cc0_scoped1 cc0_scoped2) ⟨⟩ c s := rfl

theorem tileObl (hF : (K (F := F)).Facts) : (K (F := F)).TileObl (D (F := F)) 𝒱 (P vx vg fo) v₀ 0 := by
  intro d c i O W hO _ _
  simp only [show (P vx vg fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body vx vg fo d (coordsV ⟨_, hci.1⟩ ⟨_, hci.2⟩) hF (Fin.cast nCore_zero c) (Fin.cast nSub_zero i) rfl rfl O W hO

end Cert.Proof.Run

end
-- ==== Proof.Region.lean ====
/-
  The kernel after the SparseCore call: one point over three whole arrays — the thirty-two rows of partial results,
  the input as 64 rows of 15625, and the output. Its body run once, the data of its pipeline, and its region over the
  thread state "every unscoped buffer of the TensorCore at `V`", left at `V` updated at the output.
-/
module

public import proofs.«01_k».proof.Proof.Setup
public import Idealize.ShloMosaic.Lib.Pipeline.RegionsLoop
public import Idealize.ShloMosaic.Lib.VecWindow
public import Idealize.ShloMosaic.Lib.Pipeline.Value

@[expose] public section

noncomputable section

namespace Cert.Proof.Run

open Cert.KernelIdeal Cert.KernelIdeal.Gen Cert.KernelIdeal.Facts₀
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- A memref's buffer on core `c`: the type of its contents, and the buffer held whole. -/
abbrev MBuf (c : Dev nD) {sp : Space} {s : Shape} {e : EltTy} (M : Memref sig .tc sp s e) : Type := Buf (Elt F) (M.view.loc (c : Thread nD τ))
abbrev mpt (c : Dev nD) {sp : Space} {s : Shape} {e : EltTy} (M : Memref sig .tc sp s e) (f : MBuf (F := F) c M) : sProp 𝕄 :=
  M.view.loc (c : Thread nD τ) ↦{fullShare} f

/-- A load of the whole of a staging buffer is its contents. -/
theorem load_partials (c : Dev nD) (f : MBuf (F := F) c (stage1_0 0)) :
    (stage1_0 0).view.readAt (Elt F) (Rect.unit (s := S32x64) ![0, 0] S32x64.size Gen.inb_S32x64_S32x64_0_0).toLoadRect f = f := by
  funext x
  refine congrArg f (funext fun a => Fin.ext ?_)
  fin_cases a
  · exact (Nat.zero_add _).trans (Nat.one_mul _)
  · exact (Nat.zero_add _).trans (Nat.one_mul _)

theorem load_input (c : Dev nD) (f : MBuf (F := F) c (stage1_1 0)) :
    (stage1_1 0).view.readAt (Elt F) (Rect.unit (s := S64x15625) ![0, 0] S64x15625.size Gen.inb_S64x15625_S64x15625_0_0).toLoadRect f = f := by
  funext x
  refine congrArg f (funext fun a => Fin.ext ?_)
  fin_cases a
  · exact (Nat.zero_add _).trans (Nat.one_mul _)
  · exact (Nat.zero_add _).trans (Nat.one_mul _)

/-- A store of the whole of the output's staging buffer leaves what was stored. -/
theorem store_output (c : Dev nD) (f : MBuf (F := F) c (stage1_2 0)) (w : Vec F S64x15625 .f32) :
    (stage1_2 0).view.writes (Elt F) f [⟨Rect.unit (s := S64x15625) ![0, 0] S64x15625.size Gen.inb_S64x15625_S64x15625_0_0, w⟩] = w := by
  funext x
  have h := View.read_writes_cons_emb (Val := Elt F) (stage1_2 0).view f
    (Rect.unit (s := S64x15625) ![0, 0] S64x15625.size Gen.inb_S64x15625_S64x15625_0_0) w [] x
  rw [Rect.emb_unit_full] at h
  refine Eq.trans ?_ h
  generalize (stage1_2 0).view.writes (Elt F) f _ = g
  rfl

/-- The body of the kernel: from the three staging buffers it returns with the output's holding the combination of
    the partial results and the input. -/
theorem bodyRun (c : Dev nD) (i) (f0 : MBuf (F := F) c (stage1_0 0)) (f1 : MBuf (F := F) c (stage1_1 0)) (f2 : MBuf (F := F) c (stage1_2 0))
    (E : Set ℕ) (Q : PUnit → sProp 𝕄) :
    iprop(mpt c (stage1_0 0) f0 ∗ mpt c (stage1_1 0) f1 ∗ mpt c (stage1_2 0) f2
        ∗ (iprop(mpt c (stage1_0 0) f0 ∗ mpt c (stage1_1 0) f1 ∗ mpt c (stage1_2 0) (k1_pay1 (F := F) f0 f1)) -∗ Q ⟨⟩))
      ⊢ wp frame (wpE (defs₀ (F := F)) Variants.none c none) E
          (cc1__tc_body i (stage1_0 0) (Gen.hstage1_0 0) (stage1_1 0) (Gen.hstage1_1 0) (stage1_2 0) (Gen.hstage1_2 0)) Q := by
  iintro ⟨H0, H1, H2, Hk⟩
  rw [cc1__tc_body_eq_skeleton]
  sl_exec!
  sl_step
  iapply Hk
  isplitl [H0]; · iexact H0
  isplitl [H1]; · iexact H1
  iapply (Entails.of_eq (pointsTo_congr (g := k1_pay1 (F := F) f0 f1) ?h)) $$ H2
  case h =>
    intro x _
    have h0 := load_partials c f0
    have h1 := load_input c f1
    exact (congrFun (store_output c _ _) x).trans (congrFun (congr (congrArg _ h0) h1) x)

/-! ## The pipeline's data, from an entry valuation -/

variable (V : (c : Dev nD) → (b : Ref sig .tc) → Buf (Elt F) ((c : Thread nD τ).loc b))

/-- The two blocks fetched: the whole partial results and the whole input. -/
abbrev blkPartials (c : Dev nD) : S32x64.Idx → Elt F .f32 := (win1_0.blk t1_0).view.read (Elt F) (V c main_v10)
abbrev blkInput (c : Dev nD) : S64x15625.Idx → Elt F .f32 := (win1_1.blk t1_0).view.read (Elt F) (V c main_v11)

/-- The arrays at `V`; the fetched blocks kept, the output's staging buffer at the combination; nothing owed. -/
def dat (c : Dev nD) : Dat τ (Elt F) (HIx 1) ℕ UU ℕ cfg1 c where
  A w := V c (Pipeline.arrRef spec1 w)
  after w _ := match w with
    | ⟨0, _⟩ => blkPartials V c
    | ⟨1, _⟩ => blkInput V c
    | ⟨2, _⟩ => k1_pay1 (F := F) (blkPartials V c) (blkInput V c)
  Φ _ := BI.emp
  q _ := fullShare
  owed _ := 0

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_partials (c : Dev nD) (d : (cfg1.win 0).block.Idx → Elt F (cfg1.win 0).elt) : (dat V c).before 0 t1_0 d = blkPartials V c := by
  unfold Dat.before; rw [if_pos (Gen.fetch1_0 _)]; rfl

theorem before_input (c : Dev nD) (d : (cfg1.win 1).block.Idx → Elt F (cfg1.win 1).elt) : (dat V c).before 1 t1_0 d = blkInput V c := by
  unfold Dat.before; rw [if_pos (Gen.fetch1_1 _)]; rfl

theorem body_obligation (c : Dev nD) : BodyObligation (dat V c) (defs₀ (F := F)) 𝒱₀ none Set.univ := fun t => by
  obtain rfl := fin_N1 t
  rw [bigSep_W1, bigSep_W1]
  have o0 : ∀ X, (owns (c : Thread nD τ) (stage1_0 (cfg1.slots t1_0 0)) fullShare X : sProp 𝕄) = _ := fun X => owns_whole_eq (c : Thread nD τ) cc1_stg0_0 fullShare X
  have o1 : ∀ X, (owns (c : Thread nD τ) (stage1_1 (cfg1.slots t1_0 1)) fullShare X : sProp 𝕄) = _ := fun X => owns_whole_eq (c : Thread nD τ) cc1_stg1_0 fullShare X
  have o2 : ∀ X, (owns (c : Thread nD τ) (stage1_2 (cfg1.slots t1_0 2)) fullShare X : sProp 𝕄) = _ := fun X => owns_whole_eq (c : Thread nD τ) cc1_stg2_0 fullShare X
  simp only [o0, o1, o2]
  rw [show (dat V c).Φ t1_0.castSucc = BI.emp from rfl, show (dat V c).Φ t1_0.succ = BI.emp from rfl,
    show (dat V c).owesAt none t1_0.succ = (dat V c).owesAt none t1_0.castSucc from rfl]
  iintro ⟨-, Howes, ⟨%d0, %f0, %hf0, H0⟩, ⟨%d1, %f1, %hf1, H1⟩, ⟨%d2, %f2, -, H2⟩⟩
  rw [before_partials] at hf0
  rw [before_input] at hf1
  subst hf0 hf1
  iapply (bodyRun c (grid1.coords t1_0) (blkPartials V c) (blkInput V c) f2 Set.univ _)
  isplitl [H0]; · iexact H0
  isplitl [H1]; · iexact H1
  isplitl [H2]; · iexact H2
  iintro ⟨H0, H1, H2⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region -/

/-- The TensorCore's unscoped references: what the thread state holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The output's array after the region. -/
def combined (c : Dev nD) : Buf (Elt F) ((c : Thread nD τ).loc main_v12) := (dat V c).arrAt 2 cfg1.N

variable (Vp : (c : Dev nD) → (b : Ref sig .tc) → Buf (Elt F) ((c : Thread nD τ).loc b))

set_option backward.isDefEq.respectTransparency.types false in
/-- The region over "every unscoped buffer at `V`, and `R`": it leaves them at any `Vp` with the output's array as
    combined and agreeing with `V` elsewhere. -/
def reg (hVp_out : ∀ c, Vp c main_v12 = combined V c) (hVp_ne : ∀ c (b : Ref sig .tc), b ≠ main_v12 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = BI.emp from rfl]
    iintro ⟨-, -, -⟩; iempintro
  hout c := by
    rw [Pipeline.ownSems0_none, show (pdats V 0 c).Φ (Fin.last _) = BI.emp from rfl]
    iintro -
    isplitr; · iempintro
    isplitr; · iempintro
    iapply (Entails.of_eq (scopedRest1_eq (Ix := HIx 1) (Name := ℕ) (U := UU) (Lvl := ℕ) (Val := Elt F) c).symm)
    iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v10 (by decide)).symm
        · exact ((pdats V 0 c).arrAt_in 1 rfl _).trans (hVp_ne c main_v11 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## What the blocks and the output are -/

theorem index_zero (a : Fin 2) : win1_0.index t1_0 a = 0 ∧ win1_1.index t1_0 a = 0 ∧ win1_2.index t1_0 a = 0 := by
  revert a; decide

/-- Every window's one block is its whole array. -/
theorem blkPartials_eq (c : Dev nD) : blkPartials V c = V c main_v10 := by
  funext y
  refine congrArg (V c main_v10) (funext fun a => Fin.ext ?_)
  refine (Pipeline.Window.rect_emb_val win1_0 t1_0 y a).trans ?_
  rw [(index_zero a).1, Nat.zero_mul, Nat.zero_add]

theorem blkInput_eq (c : Dev nD) : blkInput V c = V c main_v11 := by
  funext y
  refine congrArg (V c main_v11) (funext fun a => Fin.ext ?_)
  refine (Pipeline.Window.rect_emb_val win1_1 t1_0 y a).trans ?_
  rw [(index_zero a).2.1, Nat.zero_mul, Nat.zero_add]

theorem combined_eq (c : Dev nD) : combined V c = k1_pay1 (F := F) (V c main_v10) (V c main_v11) := by
  funext y
  have hd : ∀ t t' : Fin cfg1.N, (cfg1.win 2).flush t = true → (cfg1.win 2).flush t' = true → t ≠ t' →
      Disjoint ((cfg1.win 2).blk t).view.set ((cfg1.win 2).blk t').view.set :=
    fun t t' _ _ h => absurd ((fin_N1 t).trans (fin_N1 t').symm) h
  have h := (dat V c).arrAt_emb_eq_flushed 2 hd t1_0 (Gen.flush1_2 _) y
  have he : ((cfg1.win 2).blk t1_0).view.emb y = y := by
    refine funext fun a => Fin.ext ?_
    refine (Pipeline.Window.rect_emb_val win1_2 t1_0 y a).trans ?_
    rw [(index_zero a).2.2, Nat.zero_mul, Nat.zero_add]
  rw [he] at h
  exact h.trans (congrFun (congr (congrArg (k1_pay1 (F := F)) (blkPartials_eq V c)) (blkInput_eq V c)) y)

end Cert.Proof.Run

end
-- ==== Proof.Main.lean ====
/-
  The whole program on a device's TensorCore: the operations before the call, the SparseCore call, the kernel combining
  the partial results, and the result's reshape; and the launch of all threads, ending with the argument unchanged and
  the result at a value of the argument.
-/
module

public import proofs.«01_k».proof.Proof.HostFacts
public import proofs.«01_k».proof.Proof.Deal
public import proofs.«01_k».proof.Proof.Region

@[expose] public section

noncomputable section

namespace Cert.Proof.Run

open Cert.KernelIdeal Cert.KernelIdeal.Gen Cert.KernelIdeal.Facts₀
open Idealize.ShloMosaic Idealize.ShloMosaic.TcCoe
open Idealize.ShloMosaic.SparseCore (S V T)
open Idealize.ShloMosaic.SparseCore.Cfg (HIx Pay)
open Idealize.ShloMosaic.StableHlo (held held_sub_split held_congr after seq wp_seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents, stage by stage -/

section Values

variable (m : (ℓ : Loc nD τ sig) → Buf (Elt F) ℓ)

/-- At the launch; before the call; after it; before the second kernel; after it; at the end. -/
def V₀ (d : Dev nD) : Valuation τ sig (Elt F) := fun b => m (d, b)
def V₁ (d : Dev nD) : Valuation τ sig (Elt F) := after Host.ops (V₀ m d)
abbrev vx (d : Dev nD) : Buf (Elt F) (xLoc d) := V₁ m d main_v0
abbrev vg (d : Dev nD) : Buf (Elt F) (gLoc d) := V₁ m d main_v9
abbrev fo (d : Dev nD) : Buf (Elt F) (oLoc d) := V₁ m d main_v10
def V₂ (d : Dev nD) : Valuation τ sig (Elt F) := Function.update (V₁ m d) (Proc.devRef .tc main_v10) (outs (vx m d) (vg m d))
def V₃ (d : Dev nD) : Valuation τ sig (Elt F) := after Host.opsIn (V₂ m d)
abbrev entry (d : Dev nD) (b : Ref sig .tc) : Buf (Elt F) ((d : Thread nD τ).loc b) := V₃ m d b
def V₄ (d : Dev nD) : Valuation τ sig (Elt F) := Function.update (V₃ m d) (Proc.devRef .tc main_v12) (combined (entry m) d)
def V₅ (d : Dev nD) : Valuation τ sig (Elt F) := after Host.opsOut (V₄ m d)

end Values

/-! ## The call's three arrays out of all -/

/-- The arrays of the SparseCore call. -/
def callRefs : Finset (DevRef τ sig) := {Proc.devRef .tc main_v0, Proc.devRef .tc main_v9, Proc.devRef .tc main_v10}

theorem unscoped_mem (b : Ref sig .tc) (h : (Proc.devRef (τ := τ) .tc b).isScoped = false) : Proc.devRef .tc b ∈ ucRefs :=
  Finset.mem_filter.mpr ⟨StableHlo.devRef_mem_tcRefs b, fun h' => Bool.false_ne_true (h.symm.trans h')⟩

theorem callRefs_sub : callRefs ⊆ ucRefs := by
  intro b hb
  simp only [callRefs, Finset.mem_insert, Finset.mem_singleton] at hb
  rcases hb with rfl | rfl | rfl <;> exact unscoped_mem _ rfl

theorem sub_uc {ops : List (HloOp τ sig (Elt F))} (h : ∀ op ∈ ops, op.bufs ⊆ StableHlo.tcRefs τ sig) : ∀ op ∈ ops, op.bufs ⊆ ucRefs :=
  fun op ho b hb => Finset.mem_filter.mpr ⟨h op ho hb, fun h' => Bool.false_ne_true ((op.no_scoped b hb).symm.trans h')⟩

theorem held_call (d : Dev nD) (W : Valuation τ sig (Elt F)) :
    (held (d : Thread nD τ) ucRefs W : sProp 𝕄)
      = iprop(((xLoc d ↦{fullShare} W main_v0) ∗ (gLoc d ↦{fullShare} W main_v9) ∗ (oLoc d ↦{fullShare} W main_v10))
          ∗ held (d : Thread nD τ) (ucRefs \ callRefs) W) := by
  rw [held_sub_split _ callRefs_sub]
  congr 1
  unfold held callRefs
  rw [SparseCore.bigSep_insert' (by decide), SparseCore.bigSep_insert' (by decide), bigSep_singleton]

section Run

variable (m : (ℓ : Loc nD τ sig) → Buf (Elt F) ℓ) (ρ : Dev nD → PrngReg)

theorem held_rest (d : Dev nD) :
    (held (d : Thread nD τ) (ucRefs \ callRefs) (V₁ m d) : sProp 𝕄) = held (d : Thread nD τ) (ucRefs \ callRefs) (V₂ m d) := by
  refine held_congr _ fun b hb => ?_
  unfold V₂
  rw [Function.update_of_ne]
  rintro rfl
  exact (Finset.mem_sdiff.mp hb).2 (by decide)

abbrev Pay₀ : (K (F := F)).Pay (nD := nD) (Val := Elt F) (Name := ℕ) (U := UU) := P (vx m) (vg m) (fo m)

theorem st_eq (d : Dev nD) :
    (bigSep Finset.univ fun c : Fin ((K (F := F)).nCore 0) => (Pay₀ m).st 0 d c)
      = iprop((xLoc d ↦{fullShare} vx m d) ∗ (gLoc d ↦{fullShare} vg m d) ∗ (oLoc d ↦{fullShare} fo m d)) :=
  (bigSep_cores fun c => corePart (vx m) (vg m) d c (fo m d)).trans (arrays_cores (vx m) (vg m) d (fo m d)).symm
theorem dn_eq (d : Dev nD) :
    (bigSep Finset.univ fun c : Fin ((K (F := F)).nCore 0) => (Pay₀ m).dn 0 d c)
      = iprop((xLoc d ↦{fullShare} vx m d) ∗ (gLoc d ↦{fullShare} vg m d) ∗ (oLoc d ↦{fullShare} outs (vx m d) (vg m d))) :=
  (bigSep_cores fun c => corePart (vx m) (vg m) d c (outs (vx m d) (vg m d))).trans (arrays_cores (vx m) (vg m) d (outs (vx m d) (vg m d))).symm

/-- The SparseCore call, from every unscoped array to every unscoped array. -/
theorem call_step (κ : GSem nD τ sig → ℕ) (d : Dev nD) (Φ : PUnit → sProp 𝕄) :
    iprop((K (F := F)).ctx EH (Pay₀ m) κ ∗ (K (F := F)).tcSt EH d 0 ∗ held (d : Thread nD τ) ucRefs (V₁ m d)
        ∗ (((K (F := F)).tcSt EH d 1 ∗ held (d : Thread nD τ) ucRefs (V₂ m d)) -∗ Φ ⟨⟩))
      ⊢ wp frame (wpE ((K (F := F)).defs (D (F := F))) 𝒱 (T d) none) Set.univ ((K (F := F)).run d 0) Φ := by
  rw [held_call, held_call, held_rest]
  iintro ⟨#Hctx, Hst, ⟨Harr, Hrest⟩, Hk⟩
  iapply ((K (F := F)).wp_run (D (F := F)) 𝒱 (EH := EH) (P := Pay₀ m) κ d 0) $$ [Hst Harr Hrest Hk]
  isplitr; · iexact Hctx
  isplitl [Hst]; · iexact Hst
  isplitl [Harr]
  · rw [st_eq]; iexact Harr
  iintro ⟨Hst, Hdn⟩
  ihave Hdn := (Entails.of_eq (dn_eq m d)) $$ Hdn
  iapply Hk
  isplitl [Hst]; · iexact Hst
  isplitl [Hdn]
  · rw [show V₂ m d main_v0 = vx m d from Function.update_of_ne (by decide) _ _,
      show V₂ m d main_v9 = vg m d from Function.update_of_ne (by decide) _ _,
      show V₂ m d main_v10 = outs (vx m d) (vg m d) from Function.update_self _ _ _]
    iexact Hdn
  iexact Hrest

theorem entry_out : ∀ c : Dev nD, (fun (c : Dev nD) (b : Ref sig .tc) => (V₄ m c b : Buf (Elt F) ((c : Thread nD τ).loc b))) c main_v12 = combined (entry m) c :=
  fun _ => Function.update_self _ _ _
theorem entry_ne : ∀ (c : Dev nD) (b : Ref sig .tc), b ≠ main_v12 →
    (fun (c : Dev nD) (b : Ref sig .tc) => (V₄ m c b : Buf (Elt F) ((c : Thread nD τ).loc b))) c b = entry m c b :=
  fun _ _ h => Function.update_of_ne (fun e => h (Proc.devRef_injective _ e)) _ _

/-- The second kernel's region. -/
abbrev region := reg (entry m) (fun c b => V₄ m c b) (entry_out m) (entry_ne m)

theorem region_pre (d : Dev nD) : (region m).pre d
    = iprop(unscopedBufs d (entry m d) ∗ ∃ W, owes (d : Thread nD τ) (0 : CellTallies nD τ sig (HIx 1)) W) := rfl
theorem region_post (d : Dev nD) : (region m).post d
    = iprop(unscopedBufs d (fun b => V₄ m d b) ∗ ∃ W, owes (d : Thread nD τ) (0 : CellTallies nD τ sig (HIx 1)) W) := rfl

/-- What the launch deals device `d` for the second kernel's staging. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- The second kernel's call, under the pipelines' own labels and under the launch's. -/
abbrev stageCall : Prog (TpuEff nD τ sig (Elt F) (ΛP (F := F)) .tc) PUnit := .op (.customCall (Pipeline.entry 0) ()) fun _ => .ret ⟨⟩
theorem stage_lift : (Prog.lift (.customCall (SparseCore.inner (Pipeline.entry 0)) ()) : Prog (TpuEff nD τ sig (Elt F) (SparseCore.Sig (ΛP (F := F)) 1) .tc) PUnit)
    = SparseCore.liftProg stageCall := rfl

/-- The second kernel, from every unscoped array to every unscoped array. -/
theorem region_core [∀ e, Nonempty (Elt F e)] (κ : GSem nD τ sig → ℕ) (d : Dev nD) (Φ : PUnit → sProp 𝕄) :
    iprop((K (F := F)).ctx EH (Pay₀ m) κ ∗ (K (F := F)).tcSt EH d 1 ∗ boundary (T d) ∗ held (d : Thread nD τ) ucRefs (V₃ m d) ∗ ghost d
        ∗ (((K (F := F)).tcSt EH d 1 ∗ boundary (T d) ∗ held (d : Thread nD τ) ucRefs (V₄ m d)) -∗ Φ ⟨⟩))
      ⊢ wp frame (wpE (D (F := F)) 𝒱 (T d) none) Set.univ stageCall Φ := by
  unfold SparseCore.Cfg.tcSt
  rw [(K (F := F)).Otc_end d (Nat.le_refl 1), ← unscopedBufs_held, ← unscopedBufs_held]
  iintro ⟨#Hctx, ⟨⟨%W, %hW, HO⟩, Hst⟩, Hb, Hbufs, ⟨Hg, Ht⟩, Hk⟩
  ihave Hlev := ((K (F := F)).ctx_levAts κ) $$ Hctx
  iapply (Pipeline.RegionSeg.wp (pcfgs (F := F)) adm (pdats (entry m)) none Gen.cellOf_inj EP defs₀ 𝒱₀ (K (F := F)).L (K (F := F)).lev
    (region m) d none (fun _ h => nomatch h) (fun _ => .ret ⟨⟩) Φ)
  isplitl [Hk Hst]
  · iintro ⟨Hb, Hpost⟩
    ihave Hpost := (Entails.of_eq (region_post m d)) $$ Hpost
    icases Hpost with ⟨Hbufs, %W', HO⟩
    rw [wp_ret]; imodintro
    iapply Hk
    isplitl [HO Hst]
    · isplitl [HO]
      · iexists W'
        isplitr
        · ipureintro
          intro p _
          rcases p with ⟨sm, _ | q⟩
          · exact Nat.zero_le _
          · exact ((K (F := F)).lev_some_le (T d, sm) q).trans (by have := q.isLt; show 8 * q.val + 7 ≤ 8 * 1; omega)
        iexact HO
      iexact Hst
    isplitl [Hb]; · iexact Hb
    iexact Hbufs
  isplitl [Hb]; · iexact Hb
  isplitl [Hbufs HO]
  · rw [region_pre]
    isplitl [Hbufs]; · iexact Hbufs
    iexists W; iexact HO
  isplitr; · iexact Hlev
  isplitl [Hg]; · iexact Hg
  iexact Ht

theorem region_step [∀ e, Nonempty (Elt F e)] (κ : GSem nD τ sig → ℕ) (d : Dev nD) (Φ : PUnit → sProp 𝕄) :
    iprop((K (F := F)).ctx EH (Pay₀ m) κ ∗ (K (F := F)).tcSt EH d 1 ∗ boundary (T d) ∗ held (d : Thread nD τ) ucRefs (V₃ m d) ∗ ghost d
        ∗ (((K (F := F)).tcSt EH d 1 ∗ boundary (T d) ∗ held (d : Thread nD τ) ucRefs (V₄ m d)) -∗ Φ ⟨⟩))
      ⊢ wp frame (wpE ((K (F := F)).defs (D (F := F))) 𝒱 (T d) none) Set.univ
          (Prog.lift (.customCall (SparseCore.inner (Pipeline.entry 0)) ())) Φ := by
  rw [stage_lift]
  exact (region_core m κ d Φ).trans ((K (F := F)).wp_liftProg (D (F := F)) 𝒱 (T d) Set.univ none stageCall Φ)

/-! ## The program on a TensorCore -/

theorem opsIn_sub : ∀ op ∈ (Host.opsIn (F := F)), op.bufs ⊆ StableHlo.tcRefs τ sig := fun op h => by
  rw [List.mem_singleton.mp h]; exact StableHlo.reshape_bufs_sub ..
theorem opsOut_sub : ∀ op ∈ (Host.opsOut (F := F)), op.bufs ⊆ StableHlo.tcRefs τ sig := fun op h => by
  rw [List.mem_singleton.mp h]; exact StableHlo.reshape_bufs_sub ..
theorem opsIn_fresh : ∀ op ∈ (Host.opsIn (F := F)), op.fresh = ∅ := fun op h => by rw [List.mem_singleton.mp h]; rfl
theorem opsOut_fresh : ∀ op ∈ (Host.opsOut (F := F)), op.fresh = ∅ := fun op h => by rw [List.mem_singleton.mp h]; rfl

theorem launch_held (d : Dev nD) :
    (unscopedBufs d (fun b => m ((SparseCore.T d : Thread nD τ).loc b)) : sProp 𝕄) = held (d : Thread nD τ) ucRefs (V₀ m d) :=
  unscopedBufs_held d (V₀ m d)

/-- What is left at the end: every unscoped array. -/
abbrev FIN (d : Dev nD) : sProp 𝕄 := held (d : Thread nD τ) ucRefs (V₅ m d)

theorem hmain [∀ e, Nonempty (Elt F e)] (κ : GSem nD τ sig → ℕ) (d : Dev nD) :
    iprop((K (F := F)).ctx EH (Pay₀ m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  rw [Host.main_eq]
  unfold SparseCore.Cfg.tcRes SparseCore.Cfg.tcEnd
  rw [launch_held]
  iintro ⟨#Hctx, Hst, ⟨Hb, Hbufs, Hts, -⟩, Hg⟩
  iapply (wp_seq 𝒱 none Set.univ d ucRefs _ Host.ops (sub_uc Host.ops_sub) Host.ops_fresh (V₀ m d)) $$ [Hb Hbufs]
  · isplitl [Hb]; · iexact Hb
    iexact Hbufs
  iintro ⟨Hb, Hbufs⟩
  rw [wp_bind]
  iapply (call_step m κ d)
  isplitr; · iexact Hctx
  isplitl [Hst]; · iexact Hst
  isplitl [Hbufs]; · iexact Hbufs
  iintro ⟨Hst, Hbufs⟩
  iapply (wp_seq 𝒱 none Set.univ d ucRefs _ Host.opsIn (sub_uc opsIn_sub) opsIn_fresh (V₂ m d)) $$ [Hb Hbufs]
  · isplitl [Hb]; · iexact Hb
    iexact Hbufs
  iintro ⟨Hb, Hbufs⟩
  rw [wp_bind]
  iapply (region_step m κ d)
  isplitr; · iexact Hctx
  isplitl [Hst]; · iexact Hst
  isplitl [Hb]; · iexact Hb
  isplitl [Hbufs]; · iexact Hbufs
  isplitl [Hg]; · iexact Hg
  iintro ⟨Hst, Hb, Hbufs⟩
  rw [← bind_pure (seq Host.opsOut)]
  iapply (wp_seq 𝒱 none Set.univ d ucRefs _ Host.opsOut (sub_uc opsOut_sub) opsOut_fresh (V₄ m d)) $$ [Hb Hbufs]
  · isplitl [Hb]; · iexact Hb
    iexact Hbufs
  iintro ⟨Hb, Hbufs⟩
  rw [wp_pure]; imodintro
  isplitl [Hst]; · iexact Hst
  isplitl [Hbufs]; · iexact Hbufs
  isplitl [Hb]; · iexact Hb
  iexact Hts

/-! ## The launch element -/

def u₀ : UU := (initOf (K (F := F)).hsCells (K (F := F)).hsToks,
  (initOf (Pipeline.cells (nD := nD) (τ := τ) cfgs Gen.cellOf_inj) (Pipeline.launchToks (nD := nD) (τ := τ) cfgs Gen.cellOf_inj), 1))

theorem ghosts :
    (iprop((bigSep Finset.univ fun d : Dev nD => bigSep Finset.univ fun p => Pipeline.cellsGhost cfgs EP p d)
        ∗ (bigSep Finset.univ fun d : Dev nD => bigSep Finset.univ fun p => Pipeline.toksInit cfgs EP p d)) : sProp 𝕄)
      = bigSep Finset.univ fun d : Dev nD => ghost (F := F) d := by
  rw [← bigSep_sep']
  refine bigSep_congr fun d _ => ?_
  rw [bigSep_univ_of_subsingleton (0 : Fin 1), bigSep_univ_of_subsingleton (0 : Fin 1)]

theorem fund (c : UP) (hc : c = initOf (Pipeline.cells (nD := nD) (τ := τ) cfgs Gen.cellOf_inj) (Pipeline.launchToks (nD := nD) (τ := τ) cfgs Gen.cellOf_inj)) :
    (BI.own (((Emb.inl : Emb UP (UP × Counters)).trans embR) c) : sProp 𝕄) ⊢ |==> bigSep Finset.univ fun d : Dev nD => ghost (F := F) d := by
  subst hc
  change (BI.own (EP (F := F) _) : sProp 𝕄) ⊢ _
  iintro H
  imod (Pipeline.fund_ghost cfgs EP Gen.cellOf_inj) $$ H with H
  imodintro
  iapply (Entails.of_eq (ghosts (F := F))) $$ H

theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (Pay₀ m).x q thr) := by
  unfold u₀
  iintro Hu
  ihave H := (ownU_pair _ _) $$ Hu
  icases H with ⟨HH, HR⟩
  ihave H := (own_pair_emb embR _ _) $$ HR
  icases H with ⟨HP, -⟩
  imod (fund _ rfl) $$ HP with HG
  imodintro
  isplitl [HH]; · iexact HH
  isplitl [HG]; · iexact HG
  rw [show (bigSep Finset.univ fun thr : Thread nD τ => bigSep Finset.univ fun q : Fin 1 => (Pay₀ m).x q thr) = bigSep Finset.univ fun _ => iprop(emp) from
    bigSep_congr fun _ _ => bigSep_univ_of_subsingleton (0 : Fin 1), nothing]
  iempintro

/-! ## What the run ends with -/

theorem V₅_arg (d : Dev nD) : V₅ m d main_arg0 = m (aLoc d) := by
  have h₅ : V₅ m d main_arg0 = V₄ m d main_arg0 :=
    StableHlo.after_of_writes_sub (W := [main_v13]) Host.opsOut (V₄ m d) (StableHlo.forall_writes_sub_of_map rfl) (by decide)
  have h₃ : V₃ m d main_arg0 = V₂ m d main_arg0 :=
    StableHlo.after_of_writes_sub (W := [main_v11]) Host.opsIn (V₂ m d) (StableHlo.forall_writes_sub_of_map rfl) (by decide)
  have h₁ : V₁ m d main_arg0 = V₀ m d main_arg0 := Host.ops_keep (V₀ m d) (by decide)
  have h₄ : V₄ m d main_arg0 = V₃ m d main_arg0 := Function.update_of_ne (by decide) _ _
  have h₂ : V₂ m d main_arg0 = V₁ m d main_arg0 := Function.update_of_ne (by decide) _ _
  rw [h₅, h₄, h₃, h₂, h₁]; rfl

/-- The result's array on device `d`. -/
abbrev rLoc (d : Dev nD) : Loc nD τ sig := (SparseCore.T d).loc main_v13

def endRefs : Finset (DevRef τ sig) := {Proc.devRef .tc main_arg0, Proc.devRef .tc main_v13}
theorem endRefs_sub : endRefs ⊆ ucRefs := by
  intro b hb
  simp only [endRefs, Finset.mem_insert, Finset.mem_singleton] at hb
  rcases hb with rfl | rfl <;> exact unscoped_mem _ rfl

theorem FIN_split (d : Dev nD) :
    FIN m d ⊢ iprop((aLoc d ↦{fullShare} V₅ m d main_arg0) ∗ (rLoc d ↦{fullShare} V₅ m d main_v13)) := by
  unfold FIN
  rw [held_sub_split _ endRefs_sub]
  refine sep_elim_left.trans (Entails.of_eq ?_)
  unfold held endRefs
  rw [SparseCore.bigSep_insert' (by decide), bigSep_singleton]

def fq (d : Dev nD) (s' : Phys nD τ sig (Elt F)) : Prop :=
  s'.mem.mem (aLoc d) = m (aLoc d) ∧ s'.mem.mem (rLoc d) = V₅ m d main_v13

theorem hfin (d : Dev nD) (s' : Phys nD τ sig (Elt F)) : iprop(FIN m d ∗ SI s') ⊢ (⌜fq m d s'⌝ : sProp 𝕄) := by
  iintro ⟨HF, HSI⟩
  ihave HF := (FIN_split m d) $$ HF
  icases HF with ⟨Ha, Hr⟩
  ihave H := (persistent_entails_right (SI_pointsTo_agree (st := s') (ℓ := aLoc d) (I := Finset.univ) (q := fullShare) (f := V₅ m d main_arg0))) $$ [HSI Ha]
  · isplitl [HSI] <;> iassumption
  icases H with ⟨%ha, HSI, -⟩
  ihave H := (SI_pointsTo_agree (st := s') (ℓ := rLoc d) (I := Finset.univ) (q := fullShare) (f := V₅ m d main_v13)) $$ [HSI Hr]
  · isplitl [HSI] <;> iassumption
  icases H with %hr
  ipureintro
  exact ⟨(funext fun i => ha i (Finset.mem_univ i)).trans (V₅_arg m d), funext fun i => hr i (Finset.mem_univ i)⟩

/-- The end of every run: the argument unchanged, the result as computed, every semaphore at zero. -/
def QC : PUnit × MemSt nD τ sig (Elt F) → Prop := fun r =>
  (∀ d : Dev nD, r.2.mem (aLoc d) = m (aLoc d) ∧ r.2.mem (rLoc d) = V₅ m d main_v13) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pay₀ m) (A := ∅) facts v₀
    (fun q hq => match q with | 0 => nomatch hq)
    (fun q _ => match q with | 0 => tileObl (vx m) (vg m) (fo m) facts)
    (fun q _ => match q with | 0 => SparseCore.Cfg.VecSplit.of_plain (vecSplit (vx m) (vg m) (fo m)))
    m ρ main (fun d => ghost d) (FIN m) (u₀ (F := F)) (sep_elim_left.trans (hu₀ m)) (hmain m ρ) (fq m) (hfin m) (QC m) (fun _ h hz => ⟨h, hz⟩)

end Run

end Cert.Proof.Run

end
-- ==== Proof.Same.lean ====
/-
  The kernel's program and its reading over extended reals have the same text: one program over any float values. Its
  functions' bodies, its body table, its operations on the TensorCore, and so its run, are those of the other.
-/
module

public import proofs.«01_k».proof.Proof.Host
public import proofs.«01_k».proof.Proof.Gen.Kernel

@[expose] public section

noncomputable section

namespace Cert.Proof.Same

open Idealize.ShloMosaic Idealize.ShloMosaic.StableHlo
open Idealize.SL Idealize.SL.Sem

variable {F : FTy → Type} [FloatOps F]

theorem bodies : Cert.Kernel.defs₀ (F := F) = Cert.KernelIdeal.defs₀ (F := F) := by
  funext p ℓ a
  match p, ℓ, a with
  | .scVector c s, 0, _ => rfl
  | .scVector c s, 1, _ => rfl
  | .scScalar c, 0, _ => rfl
  | .scScalar c, 1, _ => rfl
  | .tc, 1, (t, s) => rfl
  | .tc, 0, _ => rfl

theorem defs : Cert.Kernel.defs (F := F) = Cert.KernelIdeal.defs (F := F) :=
  congrArg (fun x => (Cert.KernelIdeal.sc (F := F)).defs (Pipeline.defs Cert.KernelIdeal.pcfgs x)) bodies

section
open Cert.Kernel

set_option maxRecDepth 20000 in
set_option maxHeartbeats 4000000 in
theorem main_ops (d : Dev nD) : Cert.Kernel.main (F := F) d = (seq Host.ops >>= fun _ => Cert.KernelIdeal.sc.run d 0 >>= fun _ => seq Host.opsIn >>= fun _ =>
      Prog.lift (.customCall (SparseCore.inner (Pipeline.entry 0)) ()) >>= fun _ => seq Host.opsOut) := by
  unfold Cert.Kernel.main fn_gumbel.body fn_uniform.body fn_threefry2x32.body fn_threefry2x32.body_part0 fn_threefry2x32.body_part1 fn_threefry2x32.body_part2 fn_threefry2x32.body_part3
  simp only [bind_assoc, pure_bind]
  unfold Host.ops
  iterate 279 (refine Host.step ?_)
  refine Host.last ?_
  rfl
end

end Cert.Proof.Same

end
-- ==== Proof.NoiseRef.lean ====
/-
  The reference's noise is the kernel's.
-/
module

public import proofs.«01_k».proof.Proof.RefHost
public import proofs.«01_k».proof.Proof.Noise

@[expose] public section

noncomputable section

namespace Cert.Proof.Noise.Reference

open Cert.ReferenceIdeal Cert.ReferenceIdeal.Gen
open Idealize.ShloMosaic Idealize.ShloMosaic.TcCoe Idealize.ShloMosaic.StableHlo
open Cert.Proof.RefHost

variable {F : FTy → Type} [FloatOps F]

/-- The keys and the two ends of the range, where the program holds them. -/
def Keys (V : Valuation τ sig (Elt F)) : Prop :=
  V main_call1_call0_v4 = key0 F ∧ V main_call1_call0_v6 = key1 F ∧ V main_call1_call0_call0_v1 = key2 F ∧ V main_call1_call0_v2 = one F ∧ V main_call1_call0_v1 = tiny F

theorem w0_keep (V : Valuation τ sig (Elt F)) {r : Ref sig .tc} (hr : r ∉ [main_cst, main_v0, main_v1, main_v2, main_cst_0, main_v3, main_v4, main_cst_1, main_call0_v0, main_call0_v1, main_v5, main_v6, main_v7, main_v8, main_cst_2, main_v9, main_v10, main_v11, main_v12, main_v13, main_v14, main_v15]) : after w0 V r = V r :=
  after_of_writes_sub w0 V (forall_writes_sub_of_map rfl) hr
theorem w1_keep (V : Valuation τ sig (Elt F)) {r : Ref sig .tc} (hr : r ∉ [main_c, main_c_3, main_v16, main_v17, main_v18, main_c_4, main_v19, main_v20, main_v21, main_v22, main_call1_cst, main_call1_cst_0, main_call1_call0_v0, main_call1_call0_v1, main_call1_call0_v2, main_call1_call0_v3, main_call1_call0_v4, main_call1_call0_v5, main_call1_call0_v6, main_call1_call0_v7, main_call1_call0_v8, main_call1_call0_c, main_call1_call0_v9, main_call1_call0_v10, main_call1_call0_c_0, main_call1_call0_v11, main_call1_call0_v12, main_call1_call0_v13, main_call1_call0_c_1, main_call1_call0_v14, main_call1_call0_v15, main_call1_call0_v16, main_call1_call0_v17]) : after w1 V r = V r :=
  after_of_writes_sub w1 V (forall_writes_sub_of_map rfl) hr
theorem w2_keep (V : Valuation τ sig (Elt F)) {r : Ref sig .tc} (hr : r ∉ [main_call1_call0_call0_v0, main_call1_call0_call0_c, main_call1_call0_call0_v1, main_call1_call0_call0_v2, main_call1_call0_call0_v3, main_call1_call0_call0_v4, main_call1_call0_call0_v5]) : after w2 V r = V r :=
  after_of_writes_sub w2 V (forall_writes_sub_of_map rfl) hr
theorem w3_keep (V : Valuation τ sig (Elt F)) {r : Ref sig .tc} (hr : r ∉ [main_call1_call0_call0_v6, main_call1_call0_call0_c_0, main_call1_call0_call0_v7, main_call1_call0_call0_v8, main_call1_call0_call0_c_1, main_call1_call0_call0_v9, main_call1_call0_call0_v10, main_call1_call0_call0_v11, main_call1_call0_call0_v12]) : after w3 V r = V r :=
  after_of_writes_sub w3 V (forall_writes_sub_of_map rfl) hr
theorem w4_keep (V : Valuation τ sig (Elt F)) {r : Ref sig .tc} (hr : r ∉ [main_call1_call0_call0_v13, main_call1_call0_call0_c_2, main_call1_call0_call0_v14, main_call1_call0_call0_v15, main_call1_call0_call0_c_3, main_call1_call0_call0_v16, main_call1_call0_call0_v17, main_call1_call0_call0_v18, main_call1_call0_call0_v19]) : after w4 V r = V r :=
  after_of_writes_sub w4 V (forall_writes_sub_of_map rfl) hr
theorem w5_keep (V : Valuation τ sig (Elt F)) {r : Ref sig .tc} (hr : r ∉ [main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26]) : after w5 V r = V r :=
  after_of_writes_sub w5 V (forall_writes_sub_of_map rfl) hr
theorem w6_keep (V : Valuation τ sig (Elt F)) {r : Ref sig .tc} (hr : r ∉ [main_call1_call0_call0_v27, main_call1_call0_call0_c_6, main_call1_call0_call0_v28, main_call1_call0_call0_v29, main_call1_call0_call0_c_7, main_call1_call0_call0_v30, main_call1_call0_call0_v31, main_call1_call0_call0_v32, main_call1_call0_call0_v33]) : after w6 V r = V r :=
  after_of_writes_sub w6 V (forall_writes_sub_of_map rfl) hr
theorem w7_keep (V : Valuation τ sig (Elt F)) {r : Ref sig .tc} (hr : r ∉ [main_call1_call0_call0_v34, main_call1_call0_call0_v35, main_call1_call0_call0_v36, main_call1_call0_call0_v37, main_call1_call0_call0_c_8, main_call1_call0_call0_v38, main_call1_call0_call0_v39]) : after w7 V r = V r :=
  after_of_writes_sub w7 V (forall_writes_sub_of_map rfl) hr
theorem w8_keep (V : Valuation τ sig (Elt F)) {r : Ref sig .tc} (hr : r ∉ [main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46]) : after w8 V r = V r :=
  after_of_writes_sub w8 V (forall_writes_sub_of_map rfl) hr
theorem w9_keep (V : Valuation τ sig (Elt F)) {r : Ref sig .tc} (hr : r ∉ [main_call1_call0_call0_v47, main_call1_call0_call0_c_11, main_call1_call0_call0_v48, main_call1_call0_call0_v49, main_call1_call0_call0_c_12, main_call1_call0_call0_v50, main_call1_call0_call0_v51, main_call1_call0_call0_v52, main_call1_call0_call0_v53]) : after w9 V r = V r :=
  after_of_writes_sub w9 V (forall_writes_sub_of_map rfl) hr
theorem w10_keep (V : Valuation τ sig (Elt F)) {r : Ref sig .tc} (hr : r ∉ [main_call1_call0_call0_v54, main_call1_call0_call0_c_13, main_call1_call0_call0_v55, main_call1_call0_call0_v56, main_call1_call0_call0_c_14, main_call1_call0_call0_v57, main_call1_call0_call0_v58, main_call1_call0_call0_v59, main_call1_call0_call0_v60]) : after w10 V r = V r :=
  after_of_writes_sub w10 V (forall_writes_sub_of_map rfl) hr
theorem w11_keep (V : Valuation τ sig (Elt F)) {r : Ref sig .tc} (hr : r ∉ [main_call1_call0_call0_v61, main_call1_call0_call0_c_15, main_call1_call0_call0_v62, main_call1_call0_call0_v63, main_call1_call0_call0_c_16, main_call1_call0_call0_v64, main_call1_call0_call0_v65, main_call1_call0_call0_v66, main_call1_call0_call0_v67]) : after w11 V r = V r :=
  after_of_writes_sub w11 V (forall_writes_sub_of_map rfl) hr
theorem w12_keep (V : Valuation τ sig (Elt F)) {r : Ref sig .tc} (hr : r ∉ [main_call1_call0_call0_v68, main_call1_call0_call0_v69, main_call1_call0_call0_v70, main_call1_call0_call0_v71, main_call1_call0_call0_c_17, main_call1_call0_call0_v72, main_call1_call0_call0_v73]) : after w12 V r = V r :=
  after_of_writes_sub w12 V (forall_writes_sub_of_map rfl) hr
theorem w13_keep (V : Valuation τ sig (Elt F)) {r : Ref sig .tc} (hr : r ∉ [main_call1_call0_call0_v74, main_call1_call0_call0_c_18, main_call1_call0_call0_v75, main_call1_call0_call0_v76, main_call1_call0_call0_c_19, main_call1_call0_call0_v77, main_call1_call0_call0_v78, main_call1_call0_call0_v79, main_call1_call0_call0_v80]) : after w13 V r = V r :=
  after_of_writes_sub w13 V (forall_writes_sub_of_map rfl) hr
theorem w14_keep (V : Valuation τ sig (Elt F)) {r : Ref sig .tc} (hr : r ∉ [main_call1_call0_call0_v81, main_call1_call0_call0_c_20, main_call1_call0_call0_v82, main_call1_call0_call0_v83, main_call1_call0_call0_c_21, main_call1_call0_call0_v84, main_call1_call0_call0_v85, main_call1_call0_call0_v86, main_call1_call0_call0_v87]) : after w14 V r = V r :=
  after_of_writes_sub w14 V (forall_writes_sub_of_map rfl) hr
theorem w15_keep (V : Valuation τ sig (Elt F)) {r : Ref sig .tc} (hr : r ∉ [main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94]) : after w15 V r = V r :=
  after_of_writes_sub w15 V (forall_writes_sub_of_map rfl) hr
theorem w16_keep (V : Valuation τ sig (Elt F)) {r : Ref sig .tc} (hr : r ∉ [main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101]) : after w16 V r = V r :=
  after_of_writes_sub w16 V (forall_writes_sub_of_map rfl) hr
theorem w17_keep (V : Valuation τ sig (Elt F)) {r : Ref sig .tc} (hr : r ∉ [main_call1_call0_call0_v102, main_call1_call0_call0_v103, main_call1_call0_call0_v104, main_call1_call0_call0_v105, main_call1_call0_call0_c_26, main_call1_call0_call0_v106, main_call1_call0_call0_v107]) : after w17 V r = V r :=
  after_of_writes_sub w17 V (forall_writes_sub_of_map rfl) hr
theorem w18_keep (V : Valuation τ sig (Elt F)) {r : Ref sig .tc} (hr : r ∉ [main_call1_call0_call0_v108, main_call1_call0_call0_c_27, main_call1_call0_call0_v109, main_call1_call0_call0_v110, main_call1_call0_call0_c_28, main_call1_call0_call0_v111, main_call1_call0_call0_v112, main_call1_call0_call0_v113, main_call1_call0_call0_v114]) : after w18 V r = V r :=
  after_of_writes_sub w18 V (forall_writes_sub_of_map rfl) hr
theorem w19_keep (V : Valuation τ sig (Elt F)) {r : Ref sig .tc} (hr : r ∉ [main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121]) : after w19 V r = V r :=
  after_of_writes_sub w19 V (forall_writes_sub_of_map rfl) hr
theorem w20_keep (V : Valuation τ sig (Elt F)) {r : Ref sig .tc} (hr : r ∉ [main_call1_call0_call0_v122, main_call1_call0_call0_c_31, main_call1_call0_call0_v123, main_call1_call0_call0_v124, main_call1_call0_call0_c_32, main_call1_call0_call0_v125, main_call1_call0_call0_v126, main_call1_call0_call0_v127, main_call1_call0_call0_v128]) : after w20 V r = V r :=
  after_of_writes_sub w20 V (forall_writes_sub_of_map rfl) hr
theorem w21_keep (V : Valuation τ sig (Elt F)) {r : Ref sig .tc} (hr : r ∉ [main_call1_call0_call0_v129, main_call1_call0_call0_c_33, main_call1_call0_call0_v130, main_call1_call0_call0_v131, main_call1_call0_call0_c_34, main_call1_call0_call0_v132, main_call1_call0_call0_v133, main_call1_call0_call0_v134, main_call1_call0_call0_v135]) : after w21 V r = V r :=
  after_of_writes_sub w21 V (forall_writes_sub_of_map rfl) hr
theorem w22_keep (V : Valuation τ sig (Elt F)) {r : Ref sig .tc} (hr : r ∉ [main_call1_call0_call0_v136, main_call1_call0_call0_v137, main_call1_call0_call0_v138, main_call1_call0_call0_v139, main_call1_call0_call0_c_35, main_call1_call0_call0_v140, main_call1_call0_call0_v141]) : after w22 V r = V r :=
  after_of_writes_sub w22 V (forall_writes_sub_of_map rfl) hr
theorem w23_keep (V : Valuation τ sig (Elt F)) {r : Ref sig .tc} (hr : r ∉ [main_call1_call0_call0_v142, main_call1_call0_call0_c_36, main_call1_call0_call0_v143, main_call1_call0_call0_v144, main_call1_call0_call0_c_37, main_call1_call0_call0_v145, main_call1_call0_call0_v146, main_call1_call0_call0_v147, main_call1_call0_call0_v148]) : after w23 V r = V r :=
  after_of_writes_sub w23 V (forall_writes_sub_of_map rfl) hr
theorem w24_keep (V : Valuation τ sig (Elt F)) {r : Ref sig .tc} (hr : r ∉ [main_call1_call0_call0_v149, main_call1_call0_call0_c_38, main_call1_call0_call0_v150, main_call1_call0_call0_v151, main_call1_call0_call0_c_39, main_call1_call0_call0_v152, main_call1_call0_call0_v153, main_call1_call0_call0_v154, main_call1_call0_call0_v155]) : after w24 V r = V r :=
  after_of_writes_sub w24 V (forall_writes_sub_of_map rfl) hr
theorem w25_keep (V : Valuation τ sig (Elt F)) {r : Ref sig .tc} (hr : r ∉ [main_call1_call0_call0_v156, main_call1_call0_call0_c_40, main_call1_call0_call0_v157, main_call1_call0_call0_v158, main_call1_call0_call0_c_41, main_call1_call0_call0_v159, main_call1_call0_call0_v160, main_call1_call0_call0_v161, main_call1_call0_call0_v162]) : after w25 V r = V r :=
  after_of_writes_sub w25 V (forall_writes_sub_of_map rfl) hr
theorem w26_keep (V : Valuation τ sig (Elt F)) {r : Ref sig .tc} (hr : r ∉ [main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169]) : after w26 V r = V r :=
  after_of_writes_sub w26 V (forall_writes_sub_of_map rfl) hr
theorem w27_keep (V : Valuation τ sig (Elt F)) {r : Ref sig .tc} (hr : r ∉ [main_call1_call0_call0_v170, main_call1_call0_v18_0, main_call1_call0_call0_v172, main_call1_call0_call0_v173, main_call1_call0_call0_c_44, main_call1_call0_call0_v174, main_call1_call0_v18_1]) : after w27 V r = V r :=
  after_of_writes_sub w27 V (forall_writes_sub_of_map rfl) hr
theorem w28_keep (V : Valuation τ sig (Elt F)) {r : Ref sig .tc} (hr : r ∉ [main_call1_call0_v19, main_call1_call0_c_2, main_call1_call0_v20, main_call1_call0_v21, main_call1_call0_c_3, main_call1_call0_v22, main_call1_call0_v23, main_call1_call0_v24, main_call1_call0_cst, main_call1_call0_v25, main_call1_call0_v26, main_call1_call0_v27, main_call1_call0_v28, main_call1_call0_v29, main_call1_call0_v30, main_call1_call0_v31, main_call1_call0_v32, main_call1_v0, main_call1_v1, main_call1_v2, main_call1_v3, main_v23]) : after w28 V r = V r :=
  after_of_writes_sub w28 V (forall_writes_sub_of_map rfl) hr
theorem w29_keep (V : Valuation τ sig (Elt F)) {r : Ref sig .tc} (hr : r ∉ [main_v24, main_call2_v0, main_call2_cst, main_call2_c, main_call2_v1_0, main_v25, main_v26, main_call3_c, main_call3_v0, main_call3_v1, main_call3_c_0, main_call3_v2, main_call3_v3, main_call3_v4, main_call3_c_1, main_call3_c_2, main_call3_v5, main_call3_v6, main_call3_v7, main_call3_v8, main_call3_v9, main_call3_c_3, main_call3_v10, main_call3_v11, main_call3_v12, main_call3_cst, main_call3_v13, main_v27, main_v28, main_v29, main_v30, main_v31, main_v32]) : after w29 V r = V r :=
  after_of_writes_sub w29 V (forall_writes_sub_of_map rfl) hr

theorem w2_val (V : Valuation τ sig (Elt F)) (h0 : V main_call1_call0_v4 = key0 F) (h1 : V main_call1_call0_v6 = key1 F) (ho : V main_call1_call0_v2 = one F) (ht : V main_call1_call0_v1 = tiny F) (hh : V main_call1_call0_v17 = hi F) (hl : V main_call1_call0_v16 = lo F) :
    Keys (after w2 V) ∧ after w2 V main_call1_call0_call0_v3 = (s1 F).1 ∧ after w2 V main_call1_call0_call0_v5 = (s1 F).2 := by
  refine ⟨⟨(w2_keep V (by decide)).trans h0, (w2_keep V (by decide)).trans h1, ?_, (w2_keep V (by decide)).trans ho, (w2_keep V (by decide)).trans ht⟩, ?_, ?_⟩
  · unfold w2; after_results_simp; rw [h0, h1]; rfl
  · unfold w2; after_results_simp; rw [hh, h0]; rfl
  · unfold w2; after_results_simp; rw [hl, h1]; rfl

theorem w3_val (V : Valuation τ sig (Elt F)) (h : Keys V ∧ V main_call1_call0_call0_v3 = (s1 F).1 ∧ V main_call1_call0_call0_v5 = (s1 F).2) :
    Keys (after w3 V) ∧ after w3 V main_call1_call0_call0_v6 = (s2 F).1 ∧ after w3 V main_call1_call0_call0_v12 = (s2 F).2 := by
  obtain ⟨⟨h0, h1, h2, ho, ht⟩, hx, hy⟩ := h
  refine ⟨⟨(w3_keep V (by decide)).trans h0, (w3_keep V (by decide)).trans h1, (w3_keep V (by decide)).trans h2, (w3_keep V (by decide)).trans ho, (w3_keep V (by decide)).trans ht⟩, ?_, ?_⟩
  · unfold w3; after_results_simp; rw [hx, hy]; rfl
  · unfold w3; after_results_simp; rw [hx, hy]; rfl

theorem w4_val (V : Valuation τ sig (Elt F)) (h : Keys V ∧ V main_call1_call0_call0_v6 = (s2 F).1 ∧ V main_call1_call0_call0_v12 = (s2 F).2) :
    Keys (after w4 V) ∧ after w4 V main_call1_call0_call0_v13 = (s3 F).1 ∧ after w4 V main_call1_call0_call0_v19 = (s3 F).2 := by
  obtain ⟨⟨h0, h1, h2, ho, ht⟩, hx, hy⟩ := h
  refine ⟨⟨(w4_keep V (by decide)).trans h0, (w4_keep V (by decide)).trans h1, (w4_keep V (by decide)).trans h2, (w4_keep V (by decide)).trans ho, (w4_keep V (by decide)).trans ht⟩, ?_, ?_⟩
  · unfold w4; after_results_simp; rw [hx, hy]; rfl
  · unfold w4; after_results_simp; rw [hx, hy]; rfl

theorem w5_val (V : Valuation τ sig (Elt F)) (h : Keys V ∧ V main_call1_call0_call0_v13 = (s3 F).1 ∧ V main_call1_call0_call0_v19 = (s3 F).2) :
    Keys (after w5 V) ∧ after w5 V main_call1_call0_call0_v20 = (s4 F).1 ∧ after w5 V main_call1_call0_call0_v26 = (s4 F).2 := by
  obtain ⟨⟨h0, h1, h2, ho, ht⟩, hx, hy⟩ := h
  refine ⟨⟨(w5_keep V (by decide)).trans h0, (w5_keep V (by decide)).trans h1, (w5_keep V (by decide)).trans h2, (w5_keep V (by decide)).trans ho, (w5_keep V (by decide)).trans ht⟩, ?_, ?_⟩
  · unfold w5; after_results_simp; rw [hx, hy]; rfl
  · unfold w5; after_results_simp; rw [hx, hy]; rfl

theorem w6_val (V : Valuation τ sig (Elt F)) (h : Keys V ∧ V main_call1_call0_call0_v20 = (s4 F).1 ∧ V main_call1_call0_call0_v26 = (s4 F).2) :
    Keys (after w6 V) ∧ after w6 V main_call1_call0_call0_v27 = (s5 F).1 ∧ after w6 V main_call1_call0_call0_v33 = (s5 F).2 := by
  obtain ⟨⟨h0, h1, h2, ho, ht⟩, hx, hy⟩ := h
  refine ⟨⟨(w6_keep V (by decide)).trans h0, (w6_keep V (by decide)).trans h1, (w6_keep V (by decide)).trans h2, (w6_keep V (by decide)).trans ho, (w6_keep V (by decide)).trans ht⟩, ?_, ?_⟩
  · unfold w6; after_results_simp; rw [hx, hy]; rfl
  · unfold w6; after_results_simp; rw [hx, hy]; rfl

theorem w7_val (V : Valuation τ sig (Elt F)) (h : Keys V ∧ V main_call1_call0_call0_v27 = (s5 F).1 ∧ V main_call1_call0_call0_v33 = (s5 F).2) :
    Keys (after w7 V) ∧ after w7 V main_call1_call0_call0_v35 = (s6 F).1 ∧ after w7 V main_call1_call0_call0_v39 = (s6 F).2 := by
  obtain ⟨⟨h0, h1, h2, ho, ht⟩, hx, hy⟩ := h
  refine ⟨⟨(w7_keep V (by decide)).trans h0, (w7_keep V (by decide)).trans h1, (w7_keep V (by decide)).trans h2, (w7_keep V (by decide)).trans ho, (w7_keep V (by decide)).trans ht⟩, ?_, ?_⟩
  · unfold w7; after_results_simp; rw [hx, h1]; rfl
  · unfold w7; after_results_simp; rw [hy, h2]; rfl

theorem w8_val (V : Valuation τ sig (Elt F)) (h : Keys V ∧ V main_call1_call0_call0_v35 = (s6 F).1 ∧ V main_call1_call0_call0_v39 = (s6 F).2) :
    Keys (after w8 V) ∧ after w8 V main_call1_call0_call0_v40 = (s7 F).1 ∧ after w8 V main_call1_call0_call0_v46 = (s7 F).2 := by
  obtain ⟨⟨h0, h1, h2, ho, ht⟩, hx, hy⟩ := h
  refine ⟨⟨(w8_keep V (by decide)).trans h0, (w8_keep V (by decide)).trans h1, (w8_keep V (by decide)).trans h2, (w8_keep V (by decide)).trans ho, (w8_keep V (by decide)).trans ht⟩, ?_, ?_⟩
  · unfold w8; after_results_simp; rw [hx, hy]; rfl
  · unfold w8; after_results_simp; rw [hx, hy]; rfl

theorem w9_val (V : Valuation τ sig (Elt F)) (h : Keys V ∧ V main_call1_call0_call0_v40 = (s7 F).1 ∧ V main_call1_call0_call0_v46 = (s7 F).2) :
    Keys (after w9 V) ∧ after w9 V main_call1_call0_call0_v47 = (s8 F).1 ∧ after w9 V main_call1_call0_call0_v53 = (s8 F).2 := by
  obtain ⟨⟨h0, h1, h2, ho, ht⟩, hx, hy⟩ := h
  refine ⟨⟨(w9_keep V (by decide)).trans h0, (w9_keep V (by decide)).trans h1, (w9_keep V (by decide)).trans h2, (w9_keep V (by decide)).trans ho, (w9_keep V (by decide)).trans ht⟩, ?_, ?_⟩
  · unfold w9; after_results_simp; rw [hx, hy]; rfl
  · unfold w9; after_results_simp; rw [hx, hy]; rfl

theorem w10_val (V : Valuation τ sig (Elt F)) (h : Keys V ∧ V main_call1_call0_call0_v47 = (s8 F).1 ∧ V main_call1_call0_call0_v53 = (s8 F).2) :
    Keys (after w10 V) ∧ after w10 V main_call1_call0_call0_v54 = (s9 F).1 ∧ after w10 V main_call1_call0_call0_v60 = (s9 F).2 := by
  obtain ⟨⟨h0, h1, h2, ho, ht⟩, hx, hy⟩ := h
  refine ⟨⟨(w10_keep V (by decide)).trans h0, (w10_keep V (by decide)).trans h1, (w10_keep V (by decide)).trans h2, (w10_keep V (by decide)).trans ho, (w10_keep V (by decide)).trans ht⟩, ?_, ?_⟩
  · unfold w10; after_results_simp; rw [hx, hy]; rfl
  · unfold w10; after_results_simp; rw [hx, hy]; rfl

theorem w11_val (V : Valuation τ sig (Elt F)) (h : Keys V ∧ V main_call1_call0_call0_v54 = (s9 F).1 ∧ V main_call1_call0_call0_v60 = (s9 F).2) :
    Keys (after w11 V) ∧ after w11 V main_call1_call0_call0_v61 = (s10 F).1 ∧ after w11 V main_call1_call0_call0_v67 = (s10 F).2 := by
  obtain ⟨⟨h0, h1, h2, ho, ht⟩, hx, hy⟩ := h
  refine ⟨⟨(w11_keep V (by decide)).trans h0, (w11_keep V (by decide)).trans h1, (w11_keep V (by decide)).trans h2, (w11_keep V (by decide)).trans ho, (w11_keep V (by decide)).trans ht⟩, ?_, ?_⟩
  · unfold w11; after_results_simp; rw [hx, hy]; rfl
  · unfold w11; after_results_simp; rw [hx, hy]; rfl

theorem w12_val (V : Valuation τ sig (Elt F)) (h : Keys V ∧ V main_call1_call0_call0_v61 = (s10 F).1 ∧ V main_call1_call0_call0_v67 = (s10 F).2) :
    Keys (after w12 V) ∧ after w12 V main_call1_call0_call0_v69 = (s11 F).1 ∧ after w12 V main_call1_call0_call0_v73 = (s11 F).2 := by
  obtain ⟨⟨h0, h1, h2, ho, ht⟩, hx, hy⟩ := h
  refine ⟨⟨(w12_keep V (by decide)).trans h0, (w12_keep V (by decide)).trans h1, (w12_keep V (by decide)).trans h2, (w12_keep V (by decide)).trans ho, (w12_keep V (by decide)).trans ht⟩, ?_, ?_⟩
  · unfold w12; after_results_simp; rw [hx, h2]; rfl
  · unfold w12; after_results_simp; rw [hy, h0]; rfl

theorem w13_val (V : Valuation τ sig (Elt F)) (h : Keys V ∧ V main_call1_call0_call0_v69 = (s11 F).1 ∧ V main_call1_call0_call0_v73 = (s11 F).2) :
    Keys (after w13 V) ∧ after w13 V main_call1_call0_call0_v74 = (s12 F).1 ∧ after w13 V main_call1_call0_call0_v80 = (s12 F).2 := by
  obtain ⟨⟨h0, h1, h2, ho, ht⟩, hx, hy⟩ := h
  refine ⟨⟨(w13_keep V (by decide)).trans h0, (w13_keep V (by decide)).trans h1, (w13_keep V (by decide)).trans h2, (w13_keep V (by decide)).trans ho, (w13_keep V (by decide)).trans ht⟩, ?_, ?_⟩
  · unfold w13; after_results_simp; rw [hx, hy]; rfl
  · unfold w13; after_results_simp; rw [hx, hy]; rfl

theorem w14_val (V : Valuation τ sig (Elt F)) (h : Keys V ∧ V main_call1_call0_call0_v74 = (s12 F).1 ∧ V main_call1_call0_call0_v80 = (s12 F).2) :
    Keys (after w14 V) ∧ after w14 V main_call1_call0_call0_v81 = (s13 F).1 ∧ after w14 V main_call1_call0_call0_v87 = (s13 F).2 := by
  obtain ⟨⟨h0, h1, h2, ho, ht⟩, hx, hy⟩ := h
  refine ⟨⟨(w14_keep V (by decide)).trans h0, (w14_keep V (by decide)).trans h1, (w14_keep V (by decide)).trans h2, (w14_keep V (by decide)).trans ho, (w14_keep V (by decide)).trans ht⟩, ?_, ?_⟩
  · unfold w14; after_results_simp; rw [hx, hy]; rfl
  · unfold w14; after_results_simp; rw [hx, hy]; rfl

theorem w15_val (V : Valuation τ sig (Elt F)) (h : Keys V ∧ V main_call1_call0_call0_v81 = (s13 F).1 ∧ V main_call1_call0_call0_v87 = (s13 F).2) :
    Keys (after w15 V) ∧ after w15 V main_call1_call0_call0_v88 = (s14 F).1 ∧ after w15 V main_call1_call0_call0_v94 = (s14 F).2 := by
  obtain ⟨⟨h0, h1, h2, ho, ht⟩, hx, hy⟩ := h
  refine ⟨⟨(w15_keep V (by decide)).trans h0, (w15_keep V (by decide)).trans h1, (w15_keep V (by decide)).trans h2, (w15_keep V (by decide)).trans ho, (w15_keep V (by decide)).trans ht⟩, ?_, ?_⟩
  · unfold w15; after_results_simp; rw [hx, hy]; rfl
  · unfold w15; after_results_simp; rw [hx, hy]; rfl

theorem w16_val (V : Valuation τ sig (Elt F)) (h : Keys V ∧ V main_call1_call0_call0_v88 = (s14 F).1 ∧ V main_call1_call0_call0_v94 = (s14 F).2) :
    Keys (after w16 V) ∧ after w16 V main_call1_call0_call0_v95 = (s15 F).1 ∧ after w16 V main_call1_call0_call0_v101 = (s15 F).2 := by
  obtain ⟨⟨h0, h1, h2, ho, ht⟩, hx, hy⟩ := h
  refine ⟨⟨(w16_keep V (by decide)).trans h0, (w16_keep V (by decide)).trans h1, (w16_keep V (by decide)).trans h2, (w16_keep V (by decide)).trans ho, (w16_keep V (by decide)).trans ht⟩, ?_, ?_⟩
  · unfold w16; after_results_simp; rw [hx, hy]; rfl
  · unfold w16; after_results_simp; rw [hx, hy]; rfl

theorem w17_val (V : Valuation τ sig (Elt F)) (h : Keys V ∧ V main_call1_call0_call0_v95 = (s15 F).1 ∧ V main_call1_call0_call0_v101 = (s15 F).2) :
    Keys (after w17 V) ∧ after w17 V main_call1_call0_call0_v103 = (s16 F).1 ∧ after w17 V main_call1_call0_call0_v107 = (s16 F).2 := by
  obtain ⟨⟨h0, h1, h2, ho, ht⟩, hx, hy⟩ := h
  refine ⟨⟨(w17_keep V (by decide)).trans h0, (w17_keep V (by decide)).trans h1, (w17_keep V (by decide)).trans h2, (w17_keep V (by decide)).trans ho, (w17_keep V (by decide)).trans ht⟩, ?_, ?_⟩
  · unfold w17; after_results_simp; rw [hx, h0]; rfl
  · unfold w17; after_results_simp; rw [hy, h1]; rfl

theorem w18_val (V : Valuation τ sig (Elt F)) (h : Keys V ∧ V main_call1_call0_call0_v103 = (s16 F).1 ∧ V main_call1_call0_call0_v107 = (s16 F).2) :
    Keys (after w18 V) ∧ after w18 V main_call1_call0_call0_v108 = (s17 F).1 ∧ after w18 V main_call1_call0_call0_v114 = (s17 F).2 := by
  obtain ⟨⟨h0, h1, h2, ho, ht⟩, hx, hy⟩ := h
  refine ⟨⟨(w18_keep V (by decide)).trans h0, (w18_keep V (by decide)).trans h1, (w18_keep V (by decide)).trans h2, (w18_keep V (by decide)).trans ho, (w18_keep V (by decide)).trans ht⟩, ?_, ?_⟩
  · unfold w18; after_results_simp; rw [hx, hy]; rfl
  · unfold w18; after_results_simp; rw [hx, hy]; rfl

theorem w19_val (V : Valuation τ sig (Elt F)) (h : Keys V ∧ V main_call1_call0_call0_v108 = (s17 F).1 ∧ V main_call1_call0_call0_v114 = (s17 F).2) :
    Keys (after w19 V) ∧ after w19 V main_call1_call0_call0_v115 = (s18 F).1 ∧ after w19 V main_call1_call0_call0_v121 = (s18 F).2 := by
  obtain ⟨⟨h0, h1, h2, ho, ht⟩, hx, hy⟩ := h
  refine ⟨⟨(w19_keep V (by decide)).trans h0, (w19_keep V (by decide)).trans h1, (w19_keep V (by decide)).trans h2, (w19_keep V (by decide)).trans ho, (w19_keep V (by decide)).trans ht⟩, ?_, ?_⟩
  · unfold w19; after_results_simp; rw [hx, hy]; rfl
  · unfold w19; after_results_simp; rw [hx, hy]; rfl

theorem w20_val (V : Valuation τ sig (Elt F)) (h : Keys V ∧ V main_call1_call0_call0_v115 = (s18 F).1 ∧ V main_call1_call0_call0_v121 = (s18 F).2) :
    Keys (after w20 V) ∧ after w20 V main_call1_call0_call0_v122 = (s19 F).1 ∧ after w20 V main_call1_call0_call0_v128 = (s19 F).2 := by
  obtain ⟨⟨h0, h1, h2, ho, ht⟩, hx, hy⟩ := h
  refine ⟨⟨(w20_keep V (by decide)).trans h0, (w20_keep V (by decide)).trans h1, (w20_keep V (by decide)).trans h2, (w20_keep V (by decide)).trans ho, (w20_keep V (by decide)).trans ht⟩, ?_, ?_⟩
  · unfold w20; after_results_simp; rw [hx, hy]; rfl
  · unfold w20; after_results_simp; rw [hx, hy]; rfl

theorem w21_val (V : Valuation τ sig (Elt F)) (h : Keys V ∧ V main_call1_call0_call0_v122 = (s19 F).1 ∧ V main_call1_call0_call0_v128 = (s19 F).2) :
    Keys (after w21 V) ∧ after w21 V main_call1_call0_call0_v129 = (s20 F).1 ∧ after w21 V main_call1_call0_call0_v135 = (s20 F).2 := by
  obtain ⟨⟨h0, h1, h2, ho, ht⟩, hx, hy⟩ := h
  refine ⟨⟨(w21_keep V (by decide)).trans h0, (w21_keep V (by decide)).trans h1, (w21_keep V (by decide)).trans h2, (w21_keep V (by decide)).trans ho, (w21_keep V (by decide)).trans ht⟩, ?_, ?_⟩
  · unfold w21; after_results_simp; rw [hx, hy]; rfl
  · unfold w21; after_results_simp; rw [hx, hy]; rfl

theorem w22_val (V : Valuation τ sig (Elt F)) (h : Keys V ∧ V main_call1_call0_call0_v129 = (s20 F).1 ∧ V main_call1_call0_call0_v135 = (s20 F).2) :
    Keys (after w22 V) ∧ after w22 V main_call1_call0_call0_v137 = (s21 F).1 ∧ after w22 V main_call1_call0_call0_v141 = (s21 F).2 := by
  obtain ⟨⟨h0, h1, h2, ho, ht⟩, hx, hy⟩ := h
  refine ⟨⟨(w22_keep V (by decide)).trans h0, (w22_keep V (by decide)).trans h1, (w22_keep V (by decide)).trans h2, (w22_keep V (by decide)).trans ho, (w22_keep V (by decide)).trans ht⟩, ?_, ?_⟩
  · unfold w22; after_results_simp; rw [hx, h1]; rfl
  · unfold w22; after_results_simp; rw [hy, h2]; rfl

theorem w23_val (V : Valuation τ sig (Elt F)) (h : Keys V ∧ V main_call1_call0_call0_v137 = (s21 F).1 ∧ V main_call1_call0_call0_v141 = (s21 F).2) :
    Keys (after w23 V) ∧ after w23 V main_call1_call0_call0_v142 = (s22 F).1 ∧ after w23 V main_call1_call0_call0_v148 = (s22 F).2 := by
  obtain ⟨⟨h0, h1, h2, ho, ht⟩, hx, hy⟩ := h
  refine ⟨⟨(w23_keep V (by decide)).trans h0, (w23_keep V (by decide)).trans h1, (w23_keep V (by decide)).trans h2, (w23_keep V (by decide)).trans ho, (w23_keep V (by decide)).trans ht⟩, ?_, ?_⟩
  · unfold w23; after_results_simp; rw [hx, hy]; rfl
  · unfold w23; after_results_simp; rw [hx, hy]; rfl

theorem w24_val (V : Valuation τ sig (Elt F)) (h : Keys V ∧ V main_call1_call0_call0_v142 = (s22 F).1 ∧ V main_call1_call0_call0_v148 = (s22 F).2) :
    Keys (after w24 V) ∧ after w24 V main_call1_call0_call0_v149 = (s23 F).1 ∧ after w24 V main_call1_call0_call0_v155 = (s23 F).2 := by
  obtain ⟨⟨h0, h1, h2, ho, ht⟩, hx, hy⟩ := h
  refine ⟨⟨(w24_keep V (by decide)).trans h0, (w24_keep V (by decide)).trans h1, (w24_keep V (by decide)).trans h2, (w24_keep V (by decide)).trans ho, (w24_keep V (by decide)).trans ht⟩, ?_, ?_⟩
  · unfold w24; after_results_simp; rw [hx, hy]; rfl
  · unfold w24; after_results_simp; rw [hx, hy]; rfl

theorem w25_val (V : Valuation τ sig (Elt F)) (h : Keys V ∧ V main_call1_call0_call0_v149 = (s23 F).1 ∧ V main_call1_call0_call0_v155 = (s23 F).2) :
    Keys (after w25 V) ∧ after w25 V main_call1_call0_call0_v156 = (s24 F).1 ∧ after w25 V main_call1_call0_call0_v162 = (s24 F).2 := by
  obtain ⟨⟨h0, h1, h2, ho, ht⟩, hx, hy⟩ := h
  refine ⟨⟨(w25_keep V (by decide)).trans h0, (w25_keep V (by decide)).trans h1, (w25_keep V (by decide)).trans h2, (w25_keep V (by decide)).trans ho, (w25_keep V (by decide)).trans ht⟩, ?_, ?_⟩
  · unfold w25; after_results_simp; rw [hx, hy]; rfl
  · unfold w25; after_results_simp; rw [hx, hy]; rfl

theorem w26_val (V : Valuation τ sig (Elt F)) (h : Keys V ∧ V main_call1_call0_call0_v156 = (s24 F).1 ∧ V main_call1_call0_call0_v162 = (s24 F).2) :
    Keys (after w26 V) ∧ after w26 V main_call1_call0_call0_v163 = (s25 F).1 ∧ after w26 V main_call1_call0_call0_v169 = (s25 F).2 := by
  obtain ⟨⟨h0, h1, h2, ho, ht⟩, hx, hy⟩ := h
  refine ⟨⟨(w26_keep V (by decide)).trans h0, (w26_keep V (by decide)).trans h1, (w26_keep V (by decide)).trans h2, (w26_keep V (by decide)).trans ho, (w26_keep V (by decide)).trans ht⟩, ?_, ?_⟩
  · unfold w26; after_results_simp; rw [hx, hy]; rfl
  · unfold w26; after_results_simp; rw [hx, hy]; rfl

theorem w27_val (V : Valuation τ sig (Elt F)) (h : Keys V ∧ V main_call1_call0_call0_v163 = (s25 F).1 ∧ V main_call1_call0_call0_v169 = (s25 F).2) :
    Keys (after w27 V) ∧ after w27 V main_call1_call0_v18_0 = (s26 F).1 ∧ after w27 V main_call1_call0_v18_1 = (s26 F).2 := by
  obtain ⟨⟨h0, h1, h2, ho, ht⟩, hx, hy⟩ := h
  refine ⟨⟨(w27_keep V (by decide)).trans h0, (w27_keep V (by decide)).trans h1, (w27_keep V (by decide)).trans h2, (w27_keep V (by decide)).trans ho, (w27_keep V (by decide)).trans ht⟩, ?_, ?_⟩
  · unfold w27; after_results_simp; rw [hx, h2]; rfl
  · unfold w27; after_results_simp; rw [hy, h0]; rfl

theorem w1_val (V : Valuation τ sig (Elt F)) :
    after w1 V main_call1_call0_v4 = key0 F ∧ after w1 V main_call1_call0_v6 = key1 F ∧ after w1 V main_call1_call0_v2 = one F ∧ after w1 V main_call1_call0_v1 = tiny F
      ∧ after w1 V main_call1_call0_v17 = hi F ∧ after w1 V main_call1_call0_v16 = lo F := by
  refine ⟨?_, ?_, ?_, ?_, ?_, ?_⟩ <;> (unfold w1; after_results_simp; rfl)

theorem w28_val (V : Valuation τ sig (Elt F)) (h : Keys V ∧ V main_call1_call0_v18_0 = (s26 F).1 ∧ V main_call1_call0_v18_1 = (s26 F).2) :
    after w28 V main_v23 = noise F := by
  obtain ⟨⟨h0, h1, h2, ho, ht⟩, hx, hy⟩ := h
  unfold w28; after_results_simp; rw [hx, hy, ho, ht]; rfl

theorem after_app (a b : List (HloOp τ sig (Elt F))) (V : Valuation τ sig (Elt F)) : after (a ++ b) V = after b (after a V) := by
  induction a generalizing V with
  | nil => rfl
  | cons op a ih => exact ih (op.result V)

/-- What the last operations read: the noise, the argument, and what the first operations left. -/
theorem ops_val (V : Valuation τ sig (Elt F)) : ∃ W : Valuation τ sig (Elt F),
    after ops V = after w29 W ∧ W main_v23 = noise F ∧ W main_arg0 = V main_arg0
      ∧ W main_v14 = after w0 V main_v14 ∧ W main_v15 = after w0 V main_v15 := by
  refine ⟨after w28 (after w27 (after w26 (after w25 (after w24 (after w23 (after w22 (after w21 (after w20 (after w19 (after w18 (after w17 (after w16 (after w15 (after w14 (after w13 (after w12 (after w11 (after w10 (after w9 (after w8 (after w7 (after w6 (after w5 (after w4 (after w3 (after w2 (after w1 (after w0 V)))))))))))))))))))))))))))), ?_, ?_, ?_, ?_, ?_⟩
  · unfold ops
    simp only [List.flatten_cons, List.flatten_nil, List.append_nil, after_app]
  · obtain ⟨h0, h1, ho, ht, hh, hl⟩ := w1_val (after w0 V)
    have h := w2_val _ h0 h1 ho ht hh hl
    have h := w3_val _ h
    have h := w4_val _ h
    have h := w5_val _ h
    have h := w6_val _ h
    have h := w7_val _ h
    have h := w8_val _ h
    have h := w9_val _ h
    have h := w10_val _ h
    have h := w11_val _ h
    have h := w12_val _ h
    have h := w13_val _ h
    have h := w14_val _ h
    have h := w15_val _ h
    have h := w16_val _ h
    have h := w17_val _ h
    have h := w18_val _ h
    have h := w19_val _ h
    have h := w20_val _ h
    have h := w21_val _ h
    have h := w22_val _ h
    have h := w23_val _ h
    have h := w24_val _ h
    have h := w25_val _ h
    have h := w26_val _ h
    have h := w27_val _ h
    exact w28_val _ h
  · exact (w28_keep _ (by decide)).trans <| (w27_keep _ (by decide)).trans <| (w26_keep _ (by decide)).trans <| (w25_keep _ (by decide)).trans <| (w24_keep _ (by decide)).trans <| (w23_keep _ (by decide)).trans <| (w22_keep _ (by decide)).trans <| (w21_keep _ (by decide)).trans <| (w20_keep _ (by decide)).trans <| (w19_keep _ (by decide)).trans <| (w18_keep _ (by decide)).trans <| (w17_keep _ (by decide)).trans <| (w16_keep _ (by decide)).trans <| (w15_keep _ (by decide)).trans <| (w14_keep _ (by decide)).trans <| (w13_keep _ (by decide)).trans <| (w12_keep _ (by decide)).trans <| (w11_keep _ (by decide)).trans <| (w10_keep _ (by decide)).trans <| (w9_keep _ (by decide)).trans <| (w8_keep _ (by decide)).trans <| (w7_keep _ (by decide)).trans <| (w6_keep _ (by decide)).trans <| (w5_keep _ (by decide)).trans <| (w4_keep _ (by decide)).trans <| (w3_keep _ (by decide)).trans <| (w2_keep _ (by decide)).trans <| (w1_keep _ (by decide)).trans <| (w0_keep _ (by decide)).trans <| rfl
  · exact (w28_keep _ (by decide)).trans <| (w27_keep _ (by decide)).trans <| (w26_keep _ (by decide)).trans <| (w25_keep _ (by decide)).trans <| (w24_keep _ (by decide)).trans <| (w23_keep _ (by decide)).trans <| (w22_keep _ (by decide)).trans <| (w21_keep _ (by decide)).trans <| (w20_keep _ (by decide)).trans <| (w19_keep _ (by decide)).trans <| (w18_keep _ (by decide)).trans <| (w17_keep _ (by decide)).trans <| (w16_keep _ (by decide)).trans <| (w15_keep _ (by decide)).trans <| (w14_keep _ (by decide)).trans <| (w13_keep _ (by decide)).trans <| (w12_keep _ (by decide)).trans <| (w11_keep _ (by decide)).trans <| (w10_keep _ (by decide)).trans <| (w9_keep _ (by decide)).trans <| (w8_keep _ (by decide)).trans <| (w7_keep _ (by decide)).trans <| (w6_keep _ (by decide)).trans <| (w5_keep _ (by decide)).trans <| (w4_keep _ (by decide)).trans <| (w3_keep _ (by decide)).trans <| (w2_keep _ (by decide)).trans <| (w1_keep _ (by decide)).trans <| rfl
  · exact (w28_keep _ (by decide)).trans <| (w27_keep _ (by decide)).trans <| (w26_keep _ (by decide)).trans <| (w25_keep _ (by decide)).trans <| (w24_keep _ (by decide)).trans <| (w23_keep _ (by decide)).trans <| (w22_keep _ (by decide)).trans <| (w21_keep _ (by decide)).trans <| (w20_keep _ (by decide)).trans <| (w19_keep _ (by decide)).trans <| (w18_keep _ (by decide)).trans <| (w17_keep _ (by decide)).trans <| (w16_keep _ (by decide)).trans <| (w15_keep _ (by decide)).trans <| (w14_keep _ (by decide)).trans <| (w13_keep _ (by decide)).trans <| (w12_keep _ (by decide)).trans <| (w11_keep _ (by decide)).trans <| (w10_keep _ (by decide)).trans <| (w9_keep _ (by decide)).trans <| (w8_keep _ (by decide)).trans <| (w7_keep _ (by decide)).trans <| (w6_keep _ (by decide)).trans <| (w5_keep _ (by decide)).trans <| (w4_keep _ (by decide)).trans <| (w3_keep _ (by decide)).trans <| (w2_keep _ (by decide)).trans <| (w1_keep _ (by decide)).trans <| rfl

theorem ops_keep (V : Valuation τ sig (Elt F)) : after ops V main_arg0 = V main_arg0 := by
  obtain ⟨W, h, _, ha, _⟩ := ops_val V
  rw [h]
  exact (w29_keep W (by decide)).trans ha

end Cert.Proof.Noise.Reference

end
-- ==== Proof.Frames.lean ====
/-
  The three frames: the kernel at machine floats and at extended reals, and the reference at extended reals.
-/
module

public import proofs.«01_k».proof.Proof.Main
public import proofs.«01_k».proof.Proof.Same
public import proofs.«01_k».proof.Proof.NoiseRef
public import Idealize.ShloMosaic.Lib.Quiescent

@[expose] public section

noncomputable section

namespace Cert.Proof.Run

open Idealize.ShloMosaic Idealize.ShloMosaic.TcCoe Idealize.ShloMosaic.StableHlo Idealize.SL Idealize.SL.Sem

variable {F : FTy → Type} [FloatOps F]

theorem mains : Cert.Kernel.main (F := F) = Cert.KernelIdeal.main (F := F) :=
  funext fun d => (Same.main_ops d).trans (Host.main_eq d).symm

theorem threads : Cert.Kernel.threads (F := F) = Cert.KernelIdeal.threads (F := F) :=
  congrArg (fun x => (Cert.KernelIdeal.sc (F := F)).threads x) mains

/-- What holds of the one text's runs holds of the other's. -/
theorem runs (s : MemSt Cert.KernelIdeal.nD Cert.KernelIdeal.τ Cert.KernelIdeal.sig (Elt F)) (Q)
    (h : θ_run (Cert.KernelIdeal.defs (F := F)) (Cert.KernelIdeal.threads (F := F)) s Q) :
    θ_run (Cert.Kernel.defs (F := F)) (Cert.Kernel.threads (F := F)) s Q := by
  rw [threads, Same.defs]
  exact h

/-- `Cert.quiescent_KernelIdeal`. -/
theorem frame_kernelIdeal : Cert.quiescent_KernelIdeal := fun m ρ _ =>
  (θ_run Cert.KernelIdeal.defs _ _).mono (fun _ h => ⟨fun c => (h.1 c).1, h.2⟩) (run_main (F := Ideal) m ρ)

/-- `Cert.quiescent_Kernel`. -/
theorem frame_kernel : Cert.quiescent_Kernel := fun m ρ _ =>
  runs _ _ ((θ_run Cert.KernelIdeal.defs _ _).mono (fun _ h => ⟨fun c => (h.1 c).1, h.2⟩) (run_main (F := Bits) m ρ))

section
open Cert.ReferenceIdeal

/-- The reference runs to what its operations leave. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after RefHost.ops (launchContents m d) (Proc.devRef .tc b) :=
  run_hlo _ _ RefHost.main_eq (by decide) (by decide) RefHost.ops_sub RefHost.ops_fresh m ρ

/-- `Cert.quiescent_ReferenceIdeal`. -/
theorem frame_referenceIdeal : Cert.quiescent_ReferenceIdeal := fun m ρ _ =>
  (θ_run (defs (F := Ideal)) _ _).mono
    (fun _ h => ⟨fun c => (h c main_arg0).trans (Noise.Reference.ops_keep (launchContents m c)), Idealize.ShloMosaic.sem_eq_zero_of_no_sems rfl _⟩) (run_ref m ρ)
end

end Cert.Proof.Run

end
-- ==== Proof.NoiseKernel.lean ====
/-
  What the operations before the SparseCore call leave: the noise, and the argument's elements in one row.
-/
module

public import proofs.«01_k».proof.Proof.Noise

@[expose] public section

noncomputable section

namespace Cert.Proof.Noise.Kernel

open Cert.KernelIdeal Cert.KernelIdeal.Gen
open Idealize.ShloMosaic Idealize.ShloMosaic.TcCoe Idealize.ShloMosaic.StableHlo
open Cert.Proof.Host

variable {F : FTy → Type} [FloatOps F]

/-- The keys and the two ends of the range, where the program holds them. -/
def Keys (V : Valuation τ sig (Elt F)) : Prop :=
  V main_call0_call0_v4 = key0 F ∧ V main_call0_call0_v6 = key1 F ∧ V main_call0_call0_call0_v1 = key2 F ∧ V main_call0_call0_v2 = one F ∧ V main_call0_call0_v1 = tiny F

theorem w0_keep (V : Valuation τ sig (Elt F)) {r : Ref sig .tc} (hr : r ∉ [main_v0, main_c, main_c_0, main_v1, main_v2, main_v3, main_c_1, main_v4, main_v5, main_v6, main_v7, main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_c_0, main_call0_call0_v11, main_call0_call0_v12, main_call0_call0_v13, main_call0_call0_c_1, main_call0_call0_v14, main_call0_call0_v15, main_call0_call0_v16, main_call0_call0_v17]) : after w0 V r = V r :=
  after_of_writes_sub w0 V (forall_writes_sub_of_map rfl) hr
theorem w1_keep (V : Valuation τ sig (Elt F)) {r : Ref sig .tc} (hr : r ∉ [main_call0_call0_call0_v0, main_call0_call0_call0_c, main_call0_call0_call0_v1, main_call0_call0_call0_v2, main_call0_call0_call0_v3, main_call0_call0_call0_v4, main_call0_call0_call0_v5]) : after w1 V r = V r :=
  after_of_writes_sub w1 V (forall_writes_sub_of_map rfl) hr
theorem w2_keep (V : Valuation τ sig (Elt F)) {r : Ref sig .tc} (hr : r ∉ [main_call0_call0_call0_v6, main_call0_call0_call0_c_0, main_call0_call0_call0_v7, main_call0_call0_call0_v8, main_call0_call0_call0_c_1, main_call0_call0_call0_v9, main_call0_call0_call0_v10, main_call0_call0_call0_v11, main_call0_call0_call0_v12]) : after w2 V r = V r :=
  after_of_writes_sub w2 V (forall_writes_sub_of_map rfl) hr
theorem w3_keep (V : Valuation τ sig (Elt F)) {r : Ref sig .tc} (hr : r ∉ [main_call0_call0_call0_v13, main_call0_call0_call0_c_2, main_call0_call0_call0_v14, main_call0_call0_call0_v15, main_call0_call0_call0_c_3, main_call0_call0_call0_v16, main_call0_call0_call0_v17, main_call0_call0_call0_v18, main_call0_call0_call0_v19]) : after w3 V r = V r :=
  after_of_writes_sub w3 V (forall_writes_sub_of_map rfl) hr
theorem w4_keep (V : Valuation τ sig (Elt F)) {r : Ref sig .tc} (hr : r ∉ [main_call0_call0_call0_v20, main_call0_call0_call0_c_4, main_call0_call0_call0_v21, main_call0_call0_call0_v22, main_call0_call0_call0_c_5, main_call0_call0_call0_v23, main_call0_call0_call0_v24, main_call0_call0_call0_v25, main_call0_call0_call0_v26]) : after w4 V r = V r :=
  after_of_writes_sub w4 V (forall_writes_sub_of_map rfl) hr
theorem w5_keep (V : Valuation τ sig (Elt F)) {r : Ref sig .tc} (hr : r ∉ [main_call0_call0_call0_v27, main_call0_call0_call0_c_6, main_call0_call0_call0_v28, main_call0_call0_call0_v29, main_call0_call0_call0_c_7, main_call0_call0_call0_v30, main_call0_call0_call0_v31, main_call0_call0_call0_v32, main_call0_call0_call0_v33]) : after w5 V r = V r :=
  after_of_writes_sub w5 V (forall_writes_sub_of_map rfl) hr
theorem w6_keep (V : Valuation τ sig (Elt F)) {r : Ref sig .tc} (hr : r ∉ [main_call0_call0_call0_v34, main_call0_call0_call0_v35, main_call0_call0_call0_v36, main_call0_call0_call0_v37, main_call0_call0_call0_c_8, main_call0_call0_call0_v38, main_call0_call0_call0_v39]) : after w6 V r = V r :=
  after_of_writes_sub w6 V (forall_writes_sub_of_map rfl) hr
theorem w7_keep (V : Valuation τ sig (Elt F)) {r : Ref sig .tc} (hr : r ∉ [main_call0_call0_call0_v40, main_call0_call0_call0_c_9, main_call0_call0_call0_v41, main_call0_call0_call0_v42, main_call0_call0_call0_c_10, main_call0_call0_call0_v43, main_call0_call0_call0_v44, main_call0_call0_call0_v45, main_call0_call0_call0_v46]) : after w7 V r = V r :=
  after_of_writes_sub w7 V (forall_writes_sub_of_map rfl) hr
theorem w8_keep (V : Valuation τ sig (Elt F)) {r : Ref sig .tc} (hr : r ∉ [main_call0_call0_call0_v47, main_call0_call0_call0_c_11, main_call0_call0_call0_v48, main_call0_call0_call0_v49, main_call0_call0_call0_c_12, main_call0_call0_call0_v50, main_call0_call0_call0_v51, main_call0_call0_call0_v52, main_call0_call0_call0_v53]) : after w8 V r = V r :=
  after_of_writes_sub w8 V (forall_writes_sub_of_map rfl) hr
theorem w9_keep (V : Valuation τ sig (Elt F)) {r : Ref sig .tc} (hr : r ∉ [main_call0_call0_call0_v54, main_call0_call0_call0_c_13, main_call0_call0_call0_v55, main_call0_call0_call0_v56, main_call0_call0_call0_c_14, main_call0_call0_call0_v57, main_call0_call0_call0_v58, main_call0_call0_call0_v59, main_call0_call0_call0_v60]) : after w9 V r = V r :=
  after_of_writes_sub w9 V (forall_writes_sub_of_map rfl) hr
theorem w10_keep (V : Valuation τ sig (Elt F)) {r : Ref sig .tc} (hr : r ∉ [main_call0_call0_call0_v61, main_call0_call0_call0_c_15, main_call0_call0_call0_v62, main_call0_call0_call0_v63, main_call0_call0_call0_c_16, main_call0_call0_call0_v64, main_call0_call0_call0_v65, main_call0_call0_call0_v66, main_call0_call0_call0_v67]) : after w10 V r = V r :=
  after_of_writes_sub w10 V (forall_writes_sub_of_map rfl) hr
theorem w11_keep (V : Valuation τ sig (Elt F)) {r : Ref sig .tc} (hr : r ∉ [main_call0_call0_call0_v68, main_call0_call0_call0_v69, main_call0_call0_call0_v70, main_call0_call0_call0_v71, main_call0_call0_call0_c_17, main_call0_call0_call0_v72, main_call0_call0_call0_v73]) : after w11 V r = V r :=
  after_of_writes_sub w11 V (forall_writes_sub_of_map rfl) hr
theorem w12_keep (V : Valuation τ sig (Elt F)) {r : Ref sig .tc} (hr : r ∉ [main_call0_call0_call0_v74, main_call0_call0_call0_c_18, main_call0_call0_call0_v75, main_call0_call0_call0_v76, main_call0_call0_call0_c_19, main_call0_call0_call0_v77, main_call0_call0_call0_v78, main_call0_call0_call0_v79, main_call0_call0_call0_v80]) : after w12 V r = V r :=
  after_of_writes_sub w12 V (forall_writes_sub_of_map rfl) hr
theorem w13_keep (V : Valuation τ sig (Elt F)) {r : Ref sig .tc} (hr : r ∉ [main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87]) : after w13 V r = V r :=
  after_of_writes_sub w13 V (forall_writes_sub_of_map rfl) hr
theorem w14_keep (V : Valuation τ sig (Elt F)) {r : Ref sig .tc} (hr : r ∉ [main_call0_call0_call0_v88, main_call0_call0_call0_c_22, main_call0_call0_call0_v89, main_call0_call0_call0_v90, main_call0_call0_call0_c_23, main_call0_call0_call0_v91, main_call0_call0_call0_v92, main_call0_call0_call0_v93, main_call0_call0_call0_v94]) : after w14 V r = V r :=
  after_of_writes_sub w14 V (forall_writes_sub_of_map rfl) hr
theorem w15_keep (V : Valuation τ sig (Elt F)) {r : Ref sig .tc} (hr : r ∉ [main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101]) : after w15 V r = V r :=
  after_of_writes_sub w15 V (forall_writes_sub_of_map rfl) hr
theorem w16_keep (V : Valuation τ sig (Elt F)) {r : Ref sig .tc} (hr : r ∉ [main_call0_call0_call0_v102, main_call0_call0_call0_v103, main_call0_call0_call0_v104, main_call0_call0_call0_v105, main_call0_call0_call0_c_26, main_call0_call0_call0_v106, main_call0_call0_call0_v107]) : after w16 V r = V r :=
  after_of_writes_sub w16 V (forall_writes_sub_of_map rfl) hr
theorem w17_keep (V : Valuation τ sig (Elt F)) {r : Ref sig .tc} (hr : r ∉ [main_call0_call0_call0_v108, main_call0_call0_call0_c_27, main_call0_call0_call0_v109, main_call0_call0_call0_v110, main_call0_call0_call0_c_28, main_call0_call0_call0_v111, main_call0_call0_call0_v112, main_call0_call0_call0_v113, main_call0_call0_call0_v114]) : after w17 V r = V r :=
  after_of_writes_sub w17 V (forall_writes_sub_of_map rfl) hr
theorem w18_keep (V : Valuation τ sig (Elt F)) {r : Ref sig .tc} (hr : r ∉ [main_call0_call0_call0_v115, main_call0_call0_call0_c_29, main_call0_call0_call0_v116, main_call0_call0_call0_v117, main_call0_call0_call0_c_30, main_call0_call0_call0_v118, main_call0_call0_call0_v119, main_call0_call0_call0_v120, main_call0_call0_call0_v121]) : after w18 V r = V r :=
  after_of_writes_sub w18 V (forall_writes_sub_of_map rfl) hr
theorem w19_keep (V : Valuation τ sig (Elt F)) {r : Ref sig .tc} (hr : r ∉ [main_call0_call0_call0_v122, main_call0_call0_call0_c_31, main_call0_call0_call0_v123, main_call0_call0_call0_v124, main_call0_call0_call0_c_32, main_call0_call0_call0_v125, main_call0_call0_call0_v126, main_call0_call0_call0_v127, main_call0_call0_call0_v128]) : after w19 V r = V r :=
  after_of_writes_sub w19 V (forall_writes_sub_of_map rfl) hr
theorem w20_keep (V : Valuation τ sig (Elt F)) {r : Ref sig .tc} (hr : r ∉ [main_call0_call0_call0_v129, main_call0_call0_call0_c_33, main_call0_call0_call0_v130, main_call0_call0_call0_v131, main_call0_call0_call0_c_34, main_call0_call0_call0_v132, main_call0_call0_call0_v133, main_call0_call0_call0_v134, main_call0_call0_call0_v135]) : after w20 V r = V r :=
  after_of_writes_sub w20 V (forall_writes_sub_of_map rfl) hr
theorem w21_keep (V : Valuation τ sig (Elt F)) {r : Ref sig .tc} (hr : r ∉ [main_call0_call0_call0_v136, main_call0_call0_call0_v137, main_call0_call0_call0_v138, main_call0_call0_call0_v139, main_call0_call0_call0_c_35, main_call0_call0_call0_v140, main_call0_call0_call0_v141]) : after w21 V r = V r :=
  after_of_writes_sub w21 V (forall_writes_sub_of_map rfl) hr
theorem w22_keep (V : Valuation τ sig (Elt F)) {r : Ref sig .tc} (hr : r ∉ [main_call0_call0_call0_v142, main_call0_call0_call0_c_36, main_call0_call0_call0_v143, main_call0_call0_call0_v144, main_call0_call0_call0_c_37, main_call0_call0_call0_v145, main_call0_call0_call0_v146, main_call0_call0_call0_v147, main_call0_call0_call0_v148]) : after w22 V r = V r :=
  after_of_writes_sub w22 V (forall_writes_sub_of_map rfl) hr
theorem w23_keep (V : Valuation τ sig (Elt F)) {r : Ref sig .tc} (hr : r ∉ [main_call0_call0_call0_v149, main_call0_call0_call0_c_38, main_call0_call0_call0_v150, main_call0_call0_call0_v151, main_call0_call0_call0_c_39, main_call0_call0_call0_v152, main_call0_call0_call0_v153, main_call0_call0_call0_v154, main_call0_call0_call0_v155]) : after w23 V r = V r :=
  after_of_writes_sub w23 V (forall_writes_sub_of_map rfl) hr
theorem w24_keep (V : Valuation τ sig (Elt F)) {r : Ref sig .tc} (hr : r ∉ [main_call0_call0_call0_v156, main_call0_call0_call0_c_40, main_call0_call0_call0_v157, main_call0_call0_call0_v158, main_call0_call0_call0_c_41, main_call0_call0_call0_v159, main_call0_call0_call0_v160, main_call0_call0_call0_v161, main_call0_call0_call0_v162]) : after w24 V r = V r :=
  after_of_writes_sub w24 V (forall_writes_sub_of_map rfl) hr
theorem w25_keep (V : Valuation τ sig (Elt F)) {r : Ref sig .tc} (hr : r ∉ [main_call0_call0_call0_v163, main_call0_call0_call0_c_42, main_call0_call0_call0_v164, main_call0_call0_call0_v165, main_call0_call0_call0_c_43, main_call0_call0_call0_v166, main_call0_call0_call0_v167, main_call0_call0_call0_v168, main_call0_call0_call0_v169]) : after w25 V r = V r :=
  after_of_writes_sub w25 V (forall_writes_sub_of_map rfl) hr
theorem w26_keep (V : Valuation τ sig (Elt F)) {r : Ref sig .tc} (hr : r ∉ [main_call0_call0_call0_v170, main_call0_call0_v18_0, main_call0_call0_call0_v172, main_call0_call0_call0_v173, main_call0_call0_call0_c_44, main_call0_call0_call0_v174, main_call0_call0_v18_1]) : after w26 V r = V r :=
  after_of_writes_sub w26 V (forall_writes_sub_of_map rfl) hr
theorem w27_keep (V : Valuation τ sig (Elt F)) {r : Ref sig .tc} (hr : r ∉ [main_call0_call0_v19, main_call0_call0_c_2, main_call0_call0_v20, main_call0_call0_v21, main_call0_call0_c_3, main_call0_call0_v22, main_call0_call0_v23, main_call0_call0_v24, main_call0_call0_cst, main_call0_call0_v25, main_call0_call0_v26, main_call0_call0_v27, main_call0_call0_v28, main_call0_call0_v29, main_call0_call0_v30, main_call0_call0_v31, main_call0_call0_v32, main_call0_v0, main_call0_v1, main_call0_v2, main_call0_v3, main_v8, main_v9]) : after w27 V r = V r :=
  after_of_writes_sub w27 V (forall_writes_sub_of_map rfl) hr

theorem w1_val (V : Valuation τ sig (Elt F)) (h0 : V main_call0_call0_v4 = key0 F) (h1 : V main_call0_call0_v6 = key1 F) (ho : V main_call0_call0_v2 = one F) (ht : V main_call0_call0_v1 = tiny F) (hh : V main_call0_call0_v17 = hi F) (hl : V main_call0_call0_v16 = lo F) :
    Keys (after w1 V) ∧ after w1 V main_call0_call0_call0_v3 = (s1 F).1 ∧ after w1 V main_call0_call0_call0_v5 = (s1 F).2 := by
  refine ⟨⟨(w1_keep V (by decide)).trans h0, (w1_keep V (by decide)).trans h1, ?_, (w1_keep V (by decide)).trans ho, (w1_keep V (by decide)).trans ht⟩, ?_, ?_⟩
  · unfold w1; after_results_simp; rw [h0, h1]; rfl
  · unfold w1; after_results_simp; rw [hh, h0]; rfl
  · unfold w1; after_results_simp; rw [hl, h1]; rfl

theorem w2_val (V : Valuation τ sig (Elt F)) (h : Keys V ∧ V main_call0_call0_call0_v3 = (s1 F).1 ∧ V main_call0_call0_call0_v5 = (s1 F).2) :
    Keys (after w2 V) ∧ after w2 V main_call0_call0_call0_v6 = (s2 F).1 ∧ after w2 V main_call0_call0_call0_v12 = (s2 F).2 := by
  obtain ⟨⟨h0, h1, h2, ho, ht⟩, hx, hy⟩ := h
  refine ⟨⟨(w2_keep V (by decide)).trans h0, (w2_keep V (by decide)).trans h1, (w2_keep V (by decide)).trans h2, (w2_keep V (by decide)).trans ho, (w2_keep V (by decide)).trans ht⟩, ?_, ?_⟩
  · unfold w2; after_results_simp; rw [hx, hy]; rfl
  · unfold w2; after_results_simp; rw [hx, hy]; rfl

theorem w3_val (V : Valuation τ sig (Elt F)) (h : Keys V ∧ V main_call0_call0_call0_v6 = (s2 F).1 ∧ V main_call0_call0_call0_v12 = (s2 F).2) :
    Keys (after w3 V) ∧ after w3 V main_call0_call0_call0_v13 = (s3 F).1 ∧ after w3 V main_call0_call0_call0_v19 = (s3 F).2 := by
  obtain ⟨⟨h0, h1, h2, ho, ht⟩, hx, hy⟩ := h
  refine ⟨⟨(w3_keep V (by decide)).trans h0, (w3_keep V (by decide)).trans h1, (w3_keep V (by decide)).trans h2, (w3_keep V (by decide)).trans ho, (w3_keep V (by decide)).trans ht⟩, ?_, ?_⟩
  · unfold w3; after_results_simp; rw [hx, hy]; rfl
  · unfold w3; after_results_simp; rw [hx, hy]; rfl

theorem w4_val (V : Valuation τ sig (Elt F)) (h : Keys V ∧ V main_call0_call0_call0_v13 = (s3 F).1 ∧ V main_call0_call0_call0_v19 = (s3 F).2) :
    Keys (after w4 V) ∧ after w4 V main_call0_call0_call0_v20 = (s4 F).1 ∧ after w4 V main_call0_call0_call0_v26 = (s4 F).2 := by
  obtain ⟨⟨h0, h1, h2, ho, ht⟩, hx, hy⟩ := h
  refine ⟨⟨(w4_keep V (by decide)).trans h0, (w4_keep V (by decide)).trans h1, (w4_keep V (by decide)).trans h2, (w4_keep V (by decide)).trans ho, (w4_keep V (by decide)).trans ht⟩, ?_, ?_⟩
  · unfold w4; after_results_simp; rw [hx, hy]; rfl
  · unfold w4; after_results_simp; rw [hx, hy]; rfl

theorem w5_val (V : Valuation τ sig (Elt F)) (h : Keys V ∧ V main_call0_call0_call0_v20 = (s4 F).1 ∧ V main_call0_call0_call0_v26 = (s4 F).2) :
    Keys (after w5 V) ∧ after w5 V main_call0_call0_call0_v27 = (s5 F).1 ∧ after w5 V main_call0_call0_call0_v33 = (s5 F).2 := by
  obtain ⟨⟨h0, h1, h2, ho, ht⟩, hx, hy⟩ := h
  refine ⟨⟨(w5_keep V (by decide)).trans h0, (w5_keep V (by decide)).trans h1, (w5_keep V (by decide)).trans h2, (w5_keep V (by decide)).trans ho, (w5_keep V (by decide)).trans ht⟩, ?_, ?_⟩
  · unfold w5; after_results_simp; rw [hx, hy]; rfl
  · unfold w5; after_results_simp; rw [hx, hy]; rfl

theorem w6_val (V : Valuation τ sig (Elt F)) (h : Keys V ∧ V main_call0_call0_call0_v27 = (s5 F).1 ∧ V main_call0_call0_call0_v33 = (s5 F).2) :
    Keys (after w6 V) ∧ after w6 V main_call0_call0_call0_v35 = (s6 F).1 ∧ after w6 V main_call0_call0_call0_v39 = (s6 F).2 := by
  obtain ⟨⟨h0, h1, h2, ho, ht⟩, hx, hy⟩ := h
  refine ⟨⟨(w6_keep V (by decide)).trans h0, (w6_keep V (by decide)).trans h1, (w6_keep V (by decide)).trans h2, (w6_keep V (by decide)).trans ho, (w6_keep V (by decide)).trans ht⟩, ?_, ?_⟩
  · unfold w6; after_results_simp; rw [hx, h1]; rfl
  · unfold w6; after_results_simp; rw [hy, h2]; rfl

theorem w7_val (V : Valuation τ sig (Elt F)) (h : Keys V ∧ V main_call0_call0_call0_v35 = (s6 F).1 ∧ V main_call0_call0_call0_v39 = (s6 F).2) :
    Keys (after w7 V) ∧ after w7 V main_call0_call0_call0_v40 = (s7 F).1 ∧ after w7 V main_call0_call0_call0_v46 = (s7 F).2 := by
  obtain ⟨⟨h0, h1, h2, ho, ht⟩, hx, hy⟩ := h
  refine ⟨⟨(w7_keep V (by decide)).trans h0, (w7_keep V (by decide)).trans h1, (w7_keep V (by decide)).trans h2, (w7_keep V (by decide)).trans ho, (w7_keep V (by decide)).trans ht⟩, ?_, ?_⟩
  · unfold w7; after_results_simp; rw [hx, hy]; rfl
  · unfold w7; after_results_simp; rw [hx, hy]; rfl

theorem w8_val (V : Valuation τ sig (Elt F)) (h : Keys V ∧ V main_call0_call0_call0_v40 = (s7 F).1 ∧ V main_call0_call0_call0_v46 = (s7 F).2) :
    Keys (after w8 V) ∧ after w8 V main_call0_call0_call0_v47 = (s8 F).1 ∧ after w8 V main_call0_call0_call0_v53 = (s8 F).2 := by
  obtain ⟨⟨h0, h1, h2, ho, ht⟩, hx, hy⟩ := h
  refine ⟨⟨(w8_keep V (by decide)).trans h0, (w8_keep V (by decide)).trans h1, (w8_keep V (by decide)).trans h2, (w8_keep V (by decide)).trans ho, (w8_keep V (by decide)).trans ht⟩, ?_, ?_⟩
  · unfold w8; after_results_simp; rw [hx, hy]; rfl
  · unfold w8; after_results_simp; rw [hx, hy]; rfl

theorem w9_val (V : Valuation τ sig (Elt F)) (h : Keys V ∧ V main_call0_call0_call0_v47 = (s8 F).1 ∧ V main_call0_call0_call0_v53 = (s8 F).2) :
    Keys (after w9 V) ∧ after w9 V main_call0_call0_call0_v54 = (s9 F).1 ∧ after w9 V main_call0_call0_call0_v60 = (s9 F).2 := by
  obtain ⟨⟨h0, h1, h2, ho, ht⟩, hx, hy⟩ := h
  refine ⟨⟨(w9_keep V (by decide)).trans h0, (w9_keep V (by decide)).trans h1, (w9_keep V (by decide)).trans h2, (w9_keep V (by decide)).trans ho, (w9_keep V (by decide)).trans ht⟩, ?_, ?_⟩
  · unfold w9; after_results_simp; rw [hx, hy]; rfl
  · unfold w9; after_results_simp; rw [hx, hy]; rfl

theorem w10_val (V : Valuation τ sig (Elt F)) (h : Keys V ∧ V main_call0_call0_call0_v54 = (s9 F).1 ∧ V main_call0_call0_call0_v60 = (s9 F).2) :
    Keys (after w10 V) ∧ after w10 V main_call0_call0_call0_v61 = (s10 F).1 ∧ after w10 V main_call0_call0_call0_v67 = (s10 F).2 := by
  obtain ⟨⟨h0, h1, h2, ho, ht⟩, hx, hy⟩ := h
  refine ⟨⟨(w10_keep V (by decide)).trans h0, (w10_keep V (by decide)).trans h1, (w10_keep V (by decide)).trans h2, (w10_keep V (by decide)).trans ho, (w10_keep V (by decide)).trans ht⟩, ?_, ?_⟩
  · unfold w10; after_results_simp; rw [hx, hy]; rfl
  · unfold w10; after_results_simp; rw [hx, hy]; rfl

theorem w11_val (V : Valuation τ sig (Elt F)) (h : Keys V ∧ V main_call0_call0_call0_v61 = (s10 F).1 ∧ V main_call0_call0_call0_v67 = (s10 F).2) :
    Keys (after w11 V) ∧ after w11 V main_call0_call0_call0_v69 = (s11 F).1 ∧ after w11 V main_call0_call0_call0_v73 = (s11 F).2 := by
  obtain ⟨⟨h0, h1, h2, ho, ht⟩, hx, hy⟩ := h
  refine ⟨⟨(w11_keep V (by decide)).trans h0, (w11_keep V (by decide)).trans h1, (w11_keep V (by decide)).trans h2, (w11_keep V (by decide)).trans ho, (w11_keep V (by decide)).trans ht⟩, ?_, ?_⟩
  · unfold w11; after_results_simp; rw [hx, h2]; rfl
  · unfold w11; after_results_simp; rw [hy, h0]; rfl

theorem w12_val (V : Valuation τ sig (Elt F)) (h : Keys V ∧ V main_call0_call0_call0_v69 = (s11 F).1 ∧ V main_call0_call0_call0_v73 = (s11 F).2) :
    Keys (after w12 V) ∧ after w12 V main_call0_call0_call0_v74 = (s12 F).1 ∧ after w12 V main_call0_call0_call0_v80 = (s12 F).2 := by
  obtain ⟨⟨h0, h1, h2, ho, ht⟩, hx, hy⟩ := h
  refine ⟨⟨(w12_keep V (by decide)).trans h0, (w12_keep V (by decide)).trans h1, (w12_keep V (by decide)).trans h2, (w12_keep V (by decide)).trans ho, (w12_keep V (by decide)).trans ht⟩, ?_, ?_⟩
  · unfold w12; after_results_simp; rw [hx, hy]; rfl
  · unfold w12; after_results_simp; rw [hx, hy]; rfl

theorem w13_val (V : Valuation τ sig (Elt F)) (h : Keys V ∧ V main_call0_call0_call0_v74 = (s12 F).1 ∧ V main_call0_call0_call0_v80 = (s12 F).2) :
    Keys (after w13 V) ∧ after w13 V main_call0_call0_call0_v81 = (s13 F).1 ∧ after w13 V main_call0_call0_call0_v87 = (s13 F).2 := by
  obtain ⟨⟨h0, h1, h2, ho, ht⟩, hx, hy⟩ := h
  refine ⟨⟨(w13_keep V (by decide)).trans h0, (w13_keep V (by decide)).trans h1, (w13_keep V (by decide)).trans h2, (w13_keep V (by decide)).trans ho, (w13_keep V (by decide)).trans ht⟩, ?_, ?_⟩
  · unfold w13; after_results_simp; rw [hx, hy]; rfl
  · unfold w13; after_results_simp; rw [hx, hy]; rfl

theorem w14_val (V : Valuation τ sig (Elt F)) (h : Keys V ∧ V main_call0_call0_call0_v81 = (s13 F).1 ∧ V main_call0_call0_call0_v87 = (s13 F).2) :
    Keys (after w14 V) ∧ after w14 V main_call0_call0_call0_v88 = (s14 F).1 ∧ after w14 V main_call0_call0_call0_v94 = (s14 F).2 := by
  obtain ⟨⟨h0, h1, h2, ho, ht⟩, hx, hy⟩ := h
  refine ⟨⟨(w14_keep V (by decide)).trans h0, (w14_keep V (by decide)).trans h1, (w14_keep V (by decide)).trans h2, (w14_keep V (by decide)).trans ho, (w14_keep V (by decide)).trans ht⟩, ?_, ?_⟩
  · unfold w14; after_results_simp; rw [hx, hy]; rfl
  · unfold w14; after_results_simp; rw [hx, hy]; rfl

theorem w15_val (V : Valuation τ sig (Elt F)) (h : Keys V ∧ V main_call0_call0_call0_v88 = (s14 F).1 ∧ V main_call0_call0_call0_v94 = (s14 F).2) :
    Keys (after w15 V) ∧ after w15 V main_call0_call0_call0_v95 = (s15 F).1 ∧ after w15 V main_call0_call0_call0_v101 = (s15 F).2 := by
  obtain ⟨⟨h0, h1, h2, ho, ht⟩, hx, hy⟩ := h
  refine ⟨⟨(w15_keep V (by decide)).trans h0, (w15_keep V (by decide)).trans h1, (w15_keep V (by decide)).trans h2, (w15_keep V (by decide)).trans ho, (w15_keep V (by decide)).trans ht⟩, ?_, ?_⟩
  · unfold w15; after_results_simp; rw [hx, hy]; rfl
  · unfold w15; after_results_simp; rw [hx, hy]; rfl

theorem w16_val (V : Valuation τ sig (Elt F)) (h : Keys V ∧ V main_call0_call0_call0_v95 = (s15 F).1 ∧ V main_call0_call0_call0_v101 = (s15 F).2) :
    Keys (after w16 V) ∧ after w16 V main_call0_call0_call0_v103 = (s16 F).1 ∧ after w16 V main_call0_call0_call0_v107 = (s16 F).2 := by
  obtain ⟨⟨h0, h1, h2, ho, ht⟩, hx, hy⟩ := h
  refine ⟨⟨(w16_keep V (by decide)).trans h0, (w16_keep V (by decide)).trans h1, (w16_keep V (by decide)).trans h2, (w16_keep V (by decide)).trans ho, (w16_keep V (by decide)).trans ht⟩, ?_, ?_⟩
  · unfold w16; after_results_simp; rw [hx, h0]; rfl
  · unfold w16; after_results_simp; rw [hy, h1]; rfl

theorem w17_val (V : Valuation τ sig (Elt F)) (h : Keys V ∧ V main_call0_call0_call0_v103 = (s16 F).1 ∧ V main_call0_call0_call0_v107 = (s16 F).2) :
    Keys (after w17 V) ∧ after w17 V main_call0_call0_call0_v108 = (s17 F).1 ∧ after w17 V main_call0_call0_call0_v114 = (s17 F).2 := by
  obtain ⟨⟨h0, h1, h2, ho, ht⟩, hx, hy⟩ := h
  refine ⟨⟨(w17_keep V (by decide)).trans h0, (w17_keep V (by decide)).trans h1, (w17_keep V (by decide)).trans h2, (w17_keep V (by decide)).trans ho, (w17_keep V (by decide)).trans ht⟩, ?_, ?_⟩
  · unfold w17; after_results_simp; rw [hx, hy]; rfl
  · unfold w17; after_results_simp; rw [hx, hy]; rfl

theorem w18_val (V : Valuation τ sig (Elt F)) (h : Keys V ∧ V main_call0_call0_call0_v108 = (s17 F).1 ∧ V main_call0_call0_call0_v114 = (s17 F).2) :
    Keys (after w18 V) ∧ after w18 V main_call0_call0_call0_v115 = (s18 F).1 ∧ after w18 V main_call0_call0_call0_v121 = (s18 F).2 := by
  obtain ⟨⟨h0, h1, h2, ho, ht⟩, hx, hy⟩ := h
  refine ⟨⟨(w18_keep V (by decide)).trans h0, (w18_keep V (by decide)).trans h1, (w18_keep V (by decide)).trans h2, (w18_keep V (by decide)).trans ho, (w18_keep V (by decide)).trans ht⟩, ?_, ?_⟩
  · unfold w18; after_results_simp; rw [hx, hy]; rfl
  · unfold w18; after_results_simp; rw [hx, hy]; rfl

theorem w19_val (V : Valuation τ sig (Elt F)) (h : Keys V ∧ V main_call0_call0_call0_v115 = (s18 F).1 ∧ V main_call0_call0_call0_v121 = (s18 F).2) :
    Keys (after w19 V) ∧ after w19 V main_call0_call0_call0_v122 = (s19 F).1 ∧ after w19 V main_call0_call0_call0_v128 = (s19 F).2 := by
  obtain ⟨⟨h0, h1, h2, ho, ht⟩, hx, hy⟩ := h
  refine ⟨⟨(w19_keep V (by decide)).trans h0, (w19_keep V (by decide)).trans h1, (w19_keep V (by decide)).trans h2, (w19_keep V (by decide)).trans ho, (w19_keep V (by decide)).trans ht⟩, ?_, ?_⟩
  · unfold w19; after_results_simp; rw [hx, hy]; rfl
  · unfold w19; after_results_simp; rw [hx, hy]; rfl

theorem w20_val (V : Valuation τ sig (Elt F)) (h : Keys V ∧ V main_call0_call0_call0_v122 = (s19 F).1 ∧ V main_call0_call0_call0_v128 = (s19 F).2) :
    Keys (after w20 V) ∧ after w20 V main_call0_call0_call0_v129 = (s20 F).1 ∧ after w20 V main_call0_call0_call0_v135 = (s20 F).2 := by
  obtain ⟨⟨h0, h1, h2, ho, ht⟩, hx, hy⟩ := h
  refine ⟨⟨(w20_keep V (by decide)).trans h0, (w20_keep V (by decide)).trans h1, (w20_keep V (by decide)).trans h2, (w20_keep V (by decide)).trans ho, (w20_keep V (by decide)).trans ht⟩, ?_, ?_⟩
  · unfold w20; after_results_simp; rw [hx, hy]; rfl
  · unfold w20; after_results_simp; rw [hx, hy]; rfl

theorem w21_val (V : Valuation τ sig (Elt F)) (h : Keys V ∧ V main_call0_call0_call0_v129 = (s20 F).1 ∧ V main_call0_call0_call0_v135 = (s20 F).2) :
    Keys (after w21 V) ∧ after w21 V main_call0_call0_call0_v137 = (s21 F).1 ∧ after w21 V main_call0_call0_call0_v141 = (s21 F).2 := by
  obtain ⟨⟨h0, h1, h2, ho, ht⟩, hx, hy⟩ := h
  refine ⟨⟨(w21_keep V (by decide)).trans h0, (w21_keep V (by decide)).trans h1, (w21_keep V (by decide)).trans h2, (w21_keep V (by decide)).trans ho, (w21_keep V (by decide)).trans ht⟩, ?_, ?_⟩
  · unfold w21; after_results_simp; rw [hx, h1]; rfl
  · unfold w21; after_results_simp; rw [hy, h2]; rfl

theorem w22_val (V : Valuation τ sig (Elt F)) (h : Keys V ∧ V main_call0_call0_call0_v137 = (s21 F).1 ∧ V main_call0_call0_call0_v141 = (s21 F).2) :
    Keys (after w22 V) ∧ after w22 V main_call0_call0_call0_v142 = (s22 F).1 ∧ after w22 V main_call0_call0_call0_v148 = (s22 F).2 := by
  obtain ⟨⟨h0, h1, h2, ho, ht⟩, hx, hy⟩ := h
  refine ⟨⟨(w22_keep V (by decide)).trans h0, (w22_keep V (by decide)).trans h1, (w22_keep V (by decide)).trans h2, (w22_keep V (by decide)).trans ho, (w22_keep V (by decide)).trans ht⟩, ?_, ?_⟩
  · unfold w22; after_results_simp; rw [hx, hy]; rfl
  · unfold w22; after_results_simp; rw [hx, hy]; rfl

theorem w23_val (V : Valuation τ sig (Elt F)) (h : Keys V ∧ V main_call0_call0_call0_v142 = (s22 F).1 ∧ V main_call0_call0_call0_v148 = (s22 F).2) :
    Keys (after w23 V) ∧ after w23 V main_call0_call0_call0_v149 = (s23 F).1 ∧ after w23 V main_call0_call0_call0_v155 = (s23 F).2 := by
  obtain ⟨⟨h0, h1, h2, ho, ht⟩, hx, hy⟩ := h
  refine ⟨⟨(w23_keep V (by decide)).trans h0, (w23_keep V (by decide)).trans h1, (w23_keep V (by decide)).trans h2, (w23_keep V (by decide)).trans ho, (w23_keep V (by decide)).trans ht⟩, ?_, ?_⟩
  · unfold w23; after_results_simp; rw [hx, hy]; rfl
  · unfold w23; after_results_simp; rw [hx, hy]; rfl

theorem w24_val (V : Valuation τ sig (Elt F)) (h : Keys V ∧ V main_call0_call0_call0_v149 = (s23 F).1 ∧ V main_call0_call0_call0_v155 = (s23 F).2) :
    Keys (after w24 V) ∧ after w24 V main_call0_call0_call0_v156 = (s24 F).1 ∧ after w24 V main_call0_call0_call0_v162 = (s24 F).2 := by
  obtain ⟨⟨h0, h1, h2, ho, ht⟩, hx, hy⟩ := h
  refine ⟨⟨(w24_keep V (by decide)).trans h0, (w24_keep V (by decide)).trans h1, (w24_keep V (by decide)).trans h2, (w24_keep V (by decide)).trans ho, (w24_keep V (by decide)).trans ht⟩, ?_, ?_⟩
  · unfold w24; after_results_simp; rw [hx, hy]; rfl
  · unfold w24; after_results_simp; rw [hx, hy]; rfl

theorem w25_val (V : Valuation τ sig (Elt F)) (h : Keys V ∧ V main_call0_call0_call0_v156 = (s24 F).1 ∧ V main_call0_call0_call0_v162 = (s24 F).2) :
    Keys (after w25 V) ∧ after w25 V main_call0_call0_call0_v163 = (s25 F).1 ∧ after w25 V main_call0_call0_call0_v169 = (s25 F).2 := by
  obtain ⟨⟨h0, h1, h2, ho, ht⟩, hx, hy⟩ := h
  refine ⟨⟨(w25_keep V (by decide)).trans h0, (w25_keep V (by decide)).trans h1, (w25_keep V (by decide)).trans h2, (w25_keep V (by decide)).trans ho, (w25_keep V (by decide)).trans ht⟩, ?_, ?_⟩
  · unfold w25; after_results_simp; rw [hx, hy]; rfl
  · unfold w25; after_results_simp; rw [hx, hy]; rfl

theorem w26_val (V : Valuation τ sig (Elt F)) (h : Keys V ∧ V main_call0_call0_call0_v163 = (s25 F).1 ∧ V main_call0_call0_call0_v169 = (s25 F).2) :
    Keys (after w26 V) ∧ after w26 V main_call0_call0_v18_0 = (s26 F).1 ∧ after w26 V main_call0_call0_v18_1 = (s26 F).2 := by
  obtain ⟨⟨h0, h1, h2, ho, ht⟩, hx, hy⟩ := h
  refine ⟨⟨(w26_keep V (by decide)).trans h0, (w26_keep V (by decide)).trans h1, (w26_keep V (by decide)).trans h2, (w26_keep V (by decide)).trans ho, (w26_keep V (by decide)).trans ht⟩, ?_, ?_⟩
  · unfold w26; after_results_simp; rw [hx, h2]; rfl
  · unfold w26; after_results_simp; rw [hy, h0]; rfl

theorem w0_val (V : Valuation τ sig (Elt F)) :
    after w0 V main_v0 = shapeCast S1000000 (V main_arg0) shapeCasts_S1x1000000_S1000000
      ∧ after w0 V main_call0_call0_v4 = key0 F ∧ after w0 V main_call0_call0_v6 = key1 F ∧ after w0 V main_call0_call0_v2 = one F ∧ after w0 V main_call0_call0_v1 = tiny F
      ∧ after w0 V main_call0_call0_v17 = hi F ∧ after w0 V main_call0_call0_v16 = lo F := by
  refine ⟨?_, ?_, ?_, ?_, ?_, ?_, ?_⟩ <;> (unfold w0; after_results_simp; rfl)

theorem w27_val (V : Valuation τ sig (Elt F)) (h : Keys V ∧ V main_call0_call0_v18_0 = (s26 F).1 ∧ V main_call0_call0_v18_1 = (s26 F).2) :
    after w27 V main_v9 = shapeCast S1000000 (noise F) shapeCasts_S1x1000000_S1000000 := by
  obtain ⟨⟨h0, h1, h2, ho, ht⟩, hx, hy⟩ := h
  unfold w27; after_results_simp; rw [hx, hy, ho, ht]; rfl

theorem after_app (a b : List (HloOp τ sig (Elt F))) (V : Valuation τ sig (Elt F)) : after (a ++ b) V = after b (after a V) := by
  induction a generalizing V with
  | nil => rfl
  | cons op a ih => exact ih (op.result V)

theorem ops_val (V : Valuation τ sig (Elt F)) :
    after ops V main_v0 = shapeCast S1000000 (V main_arg0) shapeCasts_S1x1000000_S1000000
      ∧ after ops V main_v9 = shapeCast S1000000 (noise F) shapeCasts_S1x1000000_S1000000 := by
  unfold ops
  simp only [List.flatten_cons, List.flatten_nil, List.append_nil, after_app]
  obtain ⟨hv, h0, h1, ho, ht, hh, hl⟩ := w0_val V
  have h := w1_val _ h0 h1 ho ht hh hl
  have h := w2_val _ h
  have h := w3_val _ h
  have h := w4_val _ h
  have h := w5_val _ h
  have h := w6_val _ h
  have h := w7_val _ h
  have h := w8_val _ h
  have h := w9_val _ h
  have h := w10_val _ h
  have h := w11_val _ h
  have h := w12_val _ h
  have h := w13_val _ h
  have h := w14_val _ h
  have h := w15_val _ h
  have h := w16_val _ h
  have h := w17_val _ h
  have h := w18_val _ h
  have h := w19_val _ h
  have h := w20_val _ h
  have h := w21_val _ h
  have h := w22_val _ h
  have h := w23_val _ h
  have h := w24_val _ h
  have h := w25_val _ h
  have h := w26_val _ h
  exact ⟨(w27_keep _ (by decide)).trans <| (w26_keep _ (by decide)).trans <| (w25_keep _ (by decide)).trans <| (w24_keep _ (by decide)).trans <| (w23_keep _ (by decide)).trans <| (w22_keep _ (by decide)).trans <| (w21_keep _ (by decide)).trans <| (w20_keep _ (by decide)).trans <| (w19_keep _ (by decide)).trans <| (w18_keep _ (by decide)).trans <| (w17_keep _ (by decide)).trans <| (w16_keep _ (by decide)).trans <| (w15_keep _ (by decide)).trans <| (w14_keep _ (by decide)).trans <| (w13_keep _ (by decide)).trans <| (w12_keep _ (by decide)).trans <| (w11_keep _ (by decide)).trans <| (w10_keep _ (by decide)).trans <| (w9_keep _ (by decide)).trans <| (w8_keep _ (by decide)).trans <| (w7_keep _ (by decide)).trans <| (w6_keep _ (by decide)).trans <| (w5_keep _ (by decide)).trans <| (w4_keep _ (by decide)).trans <| (w3_keep _ (by decide)).trans <| (w2_keep _ (by decide)).trans <| (w1_keep _ (by decide)).trans <| hv, w27_val _ h⟩

end Cert.Proof.Noise.Kernel

end
-- ==== Proof.Values.lean ====
/-
  The kernel's result at extended reals, element by element.
-/
module

public import proofs.«01_k».proof.Proof.Index
public import proofs.«01_k».proof.Proof.Frames
public import proofs.«01_k».proof.Proof.NoiseKernel

@[expose] public section

noncomputable section

namespace Cert.Proof.Value

open Idealize.ShloMosaic Idealize.ShloMosaic.TcCoe Idealize.ShloMosaic.StableHlo Idealize.SL Idealize.SL.Sem
open Finset (range)

/-! ## The kernel's result -/

section
open Cert.KernelIdeal Cert.KernelIdeal.Gen Cert.Proof.Run

variable (m : (ℓ : Loc nD τ sig) → Buf (Elt Ideal) ℓ)

/-- The argument on device `d`. -/
abbrev arg (d : Dev nD) : FVec Ideal S1x1000000 .f32 := m (aLoc d)

theorem vx_eq (d : Dev nD) : vx m d = shapeCast S1000000 (arg m d) shapeCasts_S1x1000000_S1000000 :=
  (Noise.Kernel.ops_val (V₀ m d)).1
theorem vg_eq (d : Dev nD) : vg m d = shapeCast S1000000 (Noise.noise Ideal) shapeCasts_S1x1000000_S1000000 :=
  (Noise.Kernel.ops_val (V₀ m d)).2

theorem row_at (n : ℕ) : Shape.reshapeEquiv shapeCasts_S1x1000000_S1000000 (ixN n) = ixR n := by
  refine (Shape.reshapeEquiv_cons_one (d := ![1000000]) _ (ixN n)).trans ?_
  funext a
  fin_cases a <;> rfl

theorem flat_at (v : FVec Ideal S1x1000000 .f32) (n : ℕ) : shapeCast S1000000 v shapeCasts_S1x1000000_S1000000 (ixN n) = v (ixR n) :=
  congrArg v (row_at n)

theorem X_eq (d : Dev nD) (n : ℕ) : X (vx m d) n = arg m d (ixR n) := by
  unfold X; rw [vx_eq]; exact flat_at _ n
theorem H_eq (d : Dev nD) (n : ℕ) : H (vx m d) (vg m d) n = ((arg m d (ixR n) : EReal) + Noise.noise Ideal (ixR n) : EReal) := by
  unfold H; rw [vx_eq, vg_eq]
  exact congrArg₂ (fun a b : EReal => a + b) (flat_at _ n) (flat_at _ n)

theorem arg₂ (d : Dev nD) : V₂ m d main_arg0 = arg m d :=
  (Function.update_of_ne (by decide) _ _ : V₂ m d main_arg0 = V₁ m d main_arg0).trans (Host.ops_keep (V₀ m d) (by decide))

theorem in_val (d : Dev nD) : V₃ m d main_v11 = shapeCast S64x15625 (arg m d) shapeCasts_S1x1000000_S64x15625 := by
  unfold V₃ Host.opsIn
  after_results_simp
  rw [arg₂]
  rfl
theorem in_rows (d : Dev nD) : V₃ m d main_v10 = outs (F := Ideal) (vx m d) (vg m d) :=
  (StableHlo.after_of_writes_sub (W := [main_v11]) Host.opsIn (V₂ m d) (StableHlo.forall_writes_sub_of_map rfl) (by decide)).trans
    (Function.update_self _ _ _)

theorem out_val (d : Dev nD) : V₅ m d main_v13 = shapeCast S1x1000000 (combined (F := Ideal) (Run.entry m) d) shapeCasts_S64x15625_S1x1000000 := by
  have h : V₄ m d main_v12 = combined (F := Ideal) (Run.entry m) d := Function.update_self _ _ _
  unfold V₅ Host.opsOut
  after_results_simp
  rw [h]
  rfl

theorem combined_val (d : Dev nD) : combined (F := Ideal) (Run.entry m) d = k1_pay1 (F := Ideal) (outs (F := Ideal) (vx m d) (vg m d)) (shapeCast S64x15625 (arg m d) shapeCasts_S1x1000000_S64x15625) := by
  rw [Run.combined_eq]
  exact congrArg₂ (k1_pay1 (F := Ideal)) (in_rows m d) (in_val m d)

theorem back (v : FVec Ideal S1x1000000 .f32) (i : S1x1000000.Idx) :
    shapeCast S64x15625 v shapeCasts_S1x1000000_S64x15625 (Shape.reshapeEquiv shapeCasts_S64x15625_S1x1000000 i) = v i :=
  congrArg v ((Shape.reshapeEquiv_reshapeEquiv _ _ i).trans (Shape.reshapeEquiv_self _ i))

theorem kernel_result (d : Dev nD) (i : S1x1000000.Idx) : V₅ m d main_v13 i
    = (((arg m d i : EReal) + (sampled (vx m d) (vg m d) - ((2 : ℝ) : EReal) * Ideal.log (sumExp (vx m d))))
      + Ideal.exp ((arg m d i : EReal) - Ideal.log (sumExp (vx m d))) : EReal) := by
  rw [out_val, combined_val]
  refine (kernel_val (vx := vx m d) (vg := vg m d) (shapeCast S64x15625 (arg m d) shapeCasts_S1x1000000_S64x15625)
    (Shape.reshapeEquiv shapeCasts_S64x15625_S1x1000000 i)).trans ?_
  rw [back]
end

end Cert.Proof.Value

end
-- ==== Proof.Place.lean ====
/-
  The reference's place of the largest score, and the logit it takes there, at extended reals.
-/
module

public import proofs.«01_k».proof.Proof.Index

@[expose] public section

noncomputable section

namespace Cert.Proof.Value

open Cert.ReferenceIdeal Cert.ReferenceIdeal.Gen
open Idealize.ShloMosaic
open Cert.Proof.RefHost Cert.Proof.Plain
open Finset (range)

theorem toInt_ofNat {k : ℕ} (h : k < 1000000) : (BitVec.ofNat 32 k).toInt = k := by
  rw [BitVec.toInt_eq_toNat_of_lt] <;> rw [BitVec.toNat_ofNat, Nat.mod_eq_of_lt] <;> omega

theorem drop_row (i : S1x1000000.Idx) (j : S1.Idx) : reducesTo_S1x1000000_S1_d1.drop i = j := funext fun b => Fin.ext (by
  have h1 := (reducesTo_S1x1000000_S1_d1.drop i b).isLt; have h2 := (j b).isLt
  have h3 : S1.size b = 1 := by fin_cases b; rfl
  omega)

theorem place_fold (h : FVec Ideal S1x1000000 .f32) (j : S1.Idx) : place (F := Ideal) h j
    = ((Host.argReduceFiber h (iotaInDim S1x1000000 32 1) reducesTo_S1x1000000_S1_d1 j).foldl (reducer_argmax_f32_i32 (F := Ideal))
      ((⊥ : EReal), 0#32)).2 := by
  have hb : (constant S_ .f32 0xFF800000#32 : FVec Ideal S_ .f32) (Shape.Idx.first h_S_) = (⊥ : EReal) := negInf
  have e := (congrFun (Ideal.argReduce_eq_reduce2 (reducer_argmax_f32_i32 (F := Ideal)) h (iotaInDim S1x1000000 32 1)
    (constant S_ .f32 0xFF800000#32) (constantI S_ 32 0#32) reducesTo_S1x1000000_S1_d1 h_S_) j).trans
      (Host.reduce2_eq_foldl_fiber _ _ _ _ _ _ _ j)
  exact (congrArg Prod.snd e).trans (congrArg (fun b : Ideal .f32 => ((Host.argReduceFiber h (iotaInDim S1x1000000 32 1) reducesTo_S1x1000000_S1_d1 j).foldl
    (reducer_argmax_f32_i32 (F := Ideal)) (b, 0#32)).2) hb)

theorem fiber_mem (h : FVec Ideal S1x1000000 .f32) (j : S1.Idx) (p : Ideal .f32 × BitVec 32) :
    p ∈ Host.argReduceFiber h (iotaInDim S1x1000000 32 1) reducesTo_S1x1000000_S1_d1 j
      ↔ ∃ n < 1000000, p = (h (ixR n), BitVec.ofNat 32 n) := by
  unfold Host.argReduceFiber
  rw [List.mem_map]
  constructor
  · rintro ⟨q, -, rfl⟩
    generalize S1x1000000.rowMajor.symm q = i
    refine ⟨(i 1).val, (i 1).isLt, ?_⟩
    rw [ixR_self]; rfl
  · rintro ⟨n, hn, rfl⟩
    refine ⟨S1x1000000.rowMajor (ixR n), List.mem_filter.mpr ⟨List.mem_finRange _, by simp [drop_row _ j]⟩, ?_⟩
    rw [Equiv.symm_apply_apply]
    refine Prod.ext rfl ?_
    show BitVec.ofNat 32 (n % 1000000) = _
    rw [Nat.mod_eq_of_lt hn]

theorem place_val (h : FVec Ideal S1x1000000 .f32) (j : S1.Idx) : ∃ k < 1000000, place (F := Ideal) h j = BitVec.ofNat 32 k
    ∧ ((range 1000000).sup (fun n => (h (ixR n) : EReal)) ≠ ⊥ → h (ixR k) = (range 1000000).sup (fun n => (h (ixR n) : EReal))
      ∧ ∀ n < 1000000, h (ixR n) = (range 1000000).sup (fun n => (h (ixR n) : EReal)) → k ≤ n) := by
  rw [place_fold]
  obtain ⟨hm, hall⟩ := fold_first (Host.argReduceFiber h (iotaInDim S1x1000000 32 1) reducesTo_S1x1000000_S1_d1 j) ((⊥ : EReal), 0#32)
  have hel : ∀ n < 1000000, ((h (ixR n), BitVec.ofNat 32 n) : Ideal .f32 × BitVec 32) ∈ Host.argReduceFiber h (iotaInDim S1x1000000 32 1) reducesTo_S1x1000000_S1_d1 j :=
    fun n hn => (fiber_mem h j _).mpr ⟨n, hn, rfl⟩
  have hmem := fiber_mem h j
  generalize Host.argReduceFiber h (iotaInDim S1x1000000 32 1) reducesTo_S1x1000000_S1_d1 j = l at hm hall hel hmem
  generalize l.foldl (reducer_argmax_f32_i32 (F := Ideal)) ((⊥ : EReal), 0#32) = r at hm hall
  have hsup : (range 1000000).sup (fun n => (h (ixR n) : EReal)) ≤ (r.1 : EReal) :=
    Finset.sup_le fun n hn => (hall _ (List.mem_cons_of_mem _ (hel n (Finset.mem_range.mp hn)))).1
  rcases List.mem_cons.mp hm with rfl | hr
  · refine ⟨0, by norm_num, rfl, fun hne => absurd (le_bot_iff.mp hsup) hne⟩
  · obtain ⟨k, hk, rfl⟩ := (hmem r).mp hr
    refine ⟨k, hk, rfl, fun _ => ?_⟩
    have he : (h (ixR k) : EReal) = (range 1000000).sup (fun n => (h (ixR n) : EReal)) :=
      le_antisymm (Finset.le_sup (f := fun n => (h (ixR n) : EReal)) (Finset.mem_range.mpr hk)) hsup
    refine ⟨he, fun n hn e => ?_⟩
    have := (hall _ (List.mem_cons_of_mem _ (hel n hn))).2 (e.trans he.symm)
    simp only [toInt_ofNat hk, toInt_ofNat hn] at this
    exact_mod_cast this

/-! ## The element taken -/

theorem spread_word (k : BitVec 32) : (broadcastInDim S1x1 ![0] bcast_S1_S1x1_0 (fun _ : S1.Idx => k)) = fun _ => k := rfl

theorem wrapped_val {k : ℕ} (hk : k < 1000000) : wrapped (F := Ideal) (fun _ => BitVec.ofNat 32 k) = fun _ => BitVec.ofNat 32 k := by
  funext j
  have h : wrapped (F := Ideal) (fun _ => BitVec.ofNat 32 k) j
    = Scalar.select (BitVec.ofBool ((BitVec.ofNat 32 k).slt 0#32)) (BitVec.ofNat 32 k + 1000000#32) (BitVec.ofNat 32 k) := rfl
  rw [h]
  have hs : (BitVec.ofNat 32 k).slt 0#32 = false := by
    rw [BitVec.slt, toInt_ofNat hk]; simp
  rw [hs]; rfl

theorem valid_val {k : ℕ} (hk : k < 1000000) (j : S1x1.Idx) : valid (F := Ideal) (fun _ => BitVec.ofNat 32 k) j = 1#1 := by
  have hc : (andi (cmpi .sge (fun _ => BitVec.ofNat 32 k : IVec S1x1 32) (broadcastInDim S1x1 ![] bcast_S_S1x1 (constantI S_ 32 0#32)))
      (cmpi .sle (fun _ => BitVec.ofNat 32 k : IVec S1x1 32) (broadcastInDim S1x1 ![1] bcast_S1_S1x1_1 (constantI S1 32 999999#32)))) = fun _ => 1#1 := by
    funext i
    have h : (andi (cmpi .sge (fun _ => BitVec.ofNat 32 k : IVec S1x1 32) (broadcastInDim S1x1 ![] bcast_S_S1x1 (constantI S_ 32 0#32)))
      (cmpi .sle (fun _ => BitVec.ofNat 32 k : IVec S1x1 32) (broadcastInDim S1x1 ![1] bcast_S1_S1x1_1 (constantI S1 32 999999#32)))) i
      = (BitVec.ofBool ((0#32).sle (BitVec.ofNat 32 k)) &&& BitVec.ofBool ((BitVec.ofNat 32 k).sle 999999#32)) := rfl
    rw [h]
    have h1 : (0#32).sle (BitVec.ofNat 32 k) = true := by
      rw [BitVec.sle, toInt_ofNat hk]; simp
    have h2 : (BitVec.ofNat 32 k).sle 999999#32 = true := by
      rw [BitVec.sle, toInt_ofNat hk]
      have : (999999#32 : BitVec 32).toInt = 999999 := rfl
      rw [this]; simp; omega
    rw [h1, h2]; rfl
  have hr : ∀ i, Host.reduce IntOp.andi (andi (cmpi .sge (fun _ => BitVec.ofNat 32 k : IVec S1x1 32) (broadcastInDim S1x1 ![] bcast_S_S1x1 (constantI S_ 32 0#32)))
      (cmpi .sle (fun _ => BitVec.ofNat 32 k : IVec S1x1 32) (broadcastInDim S1x1 ![1] bcast_S1_S1x1_1 (constantI S1 32 999999#32))))
      (constantI S_ 1 1#1) reducesTo_S1x1_S1_d1 h_S_ i = 1#1 := by
    intro i
    rw [hc, Host.reduce_eq_foldl]
    exact List.foldlRecOn _ _ (motive := fun b => b = 1#1) rfl fun b hb i _ => by rw [hb]; rfl
  exact hr _

theorem gather_val (y : FVec Ideal S1x1000000 .f32) {k : ℕ} (hk : k < 1000000) (j : S1x1.Idx) :
    Host.gather gather_S1x1000000_S1x1_S1x1_0_1_n_n_1_1_11 y (fun _ => BitVec.ofNat 32 k) j = y (ixR k) := by
  unfold Host.gather
  refine congrArg y (funext fun a => Fin.ext ?_)
  have hlt := (gather_S1x1000000_S1x1_S1x1_0_1_n_n_1_1_11.operandIdx j (fun _ => BitVec.ofNat 32 k) a).isLt
  fin_cases a
  · have h1 : (ixR k 0).val < 1 := (ixR k 0).isLt
    have h2 : (gather_S1x1000000_S1x1_S1x1_0_1_n_n_1_1_11.operandIdx j (fun _ => BitVec.ofNat 32 k) 0).val < 1 := hlt
    show (gather_S1x1000000_S1x1_S1x1_0_1_n_n_1_1_11.operandIdx j (fun _ => BitVec.ofNat 32 k) 0).val = (ixR k 0).val
    omega
  · show gather_S1x1000000_S1x1_S1x1_0_1_n_n_1_1_11.start j (fun _ => BitVec.ofNat 32 k) 1
      + gather_S1x1000000_S1x1_S1x1_0_1_n_n_1_1_11.batchCoord j 1 + gather_S1x1000000_S1x1_S1x1_0_1_n_n_1_1_11.offCoord j 1 = k % 1000000
    rw [GatherDims.batchCoord_eq_zero _ _ _ (by decide), GatherDims.offCoord_eq_zero _ _ _ (by decide)]
    unfold GatherDims.start
    rw [dif_pos (by decide), toInt_ofNat hk]
    have h3 : S1x1000000.size 1 - gather_S1x1000000_S1x1_S1x1_0_1_n_n_1_1_11.sliceSizes 1 = 999999 := rfl
    rw [h3, Int.toNat_natCast, Nat.mod_eq_of_lt hk]
    omega

theorem picked_val (y : FVec Ideal S1x1000000 .f32) {k : ℕ} (hk : k < 1000000) {p : S1.Idx → BitVec 32} (hp : ∀ j, p j = BitVec.ofNat 32 k) (j : S1x1.Idx) :
    picked (F := Ideal) y p j = y (ixR k) := by
  obtain rfl : p = fun _ => BitVec.ofNat 32 k := funext hp
  unfold picked
  rw [spread_word, wrapped_val hk]
  unfold taken
  refine Eq.trans (b := Scalar.select (valid (F := Ideal) (fun _ => BitVec.ofNat 32 k) j)
    (Host.gather gather_S1x1000000_S1x1_S1x1_0_1_n_n_1_1_11 y (fun _ => BitVec.ofNat 32 k) j) (Ideal.ofBits .f32 0x7FC00000#32)) rfl ?_
  rw [valid_val hk, gather_val y hk]
  rfl

end Cert.Proof.Value

end
-- ==== Proof.Logits.lean ====
/-
  The reference at extended reals: each element less the logarithm of the sum of exponentials, and the sum of the three.
-/
module

public import proofs.«01_k».proof.Proof.Place

@[expose] public section

noncomputable section

namespace Cert.Proof.Value

open Cert.ReferenceIdeal Cert.ReferenceIdeal.Gen
open Idealize.ShloMosaic
open Cert.Proof.RefHost Cert.Proof.Plain
open Finset (range)

theorem spread_at (r : FVec Ideal S1 .f32) (j : S1x1.Idx) : ∃ i, broadcastInDim S1x1 ![0] bcast_S1_S1x1_0 r j = r i := ⟨_, rfl⟩

theorem log_plus (r : FVec Ideal S1 .f32) (a : FVec Ideal S1x1 .f32) (j : S1x1.Idx) :
    ∃ i, addf (Host.log (broadcastInDim S1x1 ![0] bcast_S1_S1x1_0 r)) a j = (Ideal.log (r i) + (a j : EReal) : EReal) := ⟨_, rfl⟩

theorem peak_val (x : FVec Ideal S1x1000000 .f32) (j : S1x1.Idx) :
    (peak (F := Ideal) x j : EReal) = (range 1000000).sup fun n => x (ixR n) := by
  have hr : ∀ i, (Host.reduce FloatOps.maximumf x (constant S_ .f32 0xFF800000#32 : FVec Ideal S_ .f32) reducesTo_S1x1000000_S1_d1 h_S_ : FVec Ideal S1 .f32) i
      = (range 1000000).sup fun n => x (ixR n) := by
    intro i
    refine (Host.reduce_eq_fold (α := Ideal .f32) FloatOps.maximumf x _ reducesTo_S1x1000000_S1_d1 h_S_ i).trans ?_
    rw [Finset.filter_true_of_mem fun q _ => drop_row q i]
    have hb : (constant S_ .f32 0xFF800000#32 : FVec Ideal S_ .f32) (Shape.Idx.first h_S_) = (⊥ : EReal) := negInf
    rw [hb]
    exact sup_row x
  obtain ⟨i, hi⟩ := spread_at (Host.reduce FloatOps.maximumf x (constant S_ .f32 0xFF800000#32 : FVec Ideal S_ .f32) reducesTo_S1x1000000_S1_d1 h_S_ : FVec Ideal S1 .f32) j
  exact hi.trans (hr i)

theorem finite_val (a : FVec Ideal S1x1 .f32) (j : S1x1.Idx) : (finite (F := Ideal) a j : EReal) = guard (a j) := by
  have h : (finite (F := Ideal) a j : EReal) = Scalar.select (BitVec.ofBool (decide (max (a j : EReal) (-(a j : EReal)) < Ideal.ofBits .f32 0x7F800000#32))) (a j : EReal)
      (Ideal.ofBits .f32 0x00000000#32) := rfl
  rw [h, sel, zero, posInf]
  rfl

theorem exp_less (x : FVec Ideal S1x1000000 .f32) (a : FVec Ideal S1x1 .f32) (i : S1x1000000.Idx) :
    ∃ j, (Host.exp (subf x (broadcastInDim S1x1000000 ![0, 1] bcast_S1x1_S1x1000000_0_1 a)) : FVec Ideal S1x1000000 .f32) i = Ideal.exp ((x i : EReal) - a j) :=
  ⟨_, rfl⟩

theorem log_more (x : FVec Ideal S1x1000000 .f32) (a : FVec Ideal S1x1 .f32) (j : S1x1.Idx) :
    ∃ i, (total (F := Ideal) x a j : EReal) = Ideal.log ((Host.reduceAdd (Host.exp (subf x (broadcastInDim S1x1000000 ![0, 1] bcast_S1x1_S1x1000000_0_1 a)))
      (constant S_ .f32 0x00000000#32) reducesTo_S1x1000000_S1_d1 h_S_ : FVec Ideal S1 .f32) i) + (a j : EReal) := log_plus _ a j

theorem total_val (x : FVec Ideal S1x1000000 .f32) (a : FVec Ideal S1x1 .f32) {c : EReal} (hc : ∀ j, (a j : EReal) = c) (j : S1x1.Idx) :
    (total (F := Ideal) x a j : EReal) = Ideal.log (0 + ∑ n ∈ range 1000000, Ideal.exp ((x (ixR n) : EReal) - c)) + c := by
  obtain ⟨i, hi⟩ := log_more x a j
  have hr : (Host.reduceAdd (Host.exp (subf x (broadcastInDim S1x1000000 ![0, 1] bcast_S1x1_S1x1000000_0_1 a)))
      (constant S_ .f32 0x00000000#32) reducesTo_S1x1000000_S1_d1 h_S_ : FVec Ideal S1 .f32) i = (0 + ∑ n ∈ range 1000000, Ideal.exp ((x (ixR n) : EReal) - c) : EReal) := by
    refine (Ideal.hostReduceAdd_total reducesTo_S1x1000000_S1_d1 (fun b => by fin_cases b; rfl) _ _ i).trans ?_
    have hz : (constant S_ .f32 0x00000000#32 : FVec Ideal S_ .f32) (Shape.Idx.first h_S_) = (0 : EReal) := zero
    rw [hz, sum_row]
    refine congrArg (fun s : EReal => 0 + s) (Finset.sum_congr rfl fun n _ => ?_)
    obtain ⟨q, hq⟩ := exp_less x a (ixR n)
    rw [hc q] at hq
    exact hq
  rw [hi, hr, hc]

theorem norm_val (x : FVec Ideal S1x1000000 .f32) (i : S1x1000000.Idx) :
    (norm (F := Ideal) x i : EReal) = (x i : EReal) - lse (fun n => x (ixR n)) := by
  have h : ∀ j, (total (F := Ideal) x (finite (F := Ideal) (peak (F := Ideal) x)) j : EReal) = lse (fun n => x (ixR n)) :=
    fun j => total_val x _ (fun j => (finite_val _ j).trans (congrArg guard (peak_val x j))) j
  have h' : ∃ j, (norm (F := Ideal) x i : EReal) = (x i : EReal) - total (F := Ideal) x (finite (F := Ideal) (peak (F := Ideal) x)) j := ⟨_, rfl⟩
  obtain ⟨j, hj⟩ := h'
  rw [hj, h]

theorem sum3_val (t : FVec Ideal S1x1 .f32) (p y : FVec Ideal S1x1000000 .f32) {c : EReal} (hc : ∀ j, (t j : EReal) = c) (i : S1x1000000.Idx) :
    (sum3 (F := Ideal) t p y i : EReal) = (c + p i) + y i := by
  have h : ∃ j, (sum3 (F := Ideal) t p y i : EReal) = ((t j : EReal) + p i) + y i := ⟨_, rfl⟩
  obtain ⟨j, hj⟩ := h
  rw [hj, hc]

end Cert.Proof.Value

end
-- ==== Proof.RefValues.lean ====
/-
  The reference's result at extended reals, element by element.
-/
module

public import proofs.«01_k».proof.Proof.Logits
public import proofs.«01_k».proof.Proof.NoiseRef

@[expose] public section

noncomputable section

namespace Cert.Proof.Value

open Idealize.ShloMosaic Idealize.ShloMosaic.TcCoe Idealize.ShloMosaic.StableHlo
open Finset (range)
open Cert.ReferenceIdeal Cert.ReferenceIdeal.Gen Cert.Proof.RefHost Cert.Proof.Plain

/-- The scores: the elements and the noise added. -/
def score (g x : FVec Ideal S1x1000000 .f32) : FVec Ideal S1x1000000 .f32 := addf g x

theorem scores (x g : FVec Ideal S1x1000000 .f32) (i : S1x1000000.Idx) : score g x i = ((x i : EReal) + g i : EReal) :=
  add_comm (G := EReal) _ _

/-- The probabilities, of the normalized logits. -/
def probs (y : FVec Ideal S1x1000000 .f32) : FVec Ideal S1x1000000 .f32 := Host.exp y

/-- The result of the last operations, with the first of the largest scores at `k`. -/
theorem last_result (x g : FVec Ideal S1x1000000 .f32) :
    ∃ k < 1000000, ((range 1000000).sup (fun n => ((x (ixR n) : EReal) + g (ixR n) : EReal)) ≠ ⊥ →
        ((x (ixR k) : EReal) + g (ixR k) : EReal) = (range 1000000).sup (fun n => ((x (ixR n) : EReal) + g (ixR n) : EReal))
        ∧ ∀ n < 1000000, ((x (ixR n) : EReal) + g (ixR n) : EReal) = (range 1000000).sup (fun n => ((x (ixR n) : EReal) + g (ixR n) : EReal)) → k ≤ n)
      ∧ ∀ i, sum3 (F := Ideal) (picked (norm (F := Ideal) x) (place (F := Ideal) (score g x))) (probs (norm (F := Ideal) x)) (norm (F := Ideal) x) i
        = ((((x (ixR k) : EReal) - lse (fun n => x (ixR n))) + Ideal.exp ((x i : EReal) - lse (fun n => x (ixR n))))
        + ((x i : EReal) - lse (fun n => x (ixR n))) : EReal) := by
  have j₀ : S1.Idx := fun a => ⟨0, by fin_cases a; exact Nat.one_pos⟩
  have hone : ∀ j : S1.Idx, j = j₀ := fun j => (drop_row (ixR 0) j).symm.trans (drop_row (ixR 0) j₀)
  obtain ⟨k, hk, hp, hb⟩ := place_val (score g x) j₀
  simp only [scores] at hb
  refine ⟨k, hk, hb, fun i => ?_⟩
  have ht : ∀ j, (picked (F := Ideal) (norm (F := Ideal) x) (place (F := Ideal) (score g x)) j : EReal) = (x (ixR k) : EReal) - lse (fun n => x (ixR n)) :=
    fun j => (picked_val _ hk (fun j => by rw [hone j]; exact hp) j).trans (norm_val x (ixR k))
  refine (sum3_val _ _ _ ht i).trans ?_
  have he : probs (norm (F := Ideal) x) i = Ideal.exp (norm (F := Ideal) x i) := rfl
  rw [he, norm_val]

theorem ref_result (V : Valuation τ sig (Elt Ideal)) : after RefHost.ops V main_v32
    = sum3 (F := Ideal) (picked (norm (F := Ideal) (V main_arg0)) (place (F := Ideal) (score (Noise.noise Ideal) (V main_arg0))))
      (probs (norm (F := Ideal) (V main_arg0))) (norm (F := Ideal) (V main_arg0)) := by
  obtain ⟨W, hW, h23, h0, h14, h15⟩ := Noise.Reference.ops_val V
  rw [hW, w29_val, h23, h0, h14, h15, (w0_val V).1, (w0_val V).2]
  rfl

end Cert.Proof.Value

end
-- ==== Proof.Equal.lean ====
/-
  The kernel and the reference end with equal results at extended reals.
-/
module

public import proofs.«01_k».proof.Defs
public import proofs.«01_k».proof.Proof.Values
public import proofs.«01_k».proof.Proof.RefValues
public import proofs.«01_k».proof.Proof.Frames

@[expose] public section

noncomputable section

namespace Cert.Proof.Value

open Idealize.ShloMosaic Idealize.ShloMosaic.TcCoe Idealize.ShloMosaic.StableHlo Idealize.SL Idealize.SL.Sem
open Finset (range)
open Cert.ReferenceIdeal.Gen Cert.Proof.Plain

theorem equal_at (m : (ℓ : Loc Cert.KernelIdeal.nD Cert.KernelIdeal.τ Cert.KernelIdeal.sig) → Buf (Elt Ideal) ℓ) (d : Dev Cert.KernelIdeal.nD)
    (g : FVec Ideal Cert.ReferenceIdeal.S1x1000000 .f32) (hg : ∀ i, ∃ r : ℝ, (g i : EReal) = ((r : ℝ) : EReal))
    (hH : ∀ n, H (Run.vx m d) (Run.vg m d) n = ((arg m d (ixR n) : EReal) + g (ixR n) : EReal)) (i : Cert.ReferenceIdeal.S1x1000000.Idx) :
    Run.V₅ m d Cert.KernelIdeal.main_v13 i
      = sum3 (F := Ideal) (picked (norm (F := Ideal) (arg m d)) (place (F := Ideal) (score g (arg m d)))) (probs (norm (F := Ideal) (arg m d))) (norm (F := Ideal) (arg m d)) i := by
  obtain ⟨k, hk, hb, hv⟩ := last_result (arg m d) g
  have hbest : best (Run.vx m d) (Run.vg m d) = (range 1000000).sup (fun n => ((arg m d (ixR n) : EReal) + g (ixR n) : EReal)) :=
    congrArg (fun f => (range 1000000).sup f) (funext hH)
  have hsum : sumExp (Run.vx m d) = ∑ n ∈ range 1000000, Ideal.exp (arg m d (ixR n)) :=
    Finset.sum_congr rfl fun n _ => congrArg Ideal.exp (X_eq m d n)
  have h := agree (x := fun n => arg m d (ixR n)) (g := fun n => g (ixR n)) (fun n => hg _)
    (p := (arg m d (ixR k) : EReal) - lse (fun n => arg m d (ixR n))) (s := sampled (Run.vx m d) (Run.vg m d))
    (fun hne => by
      obtain ⟨k', hk', he', hfirst', hs'⟩ := sampled_eq (vx := Run.vx m d) (vg := Run.vg m d) (by rw [hbest]; exact hne)
      obtain ⟨he, hfirst⟩ := hb hne
      have e1 : k = k' := le_antisymm (hfirst k' hk' (by rw [← hH, he', hbest])) (hfirst' k hk (by rw [hH, he, hbest]))
      exact ⟨k, hk, he, by rw [hs', X_eq, e1], rfl⟩)
    (i := (i 1).val) (i 1).isLt
  simp only [ixR_self] at h
  rw [kernel_result, hsum, hv]
  exact h

theorem equal (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal)) (hV : V Cert.ReferenceIdeal.main_arg0 = arg m d) :
    after RefHost.ops V Cert.ReferenceIdeal.main_v32 = Run.V₅ m d Cert.KernelIdeal.main_v13 := by
  rw [ref_result, hV]
  exact funext fun i => (equal_at m d (Noise.noise Ideal) Noise.noise_real (H_eq m d) i).symm

/-- `Cert.algebraic_KernelIdeal_ReferenceIdeal`. -/
theorem algebraic : Cert.algebraic_KernelIdeal_ReferenceIdeal := by
  intro m ρ m' ρ' _ hm
  refine ⟨fun c => Run.V₅ m c Cert.KernelIdeal.main_v13, ?_, ?_⟩
  · exact (θ_run Cert.KernelIdeal.defs _ _).mono (fun _ h c => ⟨(h.1 c).2, (h.1 c).1⟩) (Run.run_main (F := Ideal) m ρ)
  · refine (θ_run (Cert.ReferenceIdeal.defs (F := Ideal)) _ _).mono (fun _ h c => ⟨?_, ?_⟩) (Run.run_ref m' ρ')
    · exact (h c Cert.ReferenceIdeal.main_v32).trans (equal m c (launchContents m' c) (hm c))
    · exact (h c Cert.ReferenceIdeal.main_arg0).trans (Noise.Reference.ops_keep (launchContents m' c))

end Cert.Proof.Value

end
-- ==== Proof.lean ====
/-
  The certificate's claim, put together: the three frames, the idealization, and the equality with the reference.
-/
module

public import proofs.«01_k».proof.Defs
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts,
    Run.frame_kernel, Run.frame_kernelIdeal, Run.frame_referenceIdeal, trivial, Value.algebraic⟩

end Cert.Proof

end
